-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![8192, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S512x1024 : Shape := ⟨2, ![512, 1024]⟩
abbrev S_ : Shape := ⟨0, ![]⟩
abbrev S2048 : Shape := ⟨1, ![2048]⟩
abbrev S1x32 : Shape := ⟨2, ![1, 32]⟩
abbrev S2048x32 : Shape := ⟨2, ![2048, 32]⟩
abbrev S32 : Shape := ⟨1, ![32]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x1 : S_.BroadcastsInDim S2048x1 (![] : Fin 0 → Fin S2048x1.rank)
  reducesTo_S2048x1_S_d0_1 : S2048x1.ReducesTo [0, 1] S_
  shapeCasts_S2048x1_S2048 : S2048x1.ShapeCasts S2048
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  natLt_1_32 : 1 < 32
  reducesTo_S2048x32_S32_d0 : S2048x32.ReducesTo [0] S32
  bcast_S_S32 : S_.BroadcastsInDim S32 (![] : Fin 0 → Fin S32.rank)
  reducesTo_S32_S_d0 : S32.ReducesTo [0] S_

variable [Facts]

def fn_one_hot {F : FTy → Type} [FloatOps F] (arg0 : IVec S2048 32) : IVec S2048x32 32 :=
  let v0 : IVec S2048x1 32 := broadcastInDim S2048x1 ![0] bcast_S2048_S2048x1_0 arg0
  let v1 : IVec S1x32 32 := iotaInDim S1x32 32 1
  let v2 : IVec S2048x32 32 := broadcastInDim S2048x32 ![0, 1] bcast_S2048x1_S2048x32_0_1 v0
  let v3 : IVec S2048x32 32 := broadcastInDim S2048x32 ![0, 1] bcast_S1x32_S2048x32_0_1 v1
  let v4 : IVec S2048x32 1 := cmpi .eq v2 v3
  let v5 : IVec S2048x32 32 := (extui 32 · natLt_1_32) v4
  v5

def fn_part1 {F : FTy → Type} [FloatOps F] (main_arg2 : IVec S2048x1 32) (main_v12 : IVec S_ 1) (main_v15 : IVec S_ 1) : IVec S_ 1 :=
  let main_v16 : IVec S_ 1 := andi main_v12 main_v15
  let main_v17 : IVec S2048 32 := shapeCast S2048 main_arg2 shapeCasts_S2048x1_S2048
  let main_v18 : IVec S2048x32 32 := fn_one_hot (F := F) main_v17
  let main_c_6 : IVec S_ 32 := constantI S_ 32 0#32
  let main_v19 : IVec S32 32 := (fun x v => Host.reduce IntOp.addi x v reducesTo_S2048x32_S32_d0 h_S_) main_v18 main_c_6
  let main_c_7 : IVec S_ 32 := constantI S_ 32 160#32
  let main_v20 : IVec S32 32 := broadcastInDim S32 ![] bcast_S_S32 main_c_7
  let main_v21 : IVec S32 1 := cmpi .sle main_v19 main_v20
  let main_c_8 : IVec S_ 1 := constantI S_ 1 1#1
  let main_v22 : IVec S_ 1 := (fun x v => Host.reduce IntOp.andi x v reducesTo_S32_S_d0 h_S_) main_v21 main_c_8
  let main_v23 : IVec S_ 1 := andi main_v16 main_v22
  main_v23

def fn {F : FTy → Type} [FloatOps F] (main_arg0 : FVec F S2048x512 .f32) (main_arg1 : FVec F S512x32 .f32) (main_arg2 : IVec S2048x1 32) (main_arg3 : FVec F S8x512x1024 .f32) (main_arg4 : FVec F S512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S2048x1 32 := broadcastInDim S2048x1 ![] bcast_S_S2048x1 main_c_2
  let main_v10 : IVec S2048x1 1 := cmpi .sge main_arg2 main_v9
  let main_c_3 : IVec S_ 1 := constantI S_ 1 1#1
  let main_v11 : IVec S_ 1 := (fun x v => Host.reduce IntOp.andi x v reducesTo_S2048x1_S_d0_1 h_S_) main_v10 main_c_3
  let main_v12 : IVec S_ 1 := andi main_v8 main_v11
  let main_c_4 : IVec S_ 32 := constantI S_ 32 32#32
  let main_v13 : IVec S2048x1 32 := broadcastInDim S2048x1 ![] bcast_S_S2048x1 main_c_4
  let main_v14 : IVec S2048x1 1 := cmpi .slt main_arg2 main_v13
  let main_c_5 : IVec S_ 1 := constantI S_ 1 1#1
  let main_v15 : IVec S_ 1 := (fun x v => Host.reduce IntOp.andi x v reducesTo_S2048x1_S_d0_1 h_S_) main_v14 main_c_5
  fn_part1 (F := F) main_arg2 main_v12 main_v15
-- ==== Pre_fits_ReferenceIdeal.lean ====
abbrev S8192x512 : Shape := ⟨2, ![8192, 512]⟩
abbrev S512x32 : Shape := ⟨2, ![512, 32]⟩
abbrev S8192x1 : Shape := ⟨2, ![8192, 1]⟩
abbrev S32x512x1024 : Shape := ⟨3, ![32, 512, 1024]⟩
abbrev S512x1024 : Shape := ⟨2, ![512, 1024]⟩
abbrev S_ : Shape := ⟨0, ![]⟩
abbrev S8192 : Shape := ⟨1, ![8192]⟩
abbrev S1x32 : Shape := ⟨2, ![1, 32]⟩
abbrev S8192x32 : Shape := ⟨2, ![8192, 32]⟩
abbrev S32 : Shape := ⟨1, ![32]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S8192x1 : S_.BroadcastsInDim S8192x1 (![] : Fin 0 → Fin S8192x1.rank)
  reducesTo_S8192x1_S_d0_1 : S8192x1.ReducesTo [0, 1] S_
  shapeCasts_S8192x1_S8192 : S8192x1.ShapeCasts S8192
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  bcast_S1x32_S8192x32_0_1 : S1x32.BroadcastsInDim S8192x32 (![0, 1] : Fin 2 → Fin S8192x32.rank)
  natLt_1_32 : 1 < 32
  reducesTo_S8192x32_S32_d0 : S8192x32.ReducesTo [0] S32
  bcast_S_S32 : S_.BroadcastsInDim S32 (![] : Fin 0 → Fin S32.rank)
  reducesTo_S32_S_d0 : S32.ReducesTo [0] S_

variable [Facts]

def fn_one_hot {F : FTy → Type} [FloatOps F] (arg0 : IVec S8192 32) : IVec S8192x32 32 :=
  let v0 : IVec S8192x1 32 := broadcastInDim S8192x1 ![0] bcast_S8192_S8192x1_0 arg0
  let v1 : IVec S1x32 32 := iotaInDim S1x32 32 1
  let v2 : IVec S8192x32 32 := broadcastInDim S8192x32 ![0, 1] bcast_S8192x1_S8192x32_0_1 v0
  let v3 : IVec S8192x32 32 := broadcastInDim S8192x32 ![0, 1] bcast_S1x32_S8192x32_0_1 v1
  let v4 : IVec S8192x32 1 := cmpi .eq v2 v3
  let v5 : IVec S8192x32 32 := (extui 32 · natLt_1_32) v4
  v5

def fn_part1 {F : FTy → Type} [FloatOps F] (main_arg2 : IVec S8192x1 32) (main_v12 : IVec S_ 1) (main_v15 : IVec S_ 1) : IVec S_ 1 :=
  let main_v16 : IVec S_ 1 := andi main_v12 main_v15
  let main_v17 : IVec S8192 32 := shapeCast S8192 main_arg2 shapeCasts_S8192x1_S8192
  let main_v18 : IVec S8192x32 32 := fn_one_hot (F := F) main_v17
  let main_c_6 : IVec S_ 32 := constantI S_ 32 0#32
  let main_v19 : IVec S32 32 := (fun x v => Host.reduce IntOp.addi x v reducesTo_S8192x32_S32_d0 h_S_) main_v18 main_c_6
  let main_c_7 : IVec S_ 32 := constantI S_ 32 160#32
  let main_v20 : IVec S32 32 := broadcastInDim S32 ![] bcast_S_S32 main_c_7
  let main_v21 : IVec S32 1 := cmpi .sle main_v19 main_v20
  let main_c_8 : IVec S_ 1 := constantI S_ 1 1#1
  let main_v22 : IVec S_ 1 := (fun x v => Host.reduce IntOp.andi x v reducesTo_S32_S_d0 h_S_) main_v21 main_c_8
  let main_v23 : IVec S_ 1 := andi main_v16 main_v22
  main_v23

def fn {F : FTy → Type} [FloatOps F] (main_arg0 : FVec F S8192x512 .f32) (main_arg1 : FVec F S512x32 .f32) (main_arg2 : IVec S8192x1 32) (main_arg3 : FVec F S32x512x1024 .f32) (main_arg4 : FVec F S512x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S8192x1 32 := broadcastInDim S8192x1 ![] bcast_S_S8192x1 main_c_2
  let main_v10 : IVec S8192x1 1 := cmpi .sge main_arg2 main_v9
  let main_c_3 : IVec S_ 1 := constantI S_ 1 1#1
  let main_v11 : IVec S_ 1 := (fun x v => Host.reduce IntOp.andi x v reducesTo_S8192x1_S_d0_1 h_S_) main_v10 main_c_3
  let main_v12 : IVec S_ 1 := andi main_v8 main_v11
  let main_c_4 : IVec S_ 32 := constantI S_ 32 32#32
  let main_v13 : IVec S8192x1 32 := broadcastInDim S8192x1 ![] bcast_S_S8192x1 main_c_4
  let main_v14 : IVec S8192x1 1 := cmpi .slt main_arg2 main_v13
  let main_c_5 : IVec S_ 1 := constantI S_ 1 1#1
  let main_v15 : IVec S_ 1 := (fun x v => Host.reduce IntOp.andi x v reducesTo_S8192x1_S_d0_1 h_S_) main_v14 main_c_5
  fn_part1 (F := F) main_arg2 main_v12 main_v15
-- ==== Kernel.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S512x1024 : Shape := ⟨2, ![512, 1024]⟩
abbrev S2048x32 : Shape := ⟨2, ![2048, 32]⟩
abbrev S_ : Shape := ⟨0, ![]⟩
abbrev S2048 : Shape := ⟨1, ![2048]⟩
abbrev S32 : Shape := ⟨1, ![32]⟩
abbrev S1x32 : Shape := ⟨2, ![1, 32]⟩
abbrev S1x2048 : Shape := ⟨2, ![1, 2048]⟩
abbrev S4x8x160x512 : Shape := ⟨4, ![4, 8, 160, 512]⟩
abbrev S2x8x160x512 : Shape := ⟨4, ![2, 8, 160, 512]⟩
abbrev S3 : Shape := ⟨1, ![3]⟩
abbrev S1280x2048 : Shape := ⟨2, ![1280, 2048]⟩
abbrev S1280x512 : Shape := ⟨2, ![1280, 512]⟩
abbrev S8x160x512 : Shape := ⟨3, ![8, 160, 512]⟩
abbrev S1x8x160x512 : Shape := ⟨4, ![1, 8, 160, 512]⟩
abbrev S1 : Shape := ⟨1, ![1]⟩
abbrev S2048x1024 : Shape := ⟨2, ![2048, 1024]⟩
abbrev S2x160x1024 : Shape := ⟨3, ![2, 160, 1024]⟩
abbrev S4x8x160x1024 : Shape := ⟨4, ![4, 8, 160, 1024]⟩
abbrev S3x8 : Shape := ⟨2, ![3, 8]⟩
abbrev S1x1x160x512 : Shape := ⟨4, ![1, 1, 160, 512]⟩
abbrev S160x512 : Shape := ⟨2, ![160, 512]⟩
abbrev S1x512x1024 : Shape := ⟨3, ![1, 512, 1024]⟩
abbrev S160x1024 : Shape := ⟨2, ![160, 1024]⟩
abbrev S1x160x1024 : Shape := ⟨3, ![1, 160, 1024]⟩
abbrev S1x1 : Shape := ⟨2, ![1, 1]⟩
abbrev S1x1x160x1024 : Shape := ⟨4, ![1, 1, 160, 1024]⟩
abbrev S2048x1280 : Shape := ⟨2, ![2048, 1280]⟩
abbrev S1x8x160x1024 : Shape := ⟨4, ![1, 8, 160, 1024]⟩
abbrev S8x160x1024 : Shape := ⟨3, ![8, 160, 1024]⟩
abbrev S1280x1024 : Shape := ⟨2, ![1280, 1024]⟩

abbrev nBuf : Space → Nat
  | .hbm => 65
  | .vmem => 11
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S8x512x1024, .f32⟩
  | .hbm, ⟨4, _⟩ => ⟨S512x1024, .f32⟩
  | .hbm, ⟨5, _⟩ => ⟨S2048x32, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S2048x32, .f32⟩
  | .hbm, ⟨13, _⟩ => ⟨S2048x32, .f32⟩
  | .hbm, ⟨14, _⟩ => ⟨S2048x32, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x32, .f32⟩
  | .hbm, ⟨19, _⟩ => ⟨S2048x32, .f32⟩
  | .hbm, ⟨20, _⟩ => ⟨S32, .i32⟩
  | .hbm, ⟨21, _⟩ => ⟨S1x32, .i32⟩
  | .hbm, ⟨22, _⟩ => ⟨S2048x32, .i32⟩
  | .hbm, ⟨23, _⟩ => ⟨S2048x32, .i32⟩
  | .hbm, ⟨24, _⟩ => ⟨S2048x32, .i1⟩
  | .hbm, ⟨25, _⟩ => ⟨S_, .f32⟩
  | .hbm, ⟨26, _⟩ => ⟨S_, .f32⟩
  | .hbm, ⟨27, _⟩ => ⟨S2048x32, .f32⟩
  | .hbm, ⟨28, _⟩ => ⟨S2048x32, .f32⟩
  | .hbm, ⟨29, _⟩ => ⟨S_, .f32⟩
  | .hbm, ⟨30, _⟩ => ⟨S2048, .f32⟩
  | .hbm, ⟨31, _⟩ => ⟨S2048x32, .i32⟩
  | .hbm, ⟨32, _⟩ => ⟨S_, .i32⟩
  | .hbm, ⟨33, _⟩ => ⟨S_, .i32⟩
  | .hbm, ⟨34, _⟩ => ⟨S2048x32, .i32⟩
  | .hbm, ⟨35, _⟩ => ⟨S_, .i32⟩
  | .hbm, ⟨36, _⟩ => ⟨S2048x32, .i32⟩
  | .hbm, ⟨37, _⟩ => ⟨S2048x32, .i32⟩
  | .hbm, ⟨38, _⟩ => ⟨S_, .i32⟩
  | .hbm, ⟨39, _⟩ => ⟨S_, .i32⟩
  | .hbm, ⟨40, _⟩ => ⟨S2048x32, .i32⟩
  | .hbm, ⟨41, _⟩ => ⟨S2048x32, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S_, .i32⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048x1, .f32⟩
  | .hbm, ⟨57, _⟩ => ⟨S2048x512, .f32⟩
  | .hbm, ⟨58, _⟩ => ⟨S2048x512, .f32⟩
  | .hbm, ⟨59, _⟩ => ⟨S2048x512, .bf16⟩
  | .hbm, ⟨60, _⟩ => ⟨S1x2048, .i32⟩
  | .hbm, ⟨61, _⟩ => ⟨S4x8x160x512, .bf16⟩
  | .hbm, ⟨62, _⟩ => ⟨S8x512x1024, .bf16⟩
  | .hbm, ⟨63, _⟩ => ⟨S2048x1, .i32⟩
  | .hbm, ⟨64, _⟩ => ⟨S2048x1024, .f32⟩
  | .local _ .vmem, ⟨0, _⟩ => ⟨S1x2048, .i32⟩
  | .local _ .vmem, ⟨1, _⟩ => ⟨S2048x512, .bf16⟩
  | .local _ .vmem, ⟨2, _⟩ => ⟨S2x8x160x512, .bf16⟩
  | .local _ .vmem, ⟨3, _⟩ => ⟨S4x8x160x512, .bf16⟩
  | .local _ .vmem, ⟨4, _⟩ => ⟨S8x512x1024, .bf16⟩
  | .local _ .vmem, ⟨5, _⟩ => ⟨S2048x1, .i32⟩
  | .local _ .vmem, ⟨6, _⟩ => ⟨S2048x512, .f32⟩
  | .local _ .vmem, ⟨7, _⟩ => ⟨S512x1024, .f32⟩
  | .local _ .vmem, ⟨8, _⟩ => ⟨S2048x1024, .f32⟩
  | .local _ .vmem, ⟨9, _⟩ => ⟨S2x160x1024, .bf16⟩
  | .local _ .vmem, ⟨10, _⟩ => ⟨S4x8x160x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 2 63 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_call1_call0_c : Ref sig .tc := ⟨.hbm, 32, rfl⟩
abbrev main_call1_call0_v0 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_call2_v0 : Ref sig .tc := ⟨.hbm, 39, rfl⟩
abbrev main_call2_v1 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_call3_v0 : Ref sig .tc := ⟨.hbm, 53, rfl⟩
abbrev main_call3_v1 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_scratch0 : Ref sig .tc := ⟨.vmem, 9, rfl⟩
abbrev cc1_scratch1 : Ref sig .tc := ⟨.vmem, 10, rfl⟩
abbrev cc0_sem0_0 : DmaSem sig := 0
abbrev cc0_sem1_0 : DmaSem sig := 1
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_48 : BitVec 32 := 0#32
  let c0_i32_49 : BitVec 32 := 0#32
  let c0_i32_50 : BitVec 32 := 0#32
  ![v2.toNat, 0, 0, 0]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c0_i32_29 : BitVec 32 := 0#32
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c1_i32_46 : BitVec 32 := 1#32
  let v74 : BitVec 32 := Scalar.muli v54 c1_i32_46
  let v75 : BitVec 32 := Scalar.addi c0_i32_47 v74
  v75.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v84 : BitVec 32 := Scalar.addi v2 c1_i32_54
  let c1_i32_55 : BitVec 32 := 1#32
  let v85 : BitVec 32 := Scalar.addi v84 c1_i32_55
  let c4_i32_56 : BitVec 32 := 4#32
  let c0_i32_57 : BitVec 32 := 0#32
  let v86 : BitVec 1 := Scalar.cmpi .eq c4_i32_56 c0_i32_57
  let c1_i32_58 : BitVec 32 := 1#32
  let v87 : BitVec 32 := Scalar.select v86 c1_i32_58 c4_i32_56
  let v88 : BitVec 32 := Scalar.remsi v85 v87
  let c0_i32_60 : BitVec 32 := 0#32
  let v90 : BitVec 1 := Scalar.cmpi .slt v88 c0_i32_60
  let c0_i32_61 : BitVec 32 := 0#32
  let v91 : BitVec 1 := Scalar.cmpi .slt v87 c0_i32_61
  let v92 : BitVec 1 := Scalar.xori v90 v91
  let c0_i32_59 : BitVec 32 := 0#32
  let v89 : BitVec 1 := Scalar.cmpi .ne v88 c0_i32_59
  let v93 : BitVec 1 := Scalar.andi v92 v89
  let v94 : BitVec 32 := Scalar.addi v88 v87
  let v95 : BitVec 32 := Scalar.select v93 v94 v88
  let c1_i32_74 : BitVec 32 := 1#32
  let v115 : BitVec 32 := Scalar.muli v95 c1_i32_74
  let v116 : BitVec 32 := Scalar.addi c0_i32_75 v115
  v116.toNat
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_82 : BitVec 32 := 1#32
  let v125 : BitVec 32 := Scalar.addi v2 c1_i32_82
  let c2_i32_83 : BitVec 32 := 2#32
  let v126 : BitVec 32 := Scalar.addi v125 c2_i32_83
  let c4_i32_84 : BitVec 32 := 4#32
  let c0_i32_85 : BitVec 32 := 0#32
  let v127 : BitVec 1 := Scalar.cmpi .eq c4_i32_84 c0_i32_85
  let c1_i32_86 : BitVec 32 := 1#32
  let v128 : BitVec 32 := Scalar.select v127 c1_i32_86 c4_i32_84
  let v129 : BitVec 32 := Scalar.remsi v126 v128
  let c0_i32_88 : BitVec 32 := 0#32
  let v131 : BitVec 1 := Scalar.cmpi .slt v129 c0_i32_88
  let c0_i32_89 : BitVec 32 := 0#32
  let v132 : BitVec 1 := Scalar.cmpi .slt v128 c0_i32_89
  let v133 : BitVec 1 := Scalar.xori v131 v132
  let c0_i32_87 : BitVec 32 := 0#32
  let v130 : BitVec 1 := Scalar.cmpi .ne v129 c0_i32_87
  let v134 : BitVec 1 := Scalar.andi v133 v130
  let v135 : BitVec 32 := Scalar.addi v129 v128
  let v136 : BitVec 32 := Scalar.select v134 v135 v129
  let c1_i32_113 : BitVec 32 := 1#32
  let v162 : BitVec 32 := Scalar.muli v136 c1_i32_113
  let v163 : BitVec 32 := Scalar.addi c0_i32_114 v162
  v163.toNat
abbrev stage0_0 : Fin 1 → Memref sig .tc .vmem S1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

def k1_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k1_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k1_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k1_off1 (d0 : Dev nD) (c0_i32_29 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let v55 : Index := Scalar.indexCast v54
  let c0 : Index := 0#32
  let c0_36 : Index := 0#32
  let c0_37 : Index := 0#32
  ![v55.toNat, 0, 0, 0]
def k1_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_45 : BitVec 32 := 0#32
  let c0_i32_52 : BitVec 32 := 0#32
  let c0_i32_53 : BitVec 32 := 0#32
  ![v2.toNat, 0, 0, 0]
def k1_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c0_i32_29 : BitVec 32 := 0#32
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c1_i32_50 : BitVec 32 := 1#32
  let v65 : BitVec 32 := Scalar.muli v54 c1_i32_50
  let v66 : BitVec 32 := Scalar.addi c0_i32_51 v65
  v66.toNat
def k1_off3 (d0 : Dev nD) (c0_i32_29 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let v75 : Index := Scalar.indexCast v54
  let c1 : Index := 1#32
  let c0_56 : Index := 0#32
  let c0_57 : Index := 0#32
  ![v75.toNat, 1, 0, 0]
def k1_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_66 : BitVec 32 := 1#32
  let c0_i32_73 : BitVec 32 := 0#32
  let c0_i32_74 : BitVec 32 := 0#32
  ![v2.toNat, 1, 0, 0]
def k1_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c0_i32_29 : BitVec 32 := 0#32
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c1_i32_71 : BitVec 32 := 1#32
  let v85 : BitVec 32 := Scalar.muli v54 c1_i32_71
  let v86 : BitVec 32 := Scalar.addi c0_i32_72 v85
  v86.toNat
def k1_off5 (d0 : Dev nD) (c0_i32_29 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let v101 : Index := Scalar.indexCast v54
  let c2 : Index := 2#32
  let c0_88 : Index := 0#32
  let c0_89 : Index := 0#32
  ![v101.toNat, 2, 0, 0]
def k1_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_98 : BitVec 32 := 2#32
  let c0_i32_105 : BitVec 32 := 0#32
  let c0_i32_106 : BitVec 32 := 0#32
  ![v2.toNat, 2, 0, 0]
def k1_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c0_i32_29 : BitVec 32 := 0#32
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c1_i32_103 : BitVec 32 := 1#32
  let v111 : BitVec 32 := Scalar.muli v54 c1_i32_103
  let v112 : BitVec 32 := Scalar.addi c0_i32_104 v111
  v112.toNat
def k1_off7 (d0 : Dev nD) (c0_i32_29 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let v127 : Index := Scalar.indexCast v54
  let c3 : Index := 3#32
  let c0_120 : Index := 0#32
  let c0_121 : Index := 0#32
  ![v127.toNat, 3, 0, 0]
def k1_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_130 : BitVec 32 := 3#32
  let c0_i32_137 : BitVec 32 := 0#32
  let c0_i32_138 : BitVec 32 := 0#32
  ![v2.toNat, 3, 0, 0]
def k1_dev7 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c0_i32_29 : BitVec 32 := 0#32
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c1_i32_135 : BitVec 32 := 1#32
  let v137 : BitVec 32 := Scalar.muli v54 c1_i32_135
  let v138 : BitVec 32 := Scalar.addi c0_i32_136 v137
  v138.toNat
def k1_off9 (d0 : Dev nD) (c0_i32_29 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let v153 : Index := Scalar.indexCast v54
  let c4 : Index := 4#32
  let c0_152 : Index := 0#32
  let c0_153 : Index := 0#32
  ![v153.toNat, 4, 0, 0]
def k1_off10 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_162 : BitVec 32 := 4#32
  let c0_i32_169 : BitVec 32 := 0#32
  let c0_i32_170 : BitVec 32 := 0#32
  ![v2.toNat, 4, 0, 0]
def k1_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c0_i32_29 : BitVec 32 := 0#32
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c1_i32_167 : BitVec 32 := 1#32
  let v163 : BitVec 32 := Scalar.muli v54 c1_i32_167
  let v164 : BitVec 32 := Scalar.addi c0_i32_168 v163
  v164.toNat
def k1_off11 (d0 : Dev nD) (c0_i32_29 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let v179 : Index := Scalar.indexCast v54
  let c5 : Index := 5#32
  let c0_184 : Index := 0#32
  let c0_185 : Index := 0#32
  ![v179.toNat, 5, 0, 0]
def k1_off12 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c5_i32 : BitVec 32 := 5#32
  let c0_i32_200 : BitVec 32 := 0#32
  let c0_i32_201 : BitVec 32 := 0#32
  ![v2.toNat, 5, 0, 0]
def k1_dev9 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c0_i32_29 : BitVec 32 := 0#32
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c1_i32_198 : BitVec 32 := 1#32
  let v189 : BitVec 32 := Scalar.muli v54 c1_i32_198
  let v190 : BitVec 32 := Scalar.addi c0_i32_199 v189
  v190.toNat
def k1_off13 (d0 : Dev nD) (c0_i32_29 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let v205 : Index := Scalar.indexCast v54
  let c6 : Index := 6#32
  let c0_215 : Index := 0#32
  let c0_216 : Index := 0#32
  ![v205.toNat, 6, 0, 0]
def k1_off14 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c6_i32 : BitVec 32 := 6#32
  let c0_i32_231 : BitVec 32 := 0#32
  let c0_i32_232 : BitVec 32 := 0#32
  ![v2.toNat, 6, 0, 0]
def k1_dev10 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c0_i32_29 : BitVec 32 := 0#32
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c1_i32_229 : BitVec 32 := 1#32
  let v215 : BitVec 32 := Scalar.muli v54 c1_i32_229
  let v216 : BitVec 32 := Scalar.addi c0_i32_230 v215
  v216.toNat
def k1_off15 (d0 : Dev nD) (c0_i32_29 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let v231 : Index := Scalar.indexCast v54
  let c7 : Index := 7#32
  let c0_246 : Index := 0#32
  let c0_247 : Index := 0#32
  ![v231.toNat, 7, 0, 0]
def k1_off16 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c7_i32 : BitVec 32 := 7#32
  let c0_i32_262 : BitVec 32 := 0#32
  let c0_i32_263 : BitVec 32 := 0#32
  ![v2.toNat, 7, 0, 0]
def k1_dev11 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c0_i32_29 : BitVec 32 := 0#32
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c1_i32_260 : BitVec 32 := 1#32
  let v241 : BitVec 32 := Scalar.muli v54 c1_i32_260
  let v242 : BitVec 32 := Scalar.addi c0_i32_261 v241
  v242.toNat
def k1_dev12 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_266 : BitVec 32 := 1#32
  let v251 : BitVec 32 := Scalar.addi v2 c1_i32_266
  let c1_i32_267 : BitVec 32 := 1#32
  let v252 : BitVec 32 := Scalar.addi v251 c1_i32_267
  let c4_i32_268 : BitVec 32 := 4#32
  let c0_i32_269 : BitVec 32 := 0#32
  let v253 : BitVec 1 := Scalar.cmpi .eq c4_i32_268 c0_i32_269
  let c1_i32_270 : BitVec 32 := 1#32
  let v254 : BitVec 32 := Scalar.select v253 c1_i32_270 c4_i32_268
  let v255 : BitVec 32 := Scalar.remsi v252 v254
  let c0_i32_272 : BitVec 32 := 0#32
  let v257 : BitVec 1 := Scalar.cmpi .slt v255 c0_i32_272
  let c0_i32_273 : BitVec 32 := 0#32
  let v258 : BitVec 1 := Scalar.cmpi .slt v254 c0_i32_273
  let v259 : BitVec 1 := Scalar.xori v257 v258
  let c0_i32_271 : BitVec 32 := 0#32
  let v256 : BitVec 1 := Scalar.cmpi .ne v255 c0_i32_271
  let v260 : BitVec 1 := Scalar.andi v259 v256
  let v261 : BitVec 32 := Scalar.addi v255 v254
  let v262 : BitVec 32 := Scalar.select v260 v261 v255
  let c1_i32_301 : BitVec 32 := 1#32
  let v279 : BitVec 32 := Scalar.muli v262 c1_i32_301
  let v280 : BitVec 32 := Scalar.addi c0_i32_302 v279
  v280.toNat
def k1_dev13 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_266 : BitVec 32 := 1#32
  let v251 : BitVec 32 := Scalar.addi v2 c1_i32_266
  let c1_i32_267 : BitVec 32 := 1#32
  let v252 : BitVec 32 := Scalar.addi v251 c1_i32_267
  let c4_i32_268 : BitVec 32 := 4#32
  let c0_i32_269 : BitVec 32 := 0#32
  let v253 : BitVec 1 := Scalar.cmpi .eq c4_i32_268 c0_i32_269
  let c1_i32_270 : BitVec 32 := 1#32
  let v254 : BitVec 32 := Scalar.select v253 c1_i32_270 c4_i32_268
  let v255 : BitVec 32 := Scalar.remsi v252 v254
  let c0_i32_272 : BitVec 32 := 0#32
  let v257 : BitVec 1 := Scalar.cmpi .slt v255 c0_i32_272
  let c0_i32_273 : BitVec 32 := 0#32
  let v258 : BitVec 1 := Scalar.cmpi .slt v254 c0_i32_273
  let v259 : BitVec 1 := Scalar.xori v257 v258
  let c0_i32_271 : BitVec 32 := 0#32
  let v256 : BitVec 1 := Scalar.cmpi .ne v255 c0_i32_271
  let v260 : BitVec 1 := Scalar.andi v259 v256
  let v261 : BitVec 32 := Scalar.addi v255 v254
  let v262 : BitVec 32 := Scalar.select v260 v261 v255
  let c1_i32_334 : BitVec 32 := 1#32
  let v305 : BitVec 32 := Scalar.muli v262 c1_i32_334
  let v306 : BitVec 32 := Scalar.addi c0_i32_335 v305
  v306.toNat
def k1_dev14 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_266 : BitVec 32 := 1#32
  let v251 : BitVec 32 := Scalar.addi v2 c1_i32_266
  let c1_i32_267 : BitVec 32 := 1#32
  let v252 : BitVec 32 := Scalar.addi v251 c1_i32_267
  let c4_i32_268 : BitVec 32 := 4#32
  let c0_i32_269 : BitVec 32 := 0#32
  let v253 : BitVec 1 := Scalar.cmpi .eq c4_i32_268 c0_i32_269
  let c1_i32_270 : BitVec 32 := 1#32
  let v254 : BitVec 32 := Scalar.select v253 c1_i32_270 c4_i32_268
  let v255 : BitVec 32 := Scalar.remsi v252 v254
  let c0_i32_272 : BitVec 32 := 0#32
  let v257 : BitVec 1 := Scalar.cmpi .slt v255 c0_i32_272
  let c0_i32_273 : BitVec 32 := 0#32
  let v258 : BitVec 1 := Scalar.cmpi .slt v254 c0_i32_273
  let v259 : BitVec 1 := Scalar.xori v257 v258
  let c0_i32_271 : BitVec 32 := 0#32
  let v256 : BitVec 1 := Scalar.cmpi .ne v255 c0_i32_271
  let v260 : BitVec 1 := Scalar.andi v259 v256
  let v261 : BitVec 32 := Scalar.addi v255 v254
  let v262 : BitVec 32 := Scalar.select v260 v261 v255
  let c1_i32_367 : BitVec 32 := 1#32
  let v331 : BitVec 32 := Scalar.muli v262 c1_i32_367
  let v332 : BitVec 32 := Scalar.addi c0_i32_368 v331
  v332.toNat
def k1_dev15 (d0 : Dev nD) : Nat :=
  let c0_i32_401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_266 : BitVec 32 := 1#32
  let v251 : BitVec 32 := Scalar.addi v2 c1_i32_266
  let c1_i32_267 : BitVec 32 := 1#32
  let v252 : BitVec 32 := Scalar.addi v251 c1_i32_267
  let c4_i32_268 : BitVec 32 := 4#32
  let c0_i32_269 : BitVec 32 := 0#32
  let v253 : BitVec 1 := Scalar.cmpi .eq c4_i32_268 c0_i32_269
  let c1_i32_270 : BitVec 32 := 1#32
  let v254 : BitVec 32 := Scalar.select v253 c1_i32_270 c4_i32_268
  let v255 : BitVec 32 := Scalar.remsi v252 v254
  let c0_i32_272 : BitVec 32 := 0#32
  let v257 : BitVec 1 := Scalar.cmpi .slt v255 c0_i32_272
  let c0_i32_273 : BitVec 32 := 0#32
  let v258 : BitVec 1 := Scalar.cmpi .slt v254 c0_i32_273
  let v259 : BitVec 1 := Scalar.xori v257 v258
  let c0_i32_271 : BitVec 32 := 0#32
  let v256 : BitVec 1 := Scalar.cmpi .ne v255 c0_i32_271
  let v260 : BitVec 1 := Scalar.andi v259 v256
  let v261 : BitVec 32 := Scalar.addi v255 v254
  let v262 : BitVec 32 := Scalar.select v260 v261 v255
  let c1_i32_400 : BitVec 32 := 1#32
  let v357 : BitVec 32 := Scalar.muli v262 c1_i32_400
  let v358 : BitVec 32 := Scalar.addi c0_i32_401 v357
  v358.toNat
def k1_dev16 (d0 : Dev nD) : Nat :=
  let c0_i32_434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_266 : BitVec 32 := 1#32
  let v251 : BitVec 32 := Scalar.addi v2 c1_i32_266
  let c1_i32_267 : BitVec 32 := 1#32
  let v252 : BitVec 32 := Scalar.addi v251 c1_i32_267
  let c4_i32_268 : BitVec 32 := 4#32
  let c0_i32_269 : BitVec 32 := 0#32
  let v253 : BitVec 1 := Scalar.cmpi .eq c4_i32_268 c0_i32_269
  let c1_i32_270 : BitVec 32 := 1#32
  let v254 : BitVec 32 := Scalar.select v253 c1_i32_270 c4_i32_268
  let v255 : BitVec 32 := Scalar.remsi v252 v254
  let c0_i32_272 : BitVec 32 := 0#32
  let v257 : BitVec 1 := Scalar.cmpi .slt v255 c0_i32_272
  let c0_i32_273 : BitVec 32 := 0#32
  let v258 : BitVec 1 := Scalar.cmpi .slt v254 c0_i32_273
  let v259 : BitVec 1 := Scalar.xori v257 v258
  let c0_i32_271 : BitVec 32 := 0#32
  let v256 : BitVec 1 := Scalar.cmpi .ne v255 c0_i32_271
  let v260 : BitVec 1 := Scalar.andi v259 v256
  let v261 : BitVec 32 := Scalar.addi v255 v254
  let v262 : BitVec 32 := Scalar.select v260 v261 v255
  let c1_i32_433 : BitVec 32 := 1#32
  let v383 : BitVec 32 := Scalar.muli v262 c1_i32_433
  let v384 : BitVec 32 := Scalar.addi c0_i32_434 v383
  v384.toNat
def k1_dev17 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_266 : BitVec 32 := 1#32
  let v251 : BitVec 32 := Scalar.addi v2 c1_i32_266
  let c1_i32_267 : BitVec 32 := 1#32
  let v252 : BitVec 32 := Scalar.addi v251 c1_i32_267
  let c4_i32_268 : BitVec 32 := 4#32
  let c0_i32_269 : BitVec 32 := 0#32
  let v253 : BitVec 1 := Scalar.cmpi .eq c4_i32_268 c0_i32_269
  let c1_i32_270 : BitVec 32 := 1#32
  let v254 : BitVec 32 := Scalar.select v253 c1_i32_270 c4_i32_268
  let v255 : BitVec 32 := Scalar.remsi v252 v254
  let c0_i32_272 : BitVec 32 := 0#32
  let v257 : BitVec 1 := Scalar.cmpi .slt v255 c0_i32_272
  let c0_i32_273 : BitVec 32 := 0#32
  let v258 : BitVec 1 := Scalar.cmpi .slt v254 c0_i32_273
  let v259 : BitVec 1 := Scalar.xori v257 v258
  let c0_i32_271 : BitVec 32 := 0#32
  let v256 : BitVec 1 := Scalar.cmpi .ne v255 c0_i32_271
  let v260 : BitVec 1 := Scalar.andi v259 v256
  let v261 : BitVec 32 := Scalar.addi v255 v254
  let v262 : BitVec 32 := Scalar.select v260 v261 v255
  let c1_i32_466 : BitVec 32 := 1#32
  let v409 : BitVec 32 := Scalar.muli v262 c1_i32_466
  let v410 : BitVec 32 := Scalar.addi c0_i32_467 v409
  v410.toNat
def k1_dev18 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_266 : BitVec 32 := 1#32
  let v251 : BitVec 32 := Scalar.addi v2 c1_i32_266
  let c1_i32_267 : BitVec 32 := 1#32
  let v252 : BitVec 32 := Scalar.addi v251 c1_i32_267
  let c4_i32_268 : BitVec 32 := 4#32
  let c0_i32_269 : BitVec 32 := 0#32
  let v253 : BitVec 1 := Scalar.cmpi .eq c4_i32_268 c0_i32_269
  let c1_i32_270 : BitVec 32 := 1#32
  let v254 : BitVec 32 := Scalar.select v253 c1_i32_270 c4_i32_268
  let v255 : BitVec 32 := Scalar.remsi v252 v254
  let c0_i32_272 : BitVec 32 := 0#32
  let v257 : BitVec 1 := Scalar.cmpi .slt v255 c0_i32_272
  let c0_i32_273 : BitVec 32 := 0#32
  let v258 : BitVec 1 := Scalar.cmpi .slt v254 c0_i32_273
  let v259 : BitVec 1 := Scalar.xori v257 v258
  let c0_i32_271 : BitVec 32 := 0#32
  let v256 : BitVec 1 := Scalar.cmpi .ne v255 c0_i32_271
  let v260 : BitVec 1 := Scalar.andi v259 v256
  let v261 : BitVec 32 := Scalar.addi v255 v254
  let v262 : BitVec 32 := Scalar.select v260 v261 v255
  let c1_i32_499 : BitVec 32 := 1#32
  let v435 : BitVec 32 := Scalar.muli v262 c1_i32_499
  let v436 : BitVec 32 := Scalar.addi c0_i32_500 v435
  v436.toNat
def k1_dev19 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_266 : BitVec 32 := 1#32
  let v251 : BitVec 32 := Scalar.addi v2 c1_i32_266
  let c1_i32_267 : BitVec 32 := 1#32
  let v252 : BitVec 32 := Scalar.addi v251 c1_i32_267
  let c4_i32_268 : BitVec 32 := 4#32
  let c0_i32_269 : BitVec 32 := 0#32
  let v253 : BitVec 1 := Scalar.cmpi .eq c4_i32_268 c0_i32_269
  let c1_i32_270 : BitVec 32 := 1#32
  let v254 : BitVec 32 := Scalar.select v253 c1_i32_270 c4_i32_268
  let v255 : BitVec 32 := Scalar.remsi v252 v254
  let c0_i32_272 : BitVec 32 := 0#32
  let v257 : BitVec 1 := Scalar.cmpi .slt v255 c0_i32_272
  let c0_i32_273 : BitVec 32 := 0#32
  let v258 : BitVec 1 := Scalar.cmpi .slt v254 c0_i32_273
  let v259 : BitVec 1 := Scalar.xori v257 v258
  let c0_i32_271 : BitVec 32 := 0#32
  let v256 : BitVec 1 := Scalar.cmpi .ne v255 c0_i32_271
  let v260 : BitVec 1 := Scalar.andi v259 v256
  let v261 : BitVec 32 := Scalar.addi v255 v254
  let v262 : BitVec 32 := Scalar.select v260 v261 v255
  let c1_i32_532 : BitVec 32 := 1#32
  let v461 : BitVec 32 := Scalar.muli v262 c1_i32_532
  let v462 : BitVec 32 := Scalar.addi c0_i32_533 v461
  v462.toNat
def k1_dev20 (d0 : Dev nD) : Nat :=
  let c0_i32_574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_538 : BitVec 32 := 1#32
  let v471 : BitVec 32 := Scalar.addi v2 c1_i32_538
  let c2_i32_539 : BitVec 32 := 2#32
  let v472 : BitVec 32 := Scalar.addi v471 c2_i32_539
  let c4_i32_540 : BitVec 32 := 4#32
  let c0_i32_541 : BitVec 32 := 0#32
  let v473 : BitVec 1 := Scalar.cmpi .eq c4_i32_540 c0_i32_541
  let c1_i32_542 : BitVec 32 := 1#32
  let v474 : BitVec 32 := Scalar.select v473 c1_i32_542 c4_i32_540
  let v475 : BitVec 32 := Scalar.remsi v472 v474
  let c0_i32_544 : BitVec 32 := 0#32
  let v477 : BitVec 1 := Scalar.cmpi .slt v475 c0_i32_544
  let c0_i32_545 : BitVec 32 := 0#32
  let v478 : BitVec 1 := Scalar.cmpi .slt v474 c0_i32_545
  let v479 : BitVec 1 := Scalar.xori v477 v478
  let c0_i32_543 : BitVec 32 := 0#32
  let v476 : BitVec 1 := Scalar.cmpi .ne v475 c0_i32_543
  let v480 : BitVec 1 := Scalar.andi v479 v476
  let v481 : BitVec 32 := Scalar.addi v475 v474
  let v482 : BitVec 32 := Scalar.select v480 v481 v475
  let c1_i32_573 : BitVec 32 := 1#32
  let v499 : BitVec 32 := Scalar.muli v482 c1_i32_573
  let v500 : BitVec 32 := Scalar.addi c0_i32_574 v499
  v500.toNat
def k1_dev21 (d0 : Dev nD) : Nat :=
  let c0_i32_607 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_538 : BitVec 32 := 1#32
  let v471 : BitVec 32 := Scalar.addi v2 c1_i32_538
  let c2_i32_539 : BitVec 32 := 2#32
  let v472 : BitVec 32 := Scalar.addi v471 c2_i32_539
  let c4_i32_540 : BitVec 32 := 4#32
  let c0_i32_541 : BitVec 32 := 0#32
  let v473 : BitVec 1 := Scalar.cmpi .eq c4_i32_540 c0_i32_541
  let c1_i32_542 : BitVec 32 := 1#32
  let v474 : BitVec 32 := Scalar.select v473 c1_i32_542 c4_i32_540
  let v475 : BitVec 32 := Scalar.remsi v472 v474
  let c0_i32_544 : BitVec 32 := 0#32
  let v477 : BitVec 1 := Scalar.cmpi .slt v475 c0_i32_544
  let c0_i32_545 : BitVec 32 := 0#32
  let v478 : BitVec 1 := Scalar.cmpi .slt v474 c0_i32_545
  let v479 : BitVec 1 := Scalar.xori v477 v478
  let c0_i32_543 : BitVec 32 := 0#32
  let v476 : BitVec 1 := Scalar.cmpi .ne v475 c0_i32_543
  let v480 : BitVec 1 := Scalar.andi v479 v476
  let v481 : BitVec 32 := Scalar.addi v475 v474
  let v482 : BitVec 32 := Scalar.select v480 v481 v475
  let c1_i32_606 : BitVec 32 := 1#32
  let v525 : BitVec 32 := Scalar.muli v482 c1_i32_606
  let v526 : BitVec 32 := Scalar.addi c0_i32_607 v525
  v526.toNat
def k1_dev22 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_538 : BitVec 32 := 1#32
  let v471 : BitVec 32 := Scalar.addi v2 c1_i32_538
  let c2_i32_539 : BitVec 32 := 2#32
  let v472 : BitVec 32 := Scalar.addi v471 c2_i32_539
  let c4_i32_540 : BitVec 32 := 4#32
  let c0_i32_541 : BitVec 32 := 0#32
  let v473 : BitVec 1 := Scalar.cmpi .eq c4_i32_540 c0_i32_541
  let c1_i32_542 : BitVec 32 := 1#32
  let v474 : BitVec 32 := Scalar.select v473 c1_i32_542 c4_i32_540
  let v475 : BitVec 32 := Scalar.remsi v472 v474
  let c0_i32_544 : BitVec 32 := 0#32
  let v477 : BitVec 1 := Scalar.cmpi .slt v475 c0_i32_544
  let c0_i32_545 : BitVec 32 := 0#32
  let v478 : BitVec 1 := Scalar.cmpi .slt v474 c0_i32_545
  let v479 : BitVec 1 := Scalar.xori v477 v478
  let c0_i32_543 : BitVec 32 := 0#32
  let v476 : BitVec 1 := Scalar.cmpi .ne v475 c0_i32_543
  let v480 : BitVec 1 := Scalar.andi v479 v476
  let v481 : BitVec 32 := Scalar.addi v475 v474
  let v482 : BitVec 32 := Scalar.select v480 v481 v475
  let c1_i32_639 : BitVec 32 := 1#32
  let v551 : BitVec 32 := Scalar.muli v482 c1_i32_639
  let v552 : BitVec 32 := Scalar.addi c0_i32_640 v551
  v552.toNat
def k1_dev23 (d0 : Dev nD) : Nat :=
  let c0_i32_673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_538 : BitVec 32 := 1#32
  let v471 : BitVec 32 := Scalar.addi v2 c1_i32_538
  let c2_i32_539 : BitVec 32 := 2#32
  let v472 : BitVec 32 := Scalar.addi v471 c2_i32_539
  let c4_i32_540 : BitVec 32 := 4#32
  let c0_i32_541 : BitVec 32 := 0#32
  let v473 : BitVec 1 := Scalar.cmpi .eq c4_i32_540 c0_i32_541
  let c1_i32_542 : BitVec 32 := 1#32
  let v474 : BitVec 32 := Scalar.select v473 c1_i32_542 c4_i32_540
  let v475 : BitVec 32 := Scalar.remsi v472 v474
  let c0_i32_544 : BitVec 32 := 0#32
  let v477 : BitVec 1 := Scalar.cmpi .slt v475 c0_i32_544
  let c0_i32_545 : BitVec 32 := 0#32
  let v478 : BitVec 1 := Scalar.cmpi .slt v474 c0_i32_545
  let v479 : BitVec 1 := Scalar.xori v477 v478
  let c0_i32_543 : BitVec 32 := 0#32
  let v476 : BitVec 1 := Scalar.cmpi .ne v475 c0_i32_543
  let v480 : BitVec 1 := Scalar.andi v479 v476
  let v481 : BitVec 32 := Scalar.addi v475 v474
  let v482 : BitVec 32 := Scalar.select v480 v481 v475
  let c1_i32_672 : BitVec 32 := 1#32
  let v577 : BitVec 32 := Scalar.muli v482 c1_i32_672
  let v578 : BitVec 32 := Scalar.addi c0_i32_673 v577
  v578.toNat
def k1_dev24 (d0 : Dev nD) : Nat :=
  let c0_i32_706 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_538 : BitVec 32 := 1#32
  let v471 : BitVec 32 := Scalar.addi v2 c1_i32_538
  let c2_i32_539 : BitVec 32 := 2#32
  let v472 : BitVec 32 := Scalar.addi v471 c2_i32_539
  let c4_i32_540 : BitVec 32 := 4#32
  let c0_i32_541 : BitVec 32 := 0#32
  let v473 : BitVec 1 := Scalar.cmpi .eq c4_i32_540 c0_i32_541
  let c1_i32_542 : BitVec 32 := 1#32
  let v474 : BitVec 32 := Scalar.select v473 c1_i32_542 c4_i32_540
  let v475 : BitVec 32 := Scalar.remsi v472 v474
  let c0_i32_544 : BitVec 32 := 0#32
  let v477 : BitVec 1 := Scalar.cmpi .slt v475 c0_i32_544
  let c0_i32_545 : BitVec 32 := 0#32
  let v478 : BitVec 1 := Scalar.cmpi .slt v474 c0_i32_545
  let v479 : BitVec 1 := Scalar.xori v477 v478
  let c0_i32_543 : BitVec 32 := 0#32
  let v476 : BitVec 1 := Scalar.cmpi .ne v475 c0_i32_543
  let v480 : BitVec 1 := Scalar.andi v479 v476
  let v481 : BitVec 32 := Scalar.addi v475 v474
  let v482 : BitVec 32 := Scalar.select v480 v481 v475
  let c1_i32_705 : BitVec 32 := 1#32
  let v603 : BitVec 32 := Scalar.muli v482 c1_i32_705
  let v604 : BitVec 32 := Scalar.addi c0_i32_706 v603
  v604.toNat
def k1_dev25 (d0 : Dev nD) : Nat :=
  let c0_i32_739 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_538 : BitVec 32 := 1#32
  let v471 : BitVec 32 := Scalar.addi v2 c1_i32_538
  let c2_i32_539 : BitVec 32 := 2#32
  let v472 : BitVec 32 := Scalar.addi v471 c2_i32_539
  let c4_i32_540 : BitVec 32 := 4#32
  let c0_i32_541 : BitVec 32 := 0#32
  let v473 : BitVec 1 := Scalar.cmpi .eq c4_i32_540 c0_i32_541
  let c1_i32_542 : BitVec 32 := 1#32
  let v474 : BitVec 32 := Scalar.select v473 c1_i32_542 c4_i32_540
  let v475 : BitVec 32 := Scalar.remsi v472 v474
  let c0_i32_544 : BitVec 32 := 0#32
  let v477 : BitVec 1 := Scalar.cmpi .slt v475 c0_i32_544
  let c0_i32_545 : BitVec 32 := 0#32
  let v478 : BitVec 1 := Scalar.cmpi .slt v474 c0_i32_545
  let v479 : BitVec 1 := Scalar.xori v477 v478
  let c0_i32_543 : BitVec 32 := 0#32
  let v476 : BitVec 1 := Scalar.cmpi .ne v475 c0_i32_543
  let v480 : BitVec 1 := Scalar.andi v479 v476
  let v481 : BitVec 32 := Scalar.addi v475 v474
  let v482 : BitVec 32 := Scalar.select v480 v481 v475
  let c1_i32_738 : BitVec 32 := 1#32
  let v629 : BitVec 32 := Scalar.muli v482 c1_i32_738
  let v630 : BitVec 32 := Scalar.addi c0_i32_739 v629
  v630.toNat
def k1_dev26 (d0 : Dev nD) : Nat :=
  let c0_i32_772 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_538 : BitVec 32 := 1#32
  let v471 : BitVec 32 := Scalar.addi v2 c1_i32_538
  let c2_i32_539 : BitVec 32 := 2#32
  let v472 : BitVec 32 := Scalar.addi v471 c2_i32_539
  let c4_i32_540 : BitVec 32 := 4#32
  let c0_i32_541 : BitVec 32 := 0#32
  let v473 : BitVec 1 := Scalar.cmpi .eq c4_i32_540 c0_i32_541
  let c1_i32_542 : BitVec 32 := 1#32
  let v474 : BitVec 32 := Scalar.select v473 c1_i32_542 c4_i32_540
  let v475 : BitVec 32 := Scalar.remsi v472 v474
  let c0_i32_544 : BitVec 32 := 0#32
  let v477 : BitVec 1 := Scalar.cmpi .slt v475 c0_i32_544
  let c0_i32_545 : BitVec 32 := 0#32
  let v478 : BitVec 1 := Scalar.cmpi .slt v474 c0_i32_545
  let v479 : BitVec 1 := Scalar.xori v477 v478
  let c0_i32_543 : BitVec 32 := 0#32
  let v476 : BitVec 1 := Scalar.cmpi .ne v475 c0_i32_543
  let v480 : BitVec 1 := Scalar.andi v479 v476
  let v481 : BitVec 32 := Scalar.addi v475 v474
  let v482 : BitVec 32 := Scalar.select v480 v481 v475
  let c1_i32_771 : BitVec 32 := 1#32
  let v655 : BitVec 32 := Scalar.muli v482 c1_i32_771
  let v656 : BitVec 32 := Scalar.addi c0_i32_772 v655
  v656.toNat
def k1_dev27 (d0 : Dev nD) : Nat :=
  let c0_i32_805 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_538 : BitVec 32 := 1#32
  let v471 : BitVec 32 := Scalar.addi v2 c1_i32_538
  let c2_i32_539 : BitVec 32 := 2#32
  let v472 : BitVec 32 := Scalar.addi v471 c2_i32_539
  let c4_i32_540 : BitVec 32 := 4#32
  let c0_i32_541 : BitVec 32 := 0#32
  let v473 : BitVec 1 := Scalar.cmpi .eq c4_i32_540 c0_i32_541
  let c1_i32_542 : BitVec 32 := 1#32
  let v474 : BitVec 32 := Scalar.select v473 c1_i32_542 c4_i32_540
  let v475 : BitVec 32 := Scalar.remsi v472 v474
  let c0_i32_544 : BitVec 32 := 0#32
  let v477 : BitVec 1 := Scalar.cmpi .slt v475 c0_i32_544
  let c0_i32_545 : BitVec 32 := 0#32
  let v478 : BitVec 1 := Scalar.cmpi .slt v474 c0_i32_545
  let v479 : BitVec 1 := Scalar.xori v477 v478
  let c0_i32_543 : BitVec 32 := 0#32
  let v476 : BitVec 1 := Scalar.cmpi .ne v475 c0_i32_543
  let v480 : BitVec 1 := Scalar.andi v479 v476
  let v481 : BitVec 32 := Scalar.addi v475 v474
  let v482 : BitVec 32 := Scalar.select v480 v481 v475
  let c1_i32_804 : BitVec 32 := 1#32
  let v681 : BitVec 32 := Scalar.muli v482 c1_i32_804
  let v682 : BitVec 32 := Scalar.addi c0_i32_805 v681
  v682.toNat
def k1_off17 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v691 : Index := Scalar.indexCast v2
  let c0_810 : Index := 0#32
  let c0_811 : Index := 0#32
  let c0_812 : Index := 0#32
  ![v691.toNat, 0, 0, 0]
def k1_off18 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v698 : Index := Scalar.indexCast v2
  let c0_817 : Index := 0#32
  let c0_818 : Index := 0#32
  let c0_819 : Index := 0#32
  ![v698.toNat, 0, 0, 0]
def k1_off19 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v702 : Index := Scalar.indexCast v2
  let c1_820 : Index := 1#32
  let c0_821 : Index := 0#32
  let c0_822 : Index := 0#32
  ![v702.toNat, 1, 0, 0]
def k1_off20 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v709 : Index := Scalar.indexCast v2
  let c1_827 : Index := 1#32
  let c0_828 : Index := 0#32
  let c0_829 : Index := 0#32
  ![v709.toNat, 1, 0, 0]
def k1_off21 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v713 : Index := Scalar.indexCast v2
  let c2_830 : Index := 2#32
  let c0_831 : Index := 0#32
  let c0_832 : Index := 0#32
  ![v713.toNat, 2, 0, 0]
def k1_off22 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v720 : Index := Scalar.indexCast v2
  let c2_837 : Index := 2#32
  let c0_838 : Index := 0#32
  let c0_839 : Index := 0#32
  ![v720.toNat, 2, 0, 0]
def k1_off23 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v724 : Index := Scalar.indexCast v2
  let c3_840 : Index := 3#32
  let c0_841 : Index := 0#32
  let c0_842 : Index := 0#32
  ![v724.toNat, 3, 0, 0]
def k1_off24 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v731 : Index := Scalar.indexCast v2
  let c3_847 : Index := 3#32
  let c0_848 : Index := 0#32
  let c0_849 : Index := 0#32
  ![v731.toNat, 3, 0, 0]
def k1_off25 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v735 : Index := Scalar.indexCast v2
  let c4_850 : Index := 4#32
  let c0_851 : Index := 0#32
  let c0_852 : Index := 0#32
  ![v735.toNat, 4, 0, 0]
def k1_off26 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v742 : Index := Scalar.indexCast v2
  let c4_857 : Index := 4#32
  let c0_858 : Index := 0#32
  let c0_859 : Index := 0#32
  ![v742.toNat, 4, 0, 0]
def k1_off27 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v746 : Index := Scalar.indexCast v2
  let c5_860 : Index := 5#32
  let c0_861 : Index := 0#32
  let c0_862 : Index := 0#32
  ![v746.toNat, 5, 0, 0]
def k1_off28 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v753 : Index := Scalar.indexCast v2
  let c5_867 : Index := 5#32
  let c0_868 : Index := 0#32
  let c0_869 : Index := 0#32
  ![v753.toNat, 5, 0, 0]
def k1_off29 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v757 : Index := Scalar.indexCast v2
  let c6_870 : Index := 6#32
  let c0_871 : Index := 0#32
  let c0_872 : Index := 0#32
  ![v757.toNat, 6, 0, 0]
def k1_off30 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v764 : Index := Scalar.indexCast v2
  let c6_877 : Index := 6#32
  let c0_878 : Index := 0#32
  let c0_879 : Index := 0#32
  ![v764.toNat, 6, 0, 0]
def k1_off31 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v768 : Index := Scalar.indexCast v2
  let c7_880 : Index := 7#32
  let c0_881 : Index := 0#32
  let c0_882 : Index := 0#32
  ![v768.toNat, 7, 0, 0]
def k1_off32 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v775 : Index := Scalar.indexCast v2
  let c7_887 : Index := 7#32
  let c0_888 : Index := 0#32
  let c0_889 : Index := 0#32
  ![v775.toNat, 7, 0, 0]
def k1_off33 (d0 : Dev nD) (c0_i32_897 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v785 : BitVec 32 := Scalar.addi v2 c0_i32_897
  let c4_i32_898 : BitVec 32 := 4#32
  let c0_i32_899 : BitVec 32 := 0#32
  let v786 : BitVec 1 := Scalar.cmpi .eq c4_i32_898 c0_i32_899
  let c1_i32_900 : BitVec 32 := 1#32
  let v787 : BitVec 32 := Scalar.select v786 c1_i32_900 c4_i32_898
  let v788 : BitVec 32 := Scalar.remsi v785 v787
  let c0_i32_902 : BitVec 32 := 0#32
  let v790 : BitVec 1 := Scalar.cmpi .slt v788 c0_i32_902
  let c0_i32_903 : BitVec 32 := 0#32
  let v791 : BitVec 1 := Scalar.cmpi .slt v787 c0_i32_903
  let v792 : BitVec 1 := Scalar.xori v790 v791
  let c0_i32_901 : BitVec 32 := 0#32
  let v789 : BitVec 1 := Scalar.cmpi .ne v788 c0_i32_901
  let v793 : BitVec 1 := Scalar.andi v792 v789
  let v794 : BitVec 32 := Scalar.addi v788 v787
  let v795 : BitVec 32 := Scalar.select v793 v794 v788
  let v807 : Index := Scalar.indexCast v795
  let c0_906 : Index := 0#32
  let c0_907 : Index := 0#32
  let c0_908 : Index := 0#32
  ![v807.toNat, 0, 0, 0]
def k1_off34 (d0 : Dev nD) (c3_i32_914 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v816 : BitVec 32 := Scalar.addi v2 c3_i32_914
  let c4_i32_915 : BitVec 32 := 4#32
  let c0_i32_916 : BitVec 32 := 0#32
  let v817 : BitVec 1 := Scalar.cmpi .eq c4_i32_915 c0_i32_916
  let c1_i32_917 : BitVec 32 := 1#32
  let v818 : BitVec 32 := Scalar.select v817 c1_i32_917 c4_i32_915
  let v819 : BitVec 32 := Scalar.remsi v816 v818
  let c0_i32_919 : BitVec 32 := 0#32
  let v821 : BitVec 1 := Scalar.cmpi .slt v819 c0_i32_919
  let c0_i32_920 : BitVec 32 := 0#32
  let v822 : BitVec 1 := Scalar.cmpi .slt v818 c0_i32_920
  let v823 : BitVec 1 := Scalar.xori v821 v822
  let c0_i32_918 : BitVec 32 := 0#32
  let v820 : BitVec 1 := Scalar.cmpi .ne v819 c0_i32_918
  let v824 : BitVec 1 := Scalar.andi v823 v820
  let v825 : BitVec 32 := Scalar.addi v819 v818
  let v826 : BitVec 32 := Scalar.select v824 v825 v819
  let c0_i32_922 : BitVec 32 := 0#32
  let c0_i32_929 : BitVec 32 := 0#32
  let c0_i32_930 : BitVec 32 := 0#32
  ![v826.toNat, 0, 0, 0]
def k1_off35 (d0 : Dev nD) (c3_i32_914 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v816 : BitVec 32 := Scalar.addi v2 c3_i32_914
  let c4_i32_915 : BitVec 32 := 4#32
  let c0_i32_916 : BitVec 32 := 0#32
  let v817 : BitVec 1 := Scalar.cmpi .eq c4_i32_915 c0_i32_916
  let c1_i32_917 : BitVec 32 := 1#32
  let v818 : BitVec 32 := Scalar.select v817 c1_i32_917 c4_i32_915
  let v819 : BitVec 32 := Scalar.remsi v816 v818
  let c0_i32_919 : BitVec 32 := 0#32
  let v821 : BitVec 1 := Scalar.cmpi .slt v819 c0_i32_919
  let c0_i32_920 : BitVec 32 := 0#32
  let v822 : BitVec 1 := Scalar.cmpi .slt v818 c0_i32_920
  let v823 : BitVec 1 := Scalar.xori v821 v822
  let c0_i32_918 : BitVec 32 := 0#32
  let v820 : BitVec 1 := Scalar.cmpi .ne v819 c0_i32_918
  let v824 : BitVec 1 := Scalar.andi v823 v820
  let v825 : BitVec 32 := Scalar.addi v819 v818
  let v826 : BitVec 32 := Scalar.select v824 v825 v819
  let c1_i32_934 : BitVec 32 := 1#32
  let c0_i32_941 : BitVec 32 := 0#32
  let c0_i32_942 : BitVec 32 := 0#32
  ![v826.toNat, 1, 0, 0]
def k1_off36 (d0 : Dev nD) (c3_i32_914 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v816 : BitVec 32 := Scalar.addi v2 c3_i32_914
  let c4_i32_915 : BitVec 32 := 4#32
  let c0_i32_916 : BitVec 32 := 0#32
  let v817 : BitVec 1 := Scalar.cmpi .eq c4_i32_915 c0_i32_916
  let c1_i32_917 : BitVec 32 := 1#32
  let v818 : BitVec 32 := Scalar.select v817 c1_i32_917 c4_i32_915
  let v819 : BitVec 32 := Scalar.remsi v816 v818
  let c0_i32_919 : BitVec 32 := 0#32
  let v821 : BitVec 1 := Scalar.cmpi .slt v819 c0_i32_919
  let c0_i32_920 : BitVec 32 := 0#32
  let v822 : BitVec 1 := Scalar.cmpi .slt v818 c0_i32_920
  let v823 : BitVec 1 := Scalar.xori v821 v822
  let c0_i32_918 : BitVec 32 := 0#32
  let v820 : BitVec 1 := Scalar.cmpi .ne v819 c0_i32_918
  let v824 : BitVec 1 := Scalar.andi v823 v820
  let v825 : BitVec 32 := Scalar.addi v819 v818
  let v826 : BitVec 32 := Scalar.select v824 v825 v819
  let c2_i32_946 : BitVec 32 := 2#32
  let c0_i32_953 : BitVec 32 := 0#32
  let c0_i32_954 : BitVec 32 := 0#32
  ![v826.toNat, 2, 0, 0]
def k1_off37 (d0 : Dev nD) (c3_i32_914 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v816 : BitVec 32 := Scalar.addi v2 c3_i32_914
  let c4_i32_915 : BitVec 32 := 4#32
  let c0_i32_916 : BitVec 32 := 0#32
  let v817 : BitVec 1 := Scalar.cmpi .eq c4_i32_915 c0_i32_916
  let c1_i32_917 : BitVec 32 := 1#32
  let v818 : BitVec 32 := Scalar.select v817 c1_i32_917 c4_i32_915
  let v819 : BitVec 32 := Scalar.remsi v816 v818
  let c0_i32_919 : BitVec 32 := 0#32
  let v821 : BitVec 1 := Scalar.cmpi .slt v819 c0_i32_919
  let c0_i32_920 : BitVec 32 := 0#32
  let v822 : BitVec 1 := Scalar.cmpi .slt v818 c0_i32_920
  let v823 : BitVec 1 := Scalar.xori v821 v822
  let c0_i32_918 : BitVec 32 := 0#32
  let v820 : BitVec 1 := Scalar.cmpi .ne v819 c0_i32_918
  let v824 : BitVec 1 := Scalar.andi v823 v820
  let v825 : BitVec 32 := Scalar.addi v819 v818
  let v826 : BitVec 32 := Scalar.select v824 v825 v819
  let c3_i32_958 : BitVec 32 := 3#32
  let c0_i32_965 : BitVec 32 := 0#32
  let c0_i32_966 : BitVec 32 := 0#32
  ![v826.toNat, 3, 0, 0]
def k1_off38 (d0 : Dev nD) (c3_i32_914 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v816 : BitVec 32 := Scalar.addi v2 c3_i32_914
  let c4_i32_915 : BitVec 32 := 4#32
  let c0_i32_916 : BitVec 32 := 0#32
  let v817 : BitVec 1 := Scalar.cmpi .eq c4_i32_915 c0_i32_916
  let c1_i32_917 : BitVec 32 := 1#32
  let v818 : BitVec 32 := Scalar.select v817 c1_i32_917 c4_i32_915
  let v819 : BitVec 32 := Scalar.remsi v816 v818
  let c0_i32_919 : BitVec 32 := 0#32
  let v821 : BitVec 1 := Scalar.cmpi .slt v819 c0_i32_919
  let c0_i32_920 : BitVec 32 := 0#32
  let v822 : BitVec 1 := Scalar.cmpi .slt v818 c0_i32_920
  let v823 : BitVec 1 := Scalar.xori v821 v822
  let c0_i32_918 : BitVec 32 := 0#32
  let v820 : BitVec 1 := Scalar.cmpi .ne v819 c0_i32_918
  let v824 : BitVec 1 := Scalar.andi v823 v820
  let v825 : BitVec 32 := Scalar.addi v819 v818
  let v826 : BitVec 32 := Scalar.select v824 v825 v819
  let c4_i32_970 : BitVec 32 := 4#32
  let c0_i32_977 : BitVec 32 := 0#32
  let c0_i32_978 : BitVec 32 := 0#32
  ![v826.toNat, 4, 0, 0]
def k1_off39 (d0 : Dev nD) (c3_i32_914 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v816 : BitVec 32 := Scalar.addi v2 c3_i32_914
  let c4_i32_915 : BitVec 32 := 4#32
  let c0_i32_916 : BitVec 32 := 0#32
  let v817 : BitVec 1 := Scalar.cmpi .eq c4_i32_915 c0_i32_916
  let c1_i32_917 : BitVec 32 := 1#32
  let v818 : BitVec 32 := Scalar.select v817 c1_i32_917 c4_i32_915
  let v819 : BitVec 32 := Scalar.remsi v816 v818
  let c0_i32_919 : BitVec 32 := 0#32
  let v821 : BitVec 1 := Scalar.cmpi .slt v819 c0_i32_919
  let c0_i32_920 : BitVec 32 := 0#32
  let v822 : BitVec 1 := Scalar.cmpi .slt v818 c0_i32_920
  let v823 : BitVec 1 := Scalar.xori v821 v822
  let c0_i32_918 : BitVec 32 := 0#32
  let v820 : BitVec 1 := Scalar.cmpi .ne v819 c0_i32_918
  let v824 : BitVec 1 := Scalar.andi v823 v820
  let v825 : BitVec 32 := Scalar.addi v819 v818
  let v826 : BitVec 32 := Scalar.select v824 v825 v819
  let c5_i32_982 : BitVec 32 := 5#32
  let c0_i32_989 : BitVec 32 := 0#32
  let c0_i32_990 : BitVec 32 := 0#32
  ![v826.toNat, 5, 0, 0]
def k1_off40 (d0 : Dev nD) (c3_i32_914 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v816 : BitVec 32 := Scalar.addi v2 c3_i32_914
  let c4_i32_915 : BitVec 32 := 4#32
  let c0_i32_916 : BitVec 32 := 0#32
  let v817 : BitVec 1 := Scalar.cmpi .eq c4_i32_915 c0_i32_916
  let c1_i32_917 : BitVec 32 := 1#32
  let v818 : BitVec 32 := Scalar.select v817 c1_i32_917 c4_i32_915
  let v819 : BitVec 32 := Scalar.remsi v816 v818
  let c0_i32_919 : BitVec 32 := 0#32
  let v821 : BitVec 1 := Scalar.cmpi .slt v819 c0_i32_919
  let c0_i32_920 : BitVec 32 := 0#32
  let v822 : BitVec 1 := Scalar.cmpi .slt v818 c0_i32_920
  let v823 : BitVec 1 := Scalar.xori v821 v822
  let c0_i32_918 : BitVec 32 := 0#32
  let v820 : BitVec 1 := Scalar.cmpi .ne v819 c0_i32_918
  let v824 : BitVec 1 := Scalar.andi v823 v820
  let v825 : BitVec 32 := Scalar.addi v819 v818
  let v826 : BitVec 32 := Scalar.select v824 v825 v819
  let c6_i32_994 : BitVec 32 := 6#32
  let c0_i32_1001 : BitVec 32 := 0#32
  let c0_i32_1002 : BitVec 32 := 0#32
  ![v826.toNat, 6, 0, 0]
def k1_off41 (d0 : Dev nD) (c3_i32_914 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v816 : BitVec 32 := Scalar.addi v2 c3_i32_914
  let c4_i32_915 : BitVec 32 := 4#32
  let c0_i32_916 : BitVec 32 := 0#32
  let v817 : BitVec 1 := Scalar.cmpi .eq c4_i32_915 c0_i32_916
  let c1_i32_917 : BitVec 32 := 1#32
  let v818 : BitVec 32 := Scalar.select v817 c1_i32_917 c4_i32_915
  let v819 : BitVec 32 := Scalar.remsi v816 v818
  let c0_i32_919 : BitVec 32 := 0#32
  let v821 : BitVec 1 := Scalar.cmpi .slt v819 c0_i32_919
  let c0_i32_920 : BitVec 32 := 0#32
  let v822 : BitVec 1 := Scalar.cmpi .slt v818 c0_i32_920
  let v823 : BitVec 1 := Scalar.xori v821 v822
  let c0_i32_918 : BitVec 32 := 0#32
  let v820 : BitVec 1 := Scalar.cmpi .ne v819 c0_i32_918
  let v824 : BitVec 1 := Scalar.andi v823 v820
  let v825 : BitVec 32 := Scalar.addi v819 v818
  let v826 : BitVec 32 := Scalar.select v824 v825 v819
  let c7_i32_1006 : BitVec 32 := 7#32
  let c0_i32_1013 : BitVec 32 := 0#32
  let c0_i32_1014 : BitVec 32 := 0#32
  ![v826.toNat, 7, 0, 0]
abbrev stage1_0 : Fin 1 → Memref sig .tc .vmem S4x8x160x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2048x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S8192x512 : Shape := ⟨2, ![8192, 512]⟩
abbrev S512x32 : Shape := ⟨2, ![512, 32]⟩
abbrev S8192x1 : Shape := ⟨2, ![8192, 1]⟩
abbrev S32x512x1024 : Shape := ⟨3, ![32, 512, 1024]⟩
abbrev S512x1024 : Shape := ⟨2, ![512, 1024]⟩
abbrev S8192x32 : Shape := ⟨2, ![8192, 32]⟩
abbrev S_ : Shape := ⟨0, ![]⟩
abbrev S8192 : Shape := ⟨1, ![8192]⟩
abbrev S8192x1024 : Shape := ⟨2, ![8192, 1024]⟩
abbrev S8192x1x1 : Shape := ⟨3, ![8192, 1, 1]⟩
abbrev S8192x512x1024 : Shape := ⟨3, ![8192, 512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x32, .f32⟩
  | .hbm, ⟨2, _⟩ => ⟨S8192x1, .i32⟩
  | .hbm, ⟨3, _⟩ => ⟨S32x512x1024, .f32⟩
  | .hbm, ⟨4, _⟩ => ⟨S512x1024, .f32⟩
  | .hbm, ⟨5, _⟩ => ⟨S8192x32, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x32, .f32⟩
  | .hbm, ⟨16, _⟩ => ⟨S8192x32, .f32⟩
  | .hbm, ⟨17, _⟩ => ⟨S8192x1024, .f32⟩
  | .hbm, ⟨18, _⟩ => ⟨S8192, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S8192x1, .f32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x512x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Proof.IdealSched.lean ====
/- The protocol of the two talking calls: devices, cells, the pieces of the buffers that travel, and the schedule of payments. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Pipeline.Regions
public import Idealize.ShloMosaic.Lib.Pipeline.Kit
public import Idealize.ShloMosaic.Lib.Pipeline.RegionTalk
public import Idealize.ShloMosaic.Lib.Tactic
public import Idealize.ShloMosaic.Lib.Sig

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

/-! ## Devices -/

/-- The device `k + 1` places after `c`. -/
def dst (c : Dev nD) (k : Fin 3) : Dev nD := ⟨(c.val + 1 + k.val) % 4, Nat.mod_lt _ (by decide)⟩
/-- The device whose `dst · k` is `d`. -/
def src (d : Dev nD) (k : Fin 3) : Dev nD := ⟨(d.val + 3 - k.val) % 4, Nat.mod_lt _ (by decide)⟩

theorem src_dst (c : Dev nD) (k : Fin 3) : src (dst c k) k = c := by revert c k; decide
theorem dst_src (c : Dev nD) (k : Fin 3) : dst (src c k) k = c := by revert c k; decide
theorem dst_dst_rev (c : Dev nD) (k : Fin 3) : dst (dst c k) k.rev = c := by revert c k; decide
theorem src_eq (c : Dev nD) (k : Fin 3) : src c k = dst c k.rev := by revert c k; decide

/-! ## Cells -/

abbrev bar0 : Sem sig := barrier0
abbrev bar1 : Sem sig := barrier1
def sS0 (k : Fin 3) : DmaSem sig := ⟨2 + k.val, by have := k.isLt; show _ < 63; omega⟩
def sR0 (k : Fin 3) : DmaSem sig := ⟨5 + k.val, by have := k.isLt; show _ < 63; omega⟩
def sC0 : DmaSem sig := ⟨8, by decide⟩
def sS1 (i : Fin 24) : DmaSem sig := ⟨15 + i.val, by have := i.isLt; show _ < 63; omega⟩
def sR1 (i : Fin 24) : DmaSem sig := ⟨39 + i.val, by have := i.isLt; show _ < 63; omega⟩

/-- The step and the expert of the `i`-th transfer of the second call, and back. -/
def kk (i : Fin 24) : Fin 3 := ⟨i.val / 8, by have := i.isLt; omega⟩
def jj (i : Fin 24) : Fin 8 := ⟨i.val % 8, by omega⟩
def ix (k : Fin 3) (j : Fin 8) : Fin 24 := ⟨8 * k.val + j.val, by omega⟩
theorem kk_ix (k : Fin 3) (j : Fin 8) : kk (ix k j) = k := by revert k j; decide
theorem jj_ix (k : Fin 3) (j : Fin 8) : jj (ix k j) = j := by revert k j; decide

abbrev B0 (c : Dev nD) : GSem nD τ sig := ((c : Thread nD τ), .reg bar0)
abbrev B1 (c : Dev nD) : GSem nD τ sig := ((c : Thread nD τ), .reg bar1)
abbrev S0 (c : Dev nD) (k : Fin 3) : GSem nD τ sig := ((c : Thread nD τ), .dma (sS0 k))
abbrev R0 (c : Dev nD) (k : Fin 3) : GSem nD τ sig := ((c : Thread nD τ), .dma (sR0 k))
abbrev C0 (c : Dev nD) : GSem nD τ sig := ((c : Thread nD τ), .dma sC0)
abbrev Sd1 (c : Dev nD) (i : Fin 24) : GSem nD τ sig := ((c : Thread nD τ), .dma (sS1 i))
abbrev Rc1 (c : Dev nD) (i : Fin 24) : GSem nD τ sig := ((c : Thread nD τ), .dma (sR1 i))

/-! ## Pieces of the buffers -/

theorem inbR (p : Fin 4) : ∀ a, (![p.val, 0, 0, 0] : Fin 4 → ℕ) a + S1x8x160x512.size a ≤ S4x8x160x512.size a := by revert p; decide
theorem inbT (b : Fin 2) : ∀ a, (![b.val, 0, 0, 0] : Fin 4 → ℕ) a + S1x8x160x512.size a ≤ S2x8x160x512.size a := by revert b; decide
theorem inbU (b : Fin 2) : ∀ a, (![b.val, 0, 0] : Fin 3 → ℕ) a + S1x160x1024.size a ≤ S2x160x1024.size a := by revert b; decide
theorem inbY (p : Fin 4) (j : Fin 8) : ∀ a, (![p.val, j.val, 0, 0] : Fin 4 → ℕ) a + S1x1x160x1024.size a ≤ S4x8x160x1024.size a := by revert p j; decide
theorem inbZ (p : Fin 4) : ∀ a, (![p.val, 0, 0, 0] : Fin 4 → ℕ) a + S1x8x160x1024.size a ≤ S4x8x160x1024.size a := by revert p; decide

/-- Slab `p` of the receive buffer of the first call; tile `b` of its scratch; tile `b` of the second call's scratch;
    slab `(p, j)` and slab `p` of its receive buffer. -/
def rR (p : Fin 4) : Rect S4x8x160x512 := Rect.unit (s := S4x8x160x512) ![p.val, 0, 0, 0] S1x8x160x512.size (inbR p)
def rT (b : Fin 2) : Rect S2x8x160x512 := Rect.unit (s := S2x8x160x512) ![b.val, 0, 0, 0] S1x8x160x512.size (inbT b)
def rU (b : Fin 2) : Rect S2x160x1024 := Rect.unit (s := S2x160x1024) ![b.val, 0, 0] S1x160x1024.size (inbU b)
def rY (p : Fin 4) (j : Fin 8) : Rect S4x8x160x1024 := Rect.unit (s := S4x8x160x1024) ![p.val, j.val, 0, 0] S1x1x160x1024.size (inbY p j)
def rZ (p : Fin 4) : Rect S4x8x160x1024 := Rect.unit (s := S4x8x160x1024) ![p.val, 0, 0, 0] S1x8x160x1024.size (inbZ p)

abbrev mR : Memref sig .tc .hbm S4x8x160x512 .bf16 := Memref.whole main_v38
abbrev mT : Memref sig .tc .vmem S2x8x160x512 .bf16 := Memref.whole cc0_scratch0
abbrev mU : Memref sig .tc .vmem S2x160x1024 .bf16 := Memref.whole cc1_scratch0
abbrev mY : Memref sig .tc .vmem S4x8x160x1024 .bf16 := Memref.whole cc1_scratch1

/-- Contents of the buffers that travel. -/
abbrev BufR (F : FTy → Type) : Type := (main_v38 : Ref sig .tc).ty.Contents (Elt F)
abbrev BufT (F : FTy → Type) : Type := (cc0_scratch0 : Ref sig .tc).ty.Contents (Elt F)
abbrev BufU (F : FTy → Type) : Type := (cc1_scratch0 : Ref sig .tc).ty.Contents (Elt F)
abbrev BufY (F : FTy → Type) : Type := (cc1_scratch1 : Ref sig .tc).ty.Contents (Elt F)

abbrev N0 : ℕ := RefSig.tileCredit S8x160x512 .bf16
abbrev N1 : ℕ := RefSig.tileCredit S160x1024 .bf16
theorem N0_pos : 0 < N0 := RefSig.tileCredit_pos _ _ (by decide)
theorem N1_pos : 0 < N1 := RefSig.tileCredit_pos _ _ (by decide)

/-! ## The algebra -/

abbrev UT : Type := URounds (GSem nD τ sig) (Fin 3)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-- The pieces, held. -/
abbrev pR (c : Dev nD) (p : Fin 4) (f : BufR F) : sProp 𝕄 := mR.view.loc (c : Thread nD τ) ↦[(rR p).set]{fullShare} f
abbrev pT (c : Dev nD) (b : Fin 2) (f : BufT F) : sProp 𝕄 := mT.view.loc (c : Thread nD τ) ↦[(rT b).set]{fullShare} f
abbrev pU (c : Dev nD) (b : Fin 2) (f : BufU F) : sProp 𝕄 := mU.view.loc (c : Thread nD τ) ↦[(rU b).set]{fullShare} f
abbrev pY (c : Dev nD) (p : Fin 4) (j : Fin 8) (f : BufY F) : sProp 𝕄 := mY.view.loc (c : Thread nD τ) ↦[(rY p j).set]{fullShare} f
abbrev pZ (c : Dev nD) (p : Fin 4) (f : BufY F) : sProp 𝕄 := mY.view.loc (c : Thread nD τ) ↦[(rZ p).set]{fullShare} f

/-- The tile a transfer is sent from. -/
def tb0 (k : Fin 3) : Fin 2 := ⟨k.val % 2, by omega⟩
def tb1 (i : Fin 24) : Fin 2 := ⟨i.val % 2, by omega⟩

/-! ## The schedule

Each cell is used in one round, round 0. A barrier cell of `d` is raised by the three other devices, the one whose `dst · k`
is `d` with duty `k`: it hands over its own slab that `d` will write, and that the cell `d`'s transfer raises there is open. -/

variable (RC : Dev nD → BufR F) (YB : Dev nD → BufY F)

def barPay0 (d : Dev nD) (k : Fin 3) : sProp 𝕄 :=
  iprop((∃ f : BufR F, pR (dst d k.rev) d f) ∗ reached ER (R0 (dst d k.rev) k.rev) 0)
def barPay1 (d : Dev nD) (k : Fin 3) : sProp 𝕄 :=
  bigSep Finset.univ fun j : Fin 8 => iprop((∃ f : BufY F, pY (dst d k.rev) d j f) ∗ reached ER (Rc1 (dst d k.rev) (ix k.rev j)) 0)
def sendPay0 (c : Dev nD) (k : Fin 3) : sProp 𝕄 := iprop(∃ f : BufT F, pT c (tb0 k) f)
def recvPay0 (d : Dev nD) (k : Fin 3) : sProp 𝕄 := pR d (src d k) (RC d)
def copyPay0 (c : Dev nD) : sProp 𝕄 := iprop(pR c c (RC c) ∗ ∃ f : BufT F, pT c 1 f)
def sendPay1 (c : Dev nD) (i : Fin 24) : sProp 𝕄 := iprop(∃ f : BufU F, pU c (tb1 i) f)
def recvPay1 (d : Dev nD) (i : Fin 24) : sProp 𝕄 := pY d (src d (kk i)) (jj i) (YB d)

/-- Whose a DMA cell is, by its number. -/
def payDma (c : Dev nD) (n : ℕ) : sProp 𝕄 :=
  if h : n < 2 then iprop(emp)
  else if h : n < 5 then sendPay0 c ⟨n - 2, by omega⟩
  else if h : n < 8 then recvPay0 RC c ⟨n - 5, by omega⟩
  else if n < 9 then copyPay0 RC c
  else if n < 15 then iprop(emp)
  else if h : n < 39 then sendPay1 c ⟨n - 15, by omega⟩
  else if h : n < 63 then recvPay1 YB c ⟨n - 39, by omega⟩
  else iprop(emp)

abbrev Own (n : ℕ) : Prop := (2 ≤ n ∧ n < 9) ∨ 15 ≤ n

def talkRd : Rounds.Schedule (GSem nD τ sig) (Fin 3) 𝕄 where
  duties g r := if r = 0 ∧ g.1.2 = .tc then (match g.2 with | .reg _ => Finset.univ | .dma n => if Own n.val then {0} else ∅) else ∅
  unitless _ := False
  amount g _ _ := match g.2 with | .reg _ => 1 | .dma n => if n.val < 9 then N0 else N1
  payload g _ d := match g.2 with
    | .reg b => if b = bar0 then barPay0 g.1.1 d else barPay1 g.1.1 d
    | .dma n => payDma RC YB g.1.1 n.val
  amount_pos g _ _ _ := by
    rcases g with ⟨t, b | n⟩
    · exact Nat.one_pos
    · dsimp only; split
      · exact N0_pos
      · exact N1_pos

instance talkRd_storable (g : GSem nD τ sig) (r : ℕ) (d : Fin 3) :
    BI.Storable (upEmb : UEmb _ 𝕄) ((talkRd (F := F) RC YB).payload g r d) := by
  rcases g with ⟨t, b | n⟩
  · show BI.Storable upEmb (if b = bar0 then barPay0 t.1 d else barPay1 t.1 d)
    unfold barPay0 barPay1
    split <;> infer_instance
  · show BI.Storable upEmb (payDma RC YB t.1 n.val)
    unfold payDma sendPay0 recvPay0 copyPay0 sendPay1 recvPay1
    (repeat' split) <;> infer_instance

section Tables

variable (c : Dev nD)

local notation "ℛ" => talkRd (F := F) RC YB

theorem duties_reg (b : Sem sig) : (ℛ).duties ((c : Thread nD τ), .reg b) 0 = Finset.univ := by
  dsimp only [talkRd]; rw [if_pos ⟨rfl, rfl⟩]
theorem duties_B0 : (ℛ).duties (B0 c) 0 = Finset.univ := duties_reg RC YB c _
theorem duties_B1 : (ℛ).duties (B1 c) 0 = Finset.univ := duties_reg RC YB c _
theorem duties_dma (n : DmaSem sig) (h : Own n.val) : (ℛ).duties ((c : Thread nD τ), .dma n) 0 = {0} := by
  dsimp only [talkRd]; rw [if_pos ⟨rfl, rfl⟩, if_pos h]
theorem own_S0 (k : Fin 3) : Own (sS0 k).val := by show Own (2 + k.val); have := k.isLt; unfold Own; omega
theorem own_R0 (k : Fin 3) : Own (sR0 k).val := by show Own (5 + k.val); have := k.isLt; unfold Own; omega
theorem own_C0 : Own sC0.val := by decide
theorem own_S1 (i : Fin 24) : Own (sS1 i).val := by show Own (15 + i.val); unfold Own; omega
theorem own_R1 (i : Fin 24) : Own (sR1 i).val := by show Own (39 + i.val); unfold Own; omega
theorem duties_S0 (k : Fin 3) : (ℛ).duties (S0 c k) 0 = {0} := duties_dma RC YB c _ (own_S0 k)
theorem duties_R0 (k : Fin 3) : (ℛ).duties (R0 c k) 0 = {0} := duties_dma RC YB c _ (own_R0 k)
theorem duties_C0 : (ℛ).duties (C0 c) 0 = {0} := duties_dma RC YB c _ own_C0
theorem duties_Sd1 (i : Fin 24) : (ℛ).duties (Sd1 c i) 0 = {0} := duties_dma RC YB c _ (own_S1 i)
theorem duties_Rc1 (i : Fin 24) : (ℛ).duties (Rc1 c i) 0 = {0} := duties_dma RC YB c _ (own_R1 i)
theorem duties_later (g : GSem nD τ sig) : ∀ r, 1 ≤ r → (ℛ).duties g r = ∅ :=
  fun r hr => if_neg (fun h => by omega)

theorem amount_reg (b : Sem sig) (r : ℕ) (u : Fin 3) : (ℛ).amount ((c : Thread nD τ), .reg b) r u = 1 := rfl
theorem amount_S0 (k : Fin 3) (u : Fin 3) : (ℛ).amount (S0 c k) 0 u = N0 := if_pos (by show 2 + k.val < 9; omega)
theorem amount_R0 (k : Fin 3) (u : Fin 3) : (ℛ).amount (R0 c k) 0 u = N0 := if_pos (by show 5 + k.val < 9; omega)
theorem amount_C0 (u : Fin 3) : (ℛ).amount (C0 c) 0 u = N0 := by
  dsimp only [talkRd]; exact if_pos (by decide)
theorem amount_Sd1 (i : Fin 24) (u : Fin 3) : (ℛ).amount (Sd1 c i) 0 u = N1 := if_neg (by show ¬ 15 + i.val < 9; omega)
theorem amount_Rc1 (i : Fin 24) (u : Fin 3) : (ℛ).amount (Rc1 c i) 0 u = N1 := if_neg (by show ¬ 39 + i.val < 9; omega)

theorem expect_reg (b : Sem sig) : (ℛ).expect ((c : Thread nD τ), .reg b) 0 = 3 := by
  unfold Schedule.expect Schedule.amountOf
  rw [duties_reg]; rfl
theorem expect_one {g : GSem nD τ sig} {N : ℕ} (hd : (ℛ).duties g 0 = {0}) (ha : (ℛ).amount g 0 0 = N) : (ℛ).expect g 0 = N := by
  unfold Schedule.expect Schedule.amountOf; rw [hd, Finset.sum_singleton, ha]

theorem payload_S0 (k u : Fin 3) : (ℛ).payload (S0 c k) 0 u = sendPay0 c k := by
  show payDma RC YB c (2 + k.val) = _
  unfold payDma
  rw [dif_neg (by omega), dif_pos (by omega)]
  exact congrArg (sendPay0 c) (Fin.ext (by simp))
theorem payload_R0 (k u : Fin 3) : (ℛ).payload (R0 c k) 0 u = recvPay0 RC c k := by
  show payDma RC YB c (5 + k.val) = _
  unfold payDma
  rw [dif_neg (by omega), dif_neg (by omega), dif_pos (by omega)]
  exact congrArg (recvPay0 RC c) (Fin.ext (by simp))
theorem payload_C0 (u : Fin 3) : (ℛ).payload (C0 c) 0 u = copyPay0 RC c := by
  show payDma RC YB c 8 = _
  unfold payDma
  rw [dif_neg (by omega), dif_neg (by omega), dif_neg (by omega), if_pos (by omega)]
theorem payload_Sd1 (i : Fin 24) (u : Fin 3) : (ℛ).payload (Sd1 c i) 0 u = sendPay1 c i := by
  show payDma RC YB c (15 + i.val) = _
  unfold payDma
  rw [dif_neg (by omega), dif_neg (by omega), dif_neg (by omega), if_neg (by omega), if_neg (by omega), dif_pos (by omega)]
  exact congrArg (sendPay1 c) (Fin.ext (by simp))
theorem payload_Rc1 (i : Fin 24) (u : Fin 3) : (ℛ).payload (Rc1 c i) 0 u = recvPay1 YB c i := by
  show payDma RC YB c (39 + i.val) = _
  unfold payDma
  rw [dif_neg (by omega), dif_neg (by omega), dif_neg (by omega), if_neg (by omega), if_neg (by omega), dif_neg (by omega), dif_pos (by omega)]
  exact congrArg (recvPay1 YB c) (Fin.ext (by simp))
theorem payload_B0 (u : Fin 3) : (ℛ).payload (B0 c) 0 u = barPay0 c u := by
  dsimp only [talkRd]; exact if_pos rfl
theorem payload_B1 (u : Fin 3) : (ℛ).payload (B1 c) 0 u = barPay1 c u := by
  dsimp only [talkRd]; exact if_neg (by decide)

theorem rest_one {g : GSem nD τ sig} {P : sProp 𝕄} (hd : (ℛ).duties g 0 = {0}) (hp : (ℛ).payload g 0 0 = P) :
    bigSep ((ℛ).duties g 0 \ ∅) (fun u => (ℛ).payload g 0 u) = P := by
  rw [Finset.sdiff_empty, hd, bigSep_singleton, hp]
theorem rest_B0 : bigSep ((ℛ).duties (B0 c) 0 \ ∅) (fun u => (ℛ).payload (B0 c) 0 u) = bigSep Finset.univ (barPay0 (F := F) c) := by
  rw [Finset.sdiff_empty, duties_B0]; exact bigSep_congr fun u _ => payload_B0 RC YB c u
theorem rest_B1 : bigSep ((ℛ).duties (B1 c) 0 \ ∅) (fun u => (ℛ).payload (B1 c) 0 u) = bigSep Finset.univ (barPay1 (F := F) c) := by
  rw [Finset.sdiff_empty, duties_B1]; exact bigSep_congr fun u _ => payload_B1 RC YB c u

end Tables

/-! ## What a device owes, and the levels of the cells -/

/-- What remains of a device's dues after the transfers, and then the signals, of a call, counted from the end. -/
def oR0 (c : Dev nD) : ℕ → CellTallies nD τ sig Unit
  | 0 => 0
  | n + 1 => oR0 c n + tallyAt (R0 (dst c ⟨2 - n, by omega⟩) ⟨2 - n, by omega⟩) () N0
def oB0 (c : Dev nD) : ℕ → CellTallies nD τ sig Unit
  | 0 => oR0 c 3
  | n + 1 => oB0 c n + tallyAt (B0 (dst c ⟨2 - n, by omega⟩)) () 1
def oR1 (c : Dev nD) : ℕ → CellTallies nD τ sig Unit
  | 0 => 0
  | n + 1 => oR1 c n + tallyAt (Rc1 (dst c (kk ⟨23 - n, by omega⟩)) ⟨23 - n, by omega⟩) () N1
def oB1 (c : Dev nD) : ℕ → CellTallies nD τ sig Unit
  | 0 => oR1 c 24
  | n + 1 => oB1 c n + tallyAt (B1 (dst c ⟨2 - n, by omega⟩)) () 1
def due0 (c : Dev nD) : CellTallies nD τ sig Unit := oB0 c 3
def due1 (c : Dev nD) : CellTallies nD τ sig Unit := oB1 c 3

abbrev L (g : GSem nD τ sig) : Finset Unit := if g.1.2 = .tc then {()} else ∅
/-- First the transfers a device has sent itself, then the first call's barrier and arrivals, then the second call's. -/
def lv (g : GSem nD τ sig) (_ : Unit) : ℕ := match g.2 with
  | .reg b => if b = bar0 then 1 else 3
  | .dma n => if 5 ≤ n.val ∧ n.val < 8 then 2 else if 39 ≤ n.val then 4 else 0

theorem L_tc (c : Dev nD) (sm : SemLoc sig) : L ((c : Thread nD τ), sm) = {()} := if_pos rfl
theorem L_of_ne (g : GSem nD τ sig) (h : g.1.2 ≠ .tc) : L g = ∅ := if_neg h

theorem lv_B0 (c : Dev nD) (u : Unit) : lv (B0 c) u = 1 := by dsimp only [lv]; exact if_pos rfl
theorem lv_B1 (c : Dev nD) (u : Unit) : lv (B1 c) u = 3 := by dsimp only [lv]; exact if_neg (by decide)
theorem lv_S0 (c : Dev nD) (k : Fin 3) (u : Unit) : lv (S0 c k) u = 0 := by revert k; dsimp only [lv]; decide
theorem lv_R0 (c : Dev nD) (k : Fin 3) (u : Unit) : lv (R0 c k) u = 2 := by revert k; dsimp only [lv]; decide
theorem lv_C0 (c : Dev nD) (u : Unit) : lv (C0 c) u = 0 := by dsimp only [lv]; decide
theorem lv_Sd1 (c : Dev nD) (i : Fin 24) (u : Unit) : lv (Sd1 c i) u = 0 := by revert i; dsimp only [lv]; decide
theorem lv_Rc1 (c : Dev nD) (i : Fin 24) (u : Unit) : lv (Rc1 c i) u = 4 := by revert i; dsimp only [lv]; decide

/-- Everything owed lies above level `n`. -/
def Above (n : ℕ) (O : CellTallies nD τ sig Unit) : Prop := ∀ g u, 0 < O g u → u ∈ L g ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.add_pos_iff_pos_or_pos.mp hp with hp | hp
  · exact h g u hp
  · exact h' g u hp
theorem above_tally {n : ℕ} (c : Dev nD) (sm : SemLoc sig) (N : ℕ) (h : n < lv ((c : Thread nD τ), sm) ()) :
    Above n (tallyAt ((c : Thread nD τ), sm) () N) := fun g u hp => by
  rw [tallyAt_apply] at hp
  split at hp
  · next hg => rw [hg.1, hg.2, L_tc]; exact ⟨Finset.mem_singleton_self _, h⟩
  · exact absurd hp (Nat.lt_irrefl 0)
theorem Above.mono {m n : ℕ} {O : CellTallies nD τ sig Unit} (h : Above n O) (hm : m ≤ n) : Above m O := fun g u hp =>
  ⟨(h g u hp).1, lt_of_le_of_lt hm (h g u hp).2⟩

theorem above_oR0 (c : Dev nD) : ∀ n, Above 1 (oR0 c n)
  | 0 => above_zero _
  | n + 1 => above_add (above_oR0 c n) (above_tally _ _ _ (by rw [lv_R0]; decide))
theorem above_oB0 (c : Dev nD) : ∀ n, Above 0 (oB0 c n)
  | 0 => (above_oR0 c 3).mono (by decide)
  | n + 1 => above_add (above_oB0 c n) (above_tally _ _ _ (by rw [lv_B0]; decide))
theorem above_oR1 (c : Dev nD) : ∀ n, Above 3 (oR1 c n)
  | 0 => above_zero _
  | n + 1 => above_add (above_oR1 c n) (above_tally _ _ _ (by rw [lv_Rc1]; decide))
theorem above_oB1 (c : Dev nD) : ∀ n, Above 2 (oB1 c n)
  | 0 => (above_oR1 c 24).mono (by decide)
  | n + 1 => above_add (above_oB1 c n) (above_tally _ _ _ (by rw [lv_B1]; decide))

/-- A wait on a cell at level at most `n`, everything owed above. -/
theorem mayWait (c : Dev nD) (sm : SemLoc sig) (n : ℕ) (O : CellTallies nD τ sig Unit) (h : Above n O)
    (hl : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1)
    (fun p hp => by rw [Finset.mem_singleton.mp hp]; exact hl)
    (fun g u hg => (h g u hg).2)

/-! ## The cells' records -/

abbrev IsBar (g : GSem nD τ sig) : Prop := g.1.2 = .tc ∧ (match g.2 with | .reg _ => True | .dma _ => False)
abbrev IsSc (g : GSem nD τ sig) : Prop := g.1.2 = .tc ∧ (match g.2 with | .reg _ => False | .dma n => Own n.val)

end Cert.KernelIdeal.A2A
-- ==== Proof.IdealNorm.lean ====
/- The two talking calls as plain sequences of memory operations. -/
module

public import proofs.«01_k».proof.Proof.IdealSched

@[expose] public section

set_option maxRecDepth 65536

noncomputable section

namespace Cert.KernelIdeal.A2A

open Idealize.ShloMosaic Idealize.ShloMosaic.TcCoe
open Idealize.SL Idealize.SL.Sem
open Cert.KernelIdeal Cert.KernelIdeal.Gen

variable {F : FTy → Type} [FloatOps F]

abbrev Pg (F : FTy → Type) : Type 1 := Prog (TpuEff nD τ sig (Elt F) Λ₀ .tc) PUnit

/-! The scalar words the two bodies compute from the device they run on. -/

def w0_127 (d0 : Dev nD) : BitVec 1 := Scalar.cmpi .eq 4#32 0#32
def w0_128 (d0 : Dev nD) : BitVec 32 := Scalar.select (w0_127 d0) 1#32 4#32
def w0_0 (d0 : Dev nD) : BitVec 32 := Dev.word d0
def w0_1 (d0 : Dev nD) : BitVec 32 := Scalar.divsi (w0_0 d0) 1#32
def w0_2 (d0 : Dev nD) : BitVec 32 := Scalar.remsi (w0_1 d0) 4#32
def w0_125 (d0 : Dev nD) : BitVec 32 := Scalar.addi (w0_2 d0) 1#32
def w0_126 (d0 : Dev nD) : BitVec 32 := Scalar.addi (w0_125 d0) 2#32
def w0_129 (d0 : Dev nD) : BitVec 32 := Scalar.remsi (w0_126 d0) (w0_128 d0)
def w0_130 (d0 : Dev nD) : BitVec 1 := Scalar.cmpi .ne (w0_129 d0) 0#32
def w0_131 (d0 : Dev nD) : BitVec 1 := Scalar.cmpi .slt (w0_129 d0) 0#32
def w1_0 (d0 : Dev nD) : BitVec 32 := Dev.word d0
def w1_1 (d0 : Dev nD) : BitVec 32 := Scalar.divsi (w1_0 d0) 1#32
def w1_2 (d0 : Dev nD) : BitVec 32 := Scalar.remsi (w1_1 d0) 4#32
def w1_1006 (d0 : Dev nD) : BitVec 32 := Scalar.addi (w1_2 d0) 1#32
def w1_1007 (d0 : Dev nD) : BitVec 1 := Scalar.cmpi .eq 4#32 0#32
def w1_1008 (d0 : Dev nD) : BitVec 32 := Scalar.select (w1_1007 d0) 1#32 4#32
def w1_1009 (d0 : Dev nD) : BitVec 32 := Scalar.remsi (w1_1006 d0) (w1_1008 d0)
def w1_1011 (d0 : Dev nD) : BitVec 1 := Scalar.cmpi .slt (w1_1009 d0) 0#32
def w1_1012 (d0 : Dev nD) : BitVec 1 := Scalar.cmpi .slt (w1_1008 d0) 0#32
def w1_1013 (d0 : Dev nD) : BitVec 1 := Scalar.xori (w1_1011 d0) (w1_1012 d0)
def w1_1010 (d0 : Dev nD) : BitVec 1 := Scalar.cmpi .ne (w1_1009 d0) 0#32
def w1_1014 (d0 : Dev nD) : BitVec 1 := Scalar.andi (w1_1013 d0) (w1_1010 d0)
def w1_1015 (d0 : Dev nD) : BitVec 32 := Scalar.addi (w1_1009 d0) (w1_1008 d0)
def w1_1016 (d0 : Dev nD) : BitVec 32 := Scalar.select (w1_1014 d0) (w1_1015 d0) (w1_1009 d0)
def w1_786 (d0 : Dev nD) : BitVec 1 := Scalar.cmpi .eq 4#32 0#32
def w1_787 (d0 : Dev nD) : BitVec 32 := Scalar.select (w1_786 d0) 1#32 4#32
def w1_785 (d0 : Dev nD) : BitVec 32 := Scalar.addi (w1_2 d0) 0#32
def w1_788 (d0 : Dev nD) : BitVec 32 := Scalar.remsi (w1_785 d0) (w1_787 d0)
def w1_790 (d0 : Dev nD) : BitVec 1 := Scalar.cmpi .slt (w1_788 d0) 0#32
def w1_791 (d0 : Dev nD) : BitVec 1 := Scalar.cmpi .slt (w1_787 d0) 0#32
def w1_792 (d0 : Dev nD) : BitVec 1 := Scalar.xori (w1_790 d0) (w1_791 d0)
def w1_789 (d0 : Dev nD) : BitVec 1 := Scalar.cmpi .ne (w1_788 d0) 0#32
def w1_793 (d0 : Dev nD) : BitVec 1 := Scalar.andi (w1_792 d0) (w1_789 d0)
def w1_816 (d0 : Dev nD) : BitVec 32 := Scalar.addi (w1_2 d0) 3#32
def w1_817 (d0 : Dev nD) : BitVec 1 := Scalar.cmpi .eq 4#32 0#32
def w1_818 (d0 : Dev nD) : BitVec 32 := Scalar.select (w1_817 d0) 1#32 4#32
def w1_819 (d0 : Dev nD) : BitVec 32 := Scalar.remsi (w1_816 d0) (w1_818 d0)
def w1_821 (d0 : Dev nD) : BitVec 1 := Scalar.cmpi .slt (w1_819 d0) 0#32
def w1_822 (d0 : Dev nD) : BitVec 1 := Scalar.cmpi .slt (w1_818 d0) 0#32
def w1_823 (d0 : Dev nD) : BitVec 1 := Scalar.xori (w1_821 d0) (w1_822 d0)
def w1_820 (d0 : Dev nD) : BitVec 1 := Scalar.cmpi .ne (w1_819 d0) 0#32
def w1_824 (d0 : Dev nD) : BitVec 1 := Scalar.andi (w1_823 d0) (w1_820 d0)
def w1_825 (d0 : Dev nD) : BitVec 32 := Scalar.addi (w1_819 d0) (w1_818 d0)
def w1_826 (d0 : Dev nD) : BitVec 32 := Scalar.select (w1_824 d0) (w1_825 d0) (w1_819 d0)
def w1_911 (d0 : Dev nD) : BitVec 32 := Scalar.addi (w1_2 d0) 2#32
def w1_912 (d0 : Dev nD) : BitVec 1 := Scalar.cmpi .eq 4#32 0#32
def w1_913 (d0 : Dev nD) : BitVec 32 := Scalar.select (w1_912 d0) 1#32 4#32
def w1_914 (d0 : Dev nD) : BitVec 32 := Scalar.remsi (w1_911 d0) (w1_913 d0)
def w1_916 (d0 : Dev nD) : BitVec 1 := Scalar.cmpi .slt (w1_914 d0) 0#32
def w1_917 (d0 : Dev nD) : BitVec 1 := Scalar.cmpi .slt (w1_913 d0) 0#32
def w1_918 (d0 : Dev nD) : BitVec 1 := Scalar.xori (w1_916 d0) (w1_917 d0)
def w1_915 (d0 : Dev nD) : BitVec 1 := Scalar.cmpi .ne (w1_914 d0) 0#32
def w1_919 (d0 : Dev nD) : BitVec 1 := Scalar.andi (w1_918 d0) (w1_915 d0)
def w1_920 (d0 : Dev nD) : BitVec 32 := Scalar.addi (w1_914 d0) (w1_913 d0)
def w1_921 (d0 : Dev nD) : BitVec 32 := Scalar.select (w1_919 d0) (w1_920 d0) (w1_914 d0)

/-- What the first call stores in a tile at its `k`-th step; step 3 is the bucket the device keeps. -/
def bkt (d0 : Dev nD) (k : Fin 4) (a : Vec F S1x2048 .i32) (x : Vec F S2048x512 .bf16) : Vec F S1x8x160x512 .bf16 :=
  match k with
  | 0 => k0_pay3 (k0_pay1 (w0_2 d0) a) (k0_pay2 x)
  | 1 => k0_pay5 (k0_pay4 (w0_2 d0)) a x
  | 2 => k0_pay6 (w0_128 d0) (w0_129 d0) (w0_130 d0) (w0_131 d0) a x
  | 3 => k0_pay8 ((k0_pay7 (w0_2 d0) a x))

/-- The product of a slab with an expert, as stored in a tile, and as kept. -/
def ptile (a : Vec F S1x1x160x512 .bf16) (b : Vec F S1x512x1024 .bf16) : FVec F S1x160x1024 .bf16 := k1_pay3 a b
def pown (a : Vec F S1x1x160x512 .bf16) (b : Vec F S1x512x1024 .bf16) : FVec F S1x1x160x1024 .bf16 := k1_pay32 a b

/-- What the second call stores in its output, first and after each of the four slabs. -/
def pout0 (x : Vec F S2048x512 .f32) (w : Vec F S512x1024 .f32) : FVec F S2048x1024 .f32 := k1_pay42 x w
def pout1 (d0 : Dev nD) (s : Vec F S2048x1 .i32) (y : Vec F S1x8x160x1024 .bf16) (o : Vec F S2048x1024 .f32) : FVec F S2048x1024 .f32 := k1_pay43 (w1_787 d0) (w1_788 d0) (w1_793 d0) s y o
def pout2 (d0 : Dev nD) (s : Vec F S2048x1 .i32) (y : Vec F S1x8x160x1024 .bf16) (o : Vec F S2048x1024 .f32) : FVec F S2048x1024 .f32 := k1_pay46 (k1_pay44 (w1_826 d0) s) (k1_pay45 y) o
def pout3 (d0 : Dev nD) (s : Vec F S2048x1 .i32) (y : Vec F S1x8x160x1024 .bf16) (o : Vec F S2048x1024 .f32) : FVec F S2048x1024 .f32 := k1_pay47 (w1_921 d0) s y o
def pout4 (d0 : Dev nD) (s : Vec F S2048x1 .i32) (y : Vec F S1x8x160x1024 .bf16) (o : Vec F S2048x1024 .f32) : FVec F S2048x1024 .f32 := k1_pay49 (iota .tc S2048x1280 32 [1] iota_S2048x1280_d1_w32) (k1_pay48 (w1_1016 d0)) s y o

/-! ## The steps of the two bodies -/

abbrev InbT (o : Fin 4 → ℕ) : Prop := ∀ a, o a + S1x8x160x512.size a ≤ S2x8x160x512.size a
abbrev InbR (o : Fin 4 → ℕ) : Prop := ∀ a, o a + S1x8x160x512.size a ≤ S4x8x160x512.size a
abbrev InbA (o : Fin 4 → ℕ) : Prop := ∀ a, o a + S1x1x160x512.size a ≤ S4x8x160x512.size a
abbrev InbW (o : Fin 3 → ℕ) : Prop := ∀ a, o a + S1x512x1024.size a ≤ S8x512x1024.size a
abbrev InbU (o : Fin 3 → ℕ) : Prop := ∀ a, o a + S1x160x1024.size a ≤ S2x160x1024.size a
abbrev InbY (o : Fin 4 → ℕ) : Prop := ∀ a, o a + S1x1x160x1024.size a ≤ S4x8x160x1024.size a
abbrev InbZ (o : Fin 4 → ℕ) : Prop := ∀ a, o a + S1x8x160x1024.size a ≤ S4x8x160x1024.size a

abbrev qT (o : Fin 4 → ℕ) (h : InbT o) : Rect S2x8x160x512 := Rect.unit (s := S2x8x160x512) o S1x8x160x512.size h
abbrev qR (o : Fin 4 → ℕ) (h : InbR o) : Rect S4x8x160x512 := Rect.unit (s := S4x8x160x512) o S1x8x160x512.size h
abbrev qA (o : Fin 4 → ℕ) (h : InbA o) : Rect S4x8x160x512 := Rect.unit (s := S4x8x160x512) o S1x1x160x512.size h
abbrev qW (o : Fin 3 → ℕ) (h : InbW o) : Rect S8x512x1024 := Rect.unit (s := S8x512x1024) o S1x512x1024.size h
abbrev qU (o : Fin 3 → ℕ) (h : InbU o) : Rect S2x160x1024 := Rect.unit (s := S2x160x1024) o S1x160x1024.size h
abbrev qY (o : Fin 4 → ℕ) (h : InbY o) : Rect S4x8x160x1024 := Rect.unit (s := S4x8x160x1024) o S1x1x160x1024.size h
abbrev qZ (o : Fin 4 → ℕ) (h : InbZ o) : Rect S4x8x160x1024 := Rect.unit (s := S4x8x160x1024) o S1x8x160x1024.size h

abbrev sT (o : Fin 4 → ℕ) (h : InbT o) : Memref sig .tc .vmem S8x160x512 .bf16 := (mT.slice (qT o h) (fun _ => rfl)).squeeze S8x160x512 squeezes_S1x8x160x512_S8x160x512
abbrev sR (o : Fin 4 → ℕ) (h : InbR o) : Memref sig .tc .hbm S8x160x512 .bf16 := (mR.slice (qR o h) (fun _ => rfl)).squeeze S8x160x512 squeezes_S1x8x160x512_S8x160x512
abbrev sU (o : Fin 3 → ℕ) (h : InbU o) : Memref sig .tc .vmem S160x1024 .bf16 := (mU.slice (qU o h) (fun _ => rfl)).squeeze S160x1024 squeezes_S1x160x1024_S160x1024
abbrev sY (o : Fin 4 → ℕ) (h : InbY o) : Memref sig .tc .vmem S160x1024 .bf16 := (mY.slice (qY o h) (fun _ => rfl)).squeeze S160x1024 squeezes_S1x1x160x1024_S160x1024

/-- A tile of the first call made from the two staged operands. -/
def fill (arg0 : Memref sig .tc .vmem S1x2048 .i32) (arg1 : Memref sig .tc .vmem S2048x512 .bf16) (o : Fin 4 → ℕ) (h : InbT o)
    (f : Vec F S1x2048 .i32 → Vec F S2048x512 .bf16 → Vec F S1x8x160x512 .bf16) (hs : (mT.access (qT o h)).Stores Finset.univ) : Pg F := do
  let a : Vec F S1x2048 .i32 ← Prog.lift (.load arg0 (Rect.unit (s := S1x2048) ![0, 0] S1x2048.size inb_S1x2048_S1x2048_0_0).toLoadRect (View.loadsAt_vmem h_S1x2048))
  let x : Vec F S2048x512 .bf16 ← Prog.lift (.load arg1 (Rect.unit (s := S2048x512) ![0, 0] S2048x512.size inb_S2048x512_S2048x512_0_0).toLoadRect (View.loadsAt_vmem h_S2048x512))
  let _d : Vec F S1x8x160x512 .bf16 ← Prog.lift (.load mT (qT o h).toLoadRect (View.loadsAt_vmem h_S1x8x160x512))
  Prog.lift (.store mT (qT o h) (f a x) Finset.univ hs (.inl rfl))
/-- A tile sent to its device, kept on the own device, and the waits for either end. -/
def fire0 (v : Dev nD) (ss rs : DmaSem sig) (o : Fin 4 → ℕ) (h : InbT o) (p : Fin 4 → ℕ) (hp : InbR p) (w1 : (sT o h).view.WordExact) (w2 : (sR p hp).view.WordExact) : Pg F :=
  Prog.lift (.enqueueDma (sT o h) (.remote (Dev.tc v) (sR p hp) (.dma ss)) (.dma rs) w1 w2 ⟨⟨rfl, Or.inl rfl⟩, trivial⟩)
def keep (o : Fin 4 → ℕ) (h : InbT o) (p : Fin 4 → ℕ) (hp : InbR p) (w1 : (sT o h).view.WordExact) (w2 : (sR p hp).view.WordExact) : Pg F :=
  Prog.lift (.enqueueDma (sT o h) (.here (sR p hp)) (.dma sC0) w1 w2 ⟨Or.inl rfl, trivial⟩)
def waitT (s : DmaSem sig) (o : Fin 4 → ℕ) (h : InbT o) (p : Fin 4 → ℕ) (hp : InbR p) (w2 : (sR p hp).view.WordExact) (w1 : (sT o h).view.WordExact) : Pg F :=
  Prog.lift (.waitDma2 s (sR p hp) (sT o h) w2 w1)
def waitR (s : DmaSem sig) (o : Fin 4 → ℕ) (h : InbT o) (p : Fin 4 → ℕ) (hp : InbR p) (w1 : (sT o h).view.WordExact) (w2 : (sR p hp).view.WordExact) : Pg F :=
  Prog.lift (.waitDma2 s (sT o h) (sR p hp) w1 w2)

/-! The two tiles are read and written by whole words. -/

theorem wordU0 : (sU ![0, 0, 0] inb_S2x160x1024_S1x160x1024_0_0_0).view.WordExact :=
  ((Memref.isWhole_whole cc1_scratch0).wordExact_slice rfl _ wordsbf16_S2x160x1024_S1x160x1024_0_0_0).reshape _ _
theorem storeU0 : (mU.access (qU ![0, 0, 0] inb_S2x160x1024_S1x160x1024_0_0_0)).Stores Finset.univ :=
  View.stores_vmem h_S1x160x1024 ((Memref.isWhole_whole cc1_scratch0).storeExact_slice rfl _ packedbf16_S2x160x1024_S1x160x1024_0_0_0) (fun _ => rfl)
theorem wordU1 : (sU ![1, 0, 0] inb_S2x160x1024_S1x160x1024_1_0_0).view.WordExact :=
  ((Memref.isWhole_whole cc1_scratch0).wordExact_slice rfl _ wordsbf16_S2x160x1024_S1x160x1024_1_0_0).reshape _ _
theorem storeU1 : (mU.access (qU ![1, 0, 0] inb_S2x160x1024_S1x160x1024_1_0_0)).Stores Finset.univ :=
  View.stores_vmem h_S1x160x1024 ((Memref.isWhole_whole cc1_scratch0).storeExact_slice rfl _ packedbf16_S2x160x1024_S1x160x1024_1_0_0) (fun _ => rfl)

/-- A tile of the second call: the product of a received slab with an expert. -/
def mkTile (arg0 : Memref sig .tc .vmem S4x8x160x512 .bf16) (arg1 : Memref sig .tc .vmem S8x512x1024 .bf16) (o0 : Fin 4 → ℕ) (h0 : InbA o0)
    (o1 : Fin 3 → ℕ) (h1 : InbW o1) (o : Fin 3 → ℕ) (h : InbU o) (hs : (mU.access (qU o h)).Stores Finset.univ) : Pg F := do
  let a : Vec F S1x1x160x512 .bf16 ← Prog.lift (.load arg0 (qA o0 h0).toLoadRect (View.loadsAt_vmem h_S1x1x160x512))
  let b : Vec F S1x512x1024 .bf16 ← Prog.lift (.load arg1 (qW o1 h1).toLoadRect (View.loadsAt_vmem h_S1x512x1024))
  let _d : Vec F S1x160x1024 .bf16 ← Prog.lift (.load mU (qU o h).toLoadRect (View.loadsAt_vmem h_S1x160x1024))
  Prog.lift (.store mU (qU o h) (ptile a b) Finset.univ hs (.inl rfl))
/-- The product the device keeps, stored straight in its receive buffer. -/
def mkOwn (arg0 : Memref sig .tc .vmem S4x8x160x512 .bf16) (arg1 : Memref sig .tc .vmem S8x512x1024 .bf16) (o0 : Fin 4 → ℕ) (h0 : InbA o0)
    (o1 : Fin 3 → ℕ) (h1 : InbW o1) (o : Fin 4 → ℕ) (h : InbY o) (hs : (mY.access (qY o h)).Stores Finset.univ) : Pg F := do
  let a : Vec F S1x1x160x512 .bf16 ← Prog.lift (.load arg0 (qA o0 h0).toLoadRect (View.loadsAt_vmem h_S1x1x160x512))
  let b : Vec F S1x512x1024 .bf16 ← Prog.lift (.load arg1 (qW o1 h1).toLoadRect (View.loadsAt_vmem h_S1x512x1024))
  let _d : Vec F S1x1x160x1024 .bf16 ← Prog.lift (.load mY (qY o h).toLoadRect (View.loadsAt_vmem h_S1x1x160x1024))
  Prog.lift (.store mY (qY o h) (pown a b) Finset.univ hs (.inl rfl))
def fire1 (v : Dev nD) (ss rs : DmaSem sig) (o : Fin 3 → ℕ) (h : InbU o) (p : Fin 4 → ℕ) (hp : InbY p) (w1 : (sU o h).view.WordExact) (w2 : (sY p hp).view.WordExact) : Pg F :=
  Prog.lift (.enqueueDma (sU o h) (.remote (Dev.tc v) (sY p hp) (.dma ss)) (.dma rs) w1 w2 ⟨⟨rfl, Or.inl rfl⟩, trivial⟩)
def waitU (s : DmaSem sig) (o : Fin 3 → ℕ) (h : InbU o) (p : Fin 4 → ℕ) (hp : InbY p) (w2 : (sY p hp).view.WordExact) (w1 : (sU o h).view.WordExact) : Pg F :=
  Prog.lift (.waitDma2 s (sY p hp) (sU o h) w2 w1)
def waitY (s : DmaSem sig) (o : Fin 3 → ℕ) (h : InbU o) (p : Fin 4 → ℕ) (hp : InbY p) (w1 : (sU o h).view.WordExact) (w2 : (sY p hp).view.WordExact) : Pg F :=
  Prog.lift (.waitDma2 s (sU o h) (sY p hp) w1 w2)
/-- The output begun with the shared product, and a slab of products added to it. -/
def base (arg3 : Memref sig .tc .vmem S2048x512 .f32) (arg4 : Memref sig .tc .vmem S512x1024 .f32) (arg5 : Memref sig .tc .vmem S2048x1024 .f32)
    (hs : (arg5.access (Rect.unit (s := S2048x1024) ![0, 0] S2048x1024.size inb_S2048x1024_S2048x1024_0_0)).Stores Finset.univ) : Pg F := do
  let x : Vec F S2048x512 .f32 ← Prog.lift (.load arg3 (Rect.unit (s := S2048x512) ![0, 0] S2048x512.size inb_S2048x512_S2048x512_0_0).toLoadRect (View.loadsAt_vmem h_S2048x512))
  let w : Vec F S512x1024 .f32 ← Prog.lift (.load arg4 (Rect.unit (s := S512x1024) ![0, 0] S512x1024.size inb_S512x1024_S512x1024_0_0).toLoadRect (View.loadsAt_vmem h_S512x1024))
  let _d : Vec F S2048x1024 .f32 ← Prog.lift (.load arg5 (Rect.unit (s := S2048x1024) ![0, 0] S2048x1024.size inb_S2048x1024_S2048x1024_0_0).toLoadRect (View.loadsAt_vmem h_S2048x1024))
  Prog.lift (.store arg5 (Rect.unit (s := S2048x1024) ![0, 0] S2048x1024.size inb_S2048x1024_S2048x1024_0_0) (pout0 x w) Finset.univ hs (.inl rfl))
def comb (arg2 : Memref sig .tc .vmem S2048x1 .i32) (arg5 : Memref sig .tc .vmem S2048x1024 .f32) (o : Fin 4 → ℕ) (h : InbZ o)
    (f : Vec F S2048x1 .i32 → Vec F S1x8x160x1024 .bf16 → Vec F S2048x1024 .f32 → Vec F S2048x1024 .f32)
    (hs : (arg5.access (Rect.unit (s := S2048x1024) ![0, 0] S2048x1024.size inb_S2048x1024_S2048x1024_0_0)).Stores Finset.univ) : Pg F := do
  let t : Vec F S2048x1 .i32 ← Prog.lift (.load arg2 (Rect.unit (s := S2048x1) ![0, 0] S2048x1.size inb_S2048x1_S2048x1_0_0).toLoadRect (View.loadsAt_vmem h_S2048x1))
  let y : Vec F S1x8x160x1024 .bf16 ← Prog.lift (.load mY (qZ o h).toLoadRect (View.loadsAt_vmem h_S1x8x160x1024))
  let z : Vec F S2048x1024 .f32 ← Prog.lift (.load arg5 (Rect.unit (s := S2048x1024) ![0, 0] S2048x1024.size inb_S2048x1024_S2048x1024_0_0).toLoadRect (View.loadsAt_vmem h_S2048x1024))
  let _d : Vec F S2048x1024 .f32 ← Prog.lift (.load arg5 (Rect.unit (s := S2048x1024) ![0, 0] S2048x1024.size inb_S2048x1024_S2048x1024_0_0).toLoadRect (View.loadsAt_vmem h_S2048x1024))
  Prog.lift (.store arg5 (Rect.unit (s := S2048x1024) ![0, 0] S2048x1024.size inb_S2048x1024_S2048x1024_0_0) (f t y z) Finset.univ hs (.inl rfl))

/-- The first call. -/
def norm0 (arg0 : Memref sig .tc .vmem S1x2048 .i32) (harg0 : arg0.IsWhole) (arg1 : Memref sig .tc .vmem S2048x512 .bf16) (harg1 : arg1.IsWhole) : Pg F := do
  let d0 : Dev nD ← Prog.lift .deviceId
  semSignalWord (⟨k0_dev1 d0, k0_dev1_lt d0⟩ : Dev nD) bar0 1#32
  semSignalWord (⟨k0_dev2 d0, k0_dev2_lt d0⟩ : Dev nD) bar0 1#32
  semSignalWord (⟨k0_dev3 d0, k0_dev3_lt d0⟩ : Dev nD) bar0 1#32
  semWaitWord bar0 3#32
  fill arg0 arg1 ![0, 0, 0, 0] inb_S2x8x160x512_S1x8x160x512_0_0_0_0 (bkt d0 0) (View.stores_vmem h_S1x8x160x512 ((Memref.isWhole_whole cc0_scratch0).storeExact_slice rfl _ packedbf16_S2x8x160x512_S1x8x160x512_0_0_0_0) (fun _ => rfl))
  fire0 (⟨k0_dev4 d0, k0_dev4_lt d0⟩ : Dev nD) (sS0 0) (sR0 0) ![0, 0, 0, 0] inb_S2x8x160x512_S1x8x160x512_0_0_0_0 (k0_off1 d0) (k0_off1_inb d0) (((Memref.isWhole_whole cc0_scratch0).wordExact_slice rfl _ wordsbf16_S2x8x160x512_S1x8x160x512_0_0_0_0).reshape _ _) (((Memref.isWhole_whole main_v38).wordExact_slice rfl _ (k0_off1_wordsbf16 d0)).reshape _ _)
  fill arg0 arg1 ![1, 0, 0, 0] inb_S2x8x160x512_S1x8x160x512_1_0_0_0 (bkt d0 1) (View.stores_vmem h_S1x8x160x512 ((Memref.isWhole_whole cc0_scratch0).storeExact_slice rfl _ packedbf16_S2x8x160x512_S1x8x160x512_1_0_0_0) (fun _ => rfl))
  fire0 (⟨k0_dev5 d0, k0_dev5_lt d0⟩ : Dev nD) (sS0 1) (sR0 1) ![1, 0, 0, 0] inb_S2x8x160x512_S1x8x160x512_1_0_0_0 (k0_off1 d0) (k0_off1_inb d0) (((Memref.isWhole_whole cc0_scratch0).wordExact_slice rfl _ wordsbf16_S2x8x160x512_S1x8x160x512_1_0_0_0).reshape _ _) (((Memref.isWhole_whole main_v38).wordExact_slice rfl _ (k0_off1_wordsbf16 d0)).reshape _ _)
  waitT (sS0 0) ![0, 0, 0, 0] inb_S2x8x160x512_S1x8x160x512_0_0_0_0 (k0_off1 d0) (k0_off1_inb d0) (((Memref.isWhole_whole main_v38).wordExact_slice rfl _ (k0_off1_wordsbf16 d0)).reshape _ _) (((Memref.isWhole_whole cc0_scratch0).wordExact_slice rfl _ wordsbf16_S2x8x160x512_S1x8x160x512_0_0_0_0).reshape _ _)
  fill arg0 arg1 ![0, 0, 0, 0] inb_S2x8x160x512_S1x8x160x512_0_0_0_0 (bkt d0 2) (View.stores_vmem h_S1x8x160x512 ((Memref.isWhole_whole cc0_scratch0).storeExact_slice rfl _ packedbf16_S2x8x160x512_S1x8x160x512_0_0_0_0) (fun _ => rfl))
  fire0 (⟨k0_dev6 d0, k0_dev6_lt d0⟩ : Dev nD) (sS0 2) (sR0 2) ![0, 0, 0, 0] inb_S2x8x160x512_S1x8x160x512_0_0_0_0 (k0_off1 d0) (k0_off1_inb d0) (((Memref.isWhole_whole cc0_scratch0).wordExact_slice rfl _ wordsbf16_S2x8x160x512_S1x8x160x512_0_0_0_0).reshape _ _) (((Memref.isWhole_whole main_v38).wordExact_slice rfl _ (k0_off1_wordsbf16 d0)).reshape _ _)
  waitT (sS0 1) ![1, 0, 0, 0] inb_S2x8x160x512_S1x8x160x512_1_0_0_0 (k0_off1 d0) (k0_off1_inb d0) (((Memref.isWhole_whole main_v38).wordExact_slice rfl _ (k0_off1_wordsbf16 d0)).reshape _ _) (((Memref.isWhole_whole cc0_scratch0).wordExact_slice rfl _ wordsbf16_S2x8x160x512_S1x8x160x512_1_0_0_0).reshape _ _)
  fill arg0 arg1 ![1, 0, 0, 0] inb_S2x8x160x512_S1x8x160x512_1_0_0_0 (bkt d0 3) (View.stores_vmem h_S1x8x160x512 ((Memref.isWhole_whole cc0_scratch0).storeExact_slice rfl _ packedbf16_S2x8x160x512_S1x8x160x512_1_0_0_0) (fun _ => rfl))
  keep ![1, 0, 0, 0] inb_S2x8x160x512_S1x8x160x512_1_0_0_0 (k0_off1 d0) (k0_off1_inb d0) (((Memref.isWhole_whole cc0_scratch0).wordExact_slice rfl _ wordsbf16_S2x8x160x512_S1x8x160x512_1_0_0_0).reshape _ _) (((Memref.isWhole_whole main_v38).wordExact_slice rfl _ (k0_off1_wordsbf16 d0)).reshape _ _)
  waitR sC0 ![1, 0, 0, 0] inb_S2x8x160x512_S1x8x160x512_1_0_0_0 (k0_off1 d0) (k0_off1_inb d0) (((Memref.isWhole_whole cc0_scratch0).wordExact_slice rfl _ wordsbf16_S2x8x160x512_S1x8x160x512_1_0_0_0).reshape _ _) (((Memref.isWhole_whole main_v38).wordExact_slice rfl _ (k0_off1_wordsbf16 d0)).reshape _ _)
  waitT (sS0 2) ![0, 0, 0, 0] inb_S2x8x160x512_S1x8x160x512_0_0_0_0 (k0_off1 d0) (k0_off1_inb d0) (((Memref.isWhole_whole main_v38).wordExact_slice rfl _ (k0_off1_wordsbf16 d0)).reshape _ _) (((Memref.isWhole_whole cc0_scratch0).wordExact_slice rfl _ wordsbf16_S2x8x160x512_S1x8x160x512_0_0_0_0).reshape _ _)
  waitR (sR0 0) ![0, 0, 0, 0] inb_S2x8x160x512_S1x8x160x512_0_0_0_0 (k0_off1 d0) (k0_off1_inb d0) (((Memref.isWhole_whole cc0_scratch0).wordExact_slice rfl _ wordsbf16_S2x8x160x512_S1x8x160x512_0_0_0_0).reshape _ _) (((Memref.isWhole_whole main_v38).wordExact_slice rfl _ (k0_off1_wordsbf16 d0)).reshape _ _)
  waitR (sR0 1) ![1, 0, 0, 0] inb_S2x8x160x512_S1x8x160x512_1_0_0_0 (k0_off1 d0) (k0_off1_inb d0) (((Memref.isWhole_whole cc0_scratch0).wordExact_slice rfl _ wordsbf16_S2x8x160x512_S1x8x160x512_1_0_0_0).reshape _ _) (((Memref.isWhole_whole main_v38).wordExact_slice rfl _ (k0_off1_wordsbf16 d0)).reshape _ _)
  waitR (sR0 2) ![0, 0, 0, 0] inb_S2x8x160x512_S1x8x160x512_0_0_0_0 (k0_off1 d0) (k0_off1_inb d0) (((Memref.isWhole_whole cc0_scratch0).wordExact_slice rfl _ wordsbf16_S2x8x160x512_S1x8x160x512_0_0_0_0).reshape _ _) (((Memref.isWhole_whole main_v38).wordExact_slice rfl _ (k0_off1_wordsbf16 d0)).reshape _ _)
  pure ⟨⟩

theorem body0_eq (arg0 : Memref sig .tc .vmem S1x2048 .i32) (harg0 : arg0.IsWhole) (arg1 : Memref sig .tc .vmem S2048x512 .bf16) (harg1 : arg1.IsWhole) :
    cc0__group_dispatch_body_skel (F := F) arg0 harg0 arg1 harg1 (Memref.whole main_v38) (Memref.isWhole_whole _) (Memref.whole cc0_scratch0) (Memref.isWhole_whole _) cc0_scratch1 cc0_scratch2 cc0_scratch3 = norm0 arg0 harg0 arg1 harg1 := rfl

/-- The second call. -/
def norm1 (arg0 : Memref sig .tc .vmem S4x8x160x512 .bf16) (harg0 : arg0.IsWhole) (arg1 : Memref sig .tc .vmem S8x512x1024 .bf16) (harg1 : arg1.IsWhole) (arg2 : Memref sig .tc .vmem S2048x1 .i32) (harg2 : arg2.IsWhole) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) : Pg F := do
  let d0 : Dev nD ← Prog.lift .deviceId
  semSignalWord (⟨k1_dev1 d0, k1_dev1_lt d0⟩ : Dev nD) bar1 1#32
  semSignalWord (⟨k1_dev2 d0, k1_dev2_lt d0⟩ : Dev nD) bar1 1#32
  semSignalWord (⟨k1_dev3 d0, k1_dev3_lt d0⟩ : Dev nD) bar1 1#32
  semWaitWord bar1 3#32
  mkTile arg0 arg1 (k1_off1 d0 0#32) (k1_off1_inb d0 0) ![0, 0, 0] inb_S8x512x1024_S1x512x1024_0_0_0 ![0, 0, 0] inb_S2x160x1024_S1x160x1024_0_0_0 storeU0
  fire1 (⟨k1_dev4 d0, k1_dev4_lt d0⟩ : Dev nD) (sS1 0) (sR1 0) ![0, 0, 0] inb_S2x160x1024_S1x160x1024_0_0_0 (k1_off2 d0) (k1_off2_inb d0) wordU0 (((Memref.isWhole_whole cc1_scratch1).wordExact_slice rfl _ (k1_off2_wordsbf16 d0)).reshape _ _)
  mkTile arg0 arg1 (k1_off3 d0 0#32) (k1_off3_inb d0 0) ![1, 0, 0] inb_S8x512x1024_S1x512x1024_1_0_0 ![1, 0, 0] inb_S2x160x1024_S1x160x1024_1_0_0 storeU1
  fire1 (⟨k1_dev5 d0, k1_dev5_lt d0⟩ : Dev nD) (sS1 1) (sR1 1) ![1, 0, 0] inb_S2x160x1024_S1x160x1024_1_0_0 (k1_off4 d0) (k1_off4_inb d0) wordU1 (((Memref.isWhole_whole cc1_scratch1).wordExact_slice rfl _ (k1_off4_wordsbf16 d0)).reshape _ _)
  waitU (sS1 0) ![0, 0, 0] inb_S2x160x1024_S1x160x1024_0_0_0 (k1_off2 d0) (k1_off2_inb d0) (((Memref.isWhole_whole cc1_scratch1).wordExact_slice rfl _ (k1_off2_wordsbf16 d0)).reshape _ _) wordU0
  mkTile arg0 arg1 (k1_off5 d0 0#32) (k1_off5_inb d0 0) ![2, 0, 0] inb_S8x512x1024_S1x512x1024_2_0_0 ![0, 0, 0] inb_S2x160x1024_S1x160x1024_0_0_0 storeU0
  fire1 (⟨k1_dev6 d0, k1_dev6_lt d0⟩ : Dev nD) (sS1 2) (sR1 2) ![0, 0, 0] inb_S2x160x1024_S1x160x1024_0_0_0 (k1_off6 d0) (k1_off6_inb d0) wordU0 (((Memref.isWhole_whole cc1_scratch1).wordExact_slice rfl _ (k1_off6_wordsbf16 d0)).reshape _ _)
  waitU (sS1 1) ![1, 0, 0] inb_S2x160x1024_S1x160x1024_1_0_0 (k1_off4 d0) (k1_off4_inb d0) (((Memref.isWhole_whole cc1_scratch1).wordExact_slice rfl _ (k1_off4_wordsbf16 d0)).reshape _ _) wordU1
  mkTile arg0 arg1 (k1_off7 d0 0#32) (k1_off7_inb d0 0) ![3, 0, 0] inb_S8x512x1024_S1x512x1024_3_0_0 ![1, 0, 0] inb_S2x160x1024_S1x160x1024_1_0_0 storeU1
  fire1 (⟨k1_dev7 d0, k1_dev7_lt d0⟩ : Dev nD) (sS1 3) (sR1 3) ![1, 0, 0] inb_S2x160x1024_S1x160x1024_1_0_0 (k1_off8 d0) (k1_off8_inb d0) wordU1 (((Memref.isWhole_whole cc1_scratch1).wordExact_slice rfl _ (k1_off8_wordsbf16 d0)).reshape _ _)
  waitU (sS1 2) ![0, 0, 0] inb_S2x160x1024_S1x160x1024_0_0_0 (k1_off6 d0) (k1_off6_inb d0) (((Memref.isWhole_whole cc1_scratch1).wordExact_slice rfl _ (k1_off6_wordsbf16 d0)).reshape _ _) wordU0
  mkTile arg0 arg1 (k1_off9 d0 0#32) (k1_off9_inb d0 0) ![4, 0, 0] inb_S8x512x1024_S1x512x1024_4_0_0 ![0, 0, 0] inb_S2x160x1024_S1x160x1024_0_0_0 storeU0
  fire1 (⟨k1_dev8 d0, k1_dev8_lt d0⟩ : Dev nD) (sS1 4) (sR1 4) ![0, 0, 0] inb_S2x160x1024_S1x160x1024_0_0_0 (k1_off10 d0) (k1_off10_inb d0) wordU0 (((Memref.isWhole_whole cc1_scratch1).wordExact_slice rfl _ (k1_off10_wordsbf16 d0)).reshape _ _)
  waitU (sS1 3) ![1, 0, 0] inb_S2x160x1024_S1x160x1024_1_0_0 (k1_off8 d0) (k1_off8_inb d0) (((Memref.isWhole_whole cc1_scratch1).wordExact_slice rfl _ (k1_off8_wordsbf16 d0)).reshape _ _) wordU1
  mkTile arg0 arg1 (k1_off11 d0 0#32) (k1_off11_inb d0 0) ![5, 0, 0] inb_S8x512x1024_S1x512x1024_5_0_0 ![1, 0, 0] inb_S2x160x1024_S1x160x1024_1_0_0 storeU1
  fire1 (⟨k1_dev9 d0, k1_dev9_lt d0⟩ : Dev nD) (sS1 5) (sR1 5) ![1, 0, 0] inb_S2x160x1024_S1x160x1024_1_0_0 (k1_off12 d0) (k1_off12_inb d0) wordU1 (((Memref.isWhole_whole cc1_scratch1).wordExact_slice rfl _ (k1_off12_wordsbf16 d0)).reshape _ _)
  waitU (sS1 4) ![0, 0, 0] inb_S2x160x1024_S1x160x1024_0_0_0 (k1_off10 d0) (k1_off10_inb d0) (((Memref.isWhole_whole cc1_scratch1).wordExact_slice rfl _ (k1_off10_wordsbf16 d0)).reshape _ _) wordU0
  mkTile arg0 arg1 (k1_off13 d0 0#32) (k1_off13_inb d0 0) ![6, 0, 0] inb_S8x512x1024_S1x512x1024_6_0_0 ![0, 0, 0] inb_S2x160x1024_S1x160x1024_0_0_0 storeU0
  fire1 (⟨k1_dev10 d0, k1_dev10_lt d0⟩ : Dev nD) (sS1 6) (sR1 6) ![0, 0, 0] inb_S2x160x1024_S1x160x1024_0_0_0 (k1_off14 d0) (k1_off14_inb d0) wordU0 (((Memref.isWhole_whole cc1_scratch1).wordExact_slice rfl _ (k1_off14_wordsbf16 d0)).reshape _ _)
  waitU (sS1 5) ![1, 0, 0] inb_S2x160x1024_S1x160x1024_1_0_0 (k1_off12 d0) (k1_off12_inb d0) (((Memref.isWhole_whole cc1_scratch1).wordExact_slice rfl _ (k1_off12_wordsbf16 d0)).reshape _ _) wordU1
  mkTile arg0 arg1 (k1_off15 d0 0#32) (k1_off15_inb d0 0) ![7, 0, 0] inb_S8x512x1024_S1x512x1024_7_0_0 ![1, 0, 0] inb_S2x160x1024_S1x160x1024_1_0_0 storeU1
  fire1 (⟨k1_dev11 d0, k1_dev11_lt d0⟩ : Dev nD) (sS1 7) (sR1 7) ![1, 0, 0] inb_S2x160x1024_S1x160x1024_1_0_0 (k1_off16 d0) (k1_off16_inb d0) wordU1 (((Memref.isWhole_whole cc1_scratch1).wordExact_slice rfl _ (k1_off16_wordsbf16 d0)).reshape _ _)
  waitU (sS1 6) ![0, 0, 0] inb_S2x160x1024_S1x160x1024_0_0_0 (k1_off14 d0) (k1_off14_inb d0) (((Memref.isWhole_whole cc1_scratch1).wordExact_slice rfl _ (k1_off14_wordsbf16 d0)).reshape _ _) wordU0
  mkTile arg0 arg1 (k1_off1 d0 1#32) (k1_off1_inb d0 1) ![0, 0, 0] inb_S8x512x1024_S1x512x1024_0_0_0 ![0, 0, 0] inb_S2x160x1024_S1x160x1024_0_0_0 storeU0
  fire1 (⟨k1_dev12 d0, k1_dev12_lt d0⟩ : Dev nD) (sS1 8) (sR1 8) ![0, 0, 0] inb_S2x160x1024_S1x160x1024_0_0_0 (k1_off2 d0) (k1_off2_inb d0) wordU0 (((Memref.isWhole_whole cc1_scratch1).wordExact_slice rfl _ (k1_off2_wordsbf16 d0)).reshape _ _)
  waitU (sS1 7) ![1, 0, 0] inb_S2x160x1024_S1x160x1024_1_0_0 (k1_off16 d0) (k1_off16_inb d0) (((Memref.isWhole_whole cc1_scratch1).wordExact_slice rfl _ (k1_off16_wordsbf16 d0)).reshape _ _) wordU1
  mkTile arg0 arg1 (k1_off3 d0 1#32) (k1_off3_inb d0 1) ![1, 0, 0] inb_S8x512x1024_S1x512x1024_1_0_0 ![1, 0, 0] inb_S2x160x1024_S1x160x1024_1_0_0 storeU1
  fire1 (⟨k1_dev13 d0, k1_dev13_lt d0⟩ : Dev nD) (sS1 9) (sR1 9) ![1, 0, 0] inb_S2x160x1024_S1x160x1024_1_0_0 (k1_off4 d0) (k1_off4_inb d0) wordU1 (((Memref.isWhole_whole cc1_scratch1).wordExact_slice rfl _ (k1_off4_wordsbf16 d0)).reshape _ _)
  waitU (sS1 8) ![0, 0, 0] inb_S2x160x1024_S1x160x1024_0_0_0 (k1_off2 d0) (k1_off2_inb d0) (((Memref.isWhole_whole cc1_scratch1).wordExact_slice rfl _ (k1_off2_wordsbf16 d0)).reshape _ _) wordU0
  mkTile arg0 arg1 (k1_off5 d0 1#32) (k1_off5_inb d0 1) ![2, 0, 0] inb_S8x512x1024_S1x512x1024_2_0_0 ![0, 0, 0] inb_S2x160x1024_S1x160x1024_0_0_0 storeU0
  fire1 (⟨k1_dev14 d0, k1_dev14_lt d0⟩ : Dev nD) (sS1 10) (sR1 10) ![0, 0, 0] inb_S2x160x1024_S1x160x1024_0_0_0 (k1_off6 d0) (k1_off6_inb d0) wordU0 (((Memref.isWhole_whole cc1_scratch1).wordExact_slice rfl _ (k1_off6_wordsbf16 d0)).reshape _ _)
  waitU (sS1 9) ![1, 0, 0] inb_S2x160x1024_S1x160x1024_1_0_0 (k1_off4 d0) (k1_off4_inb d0) (((Memref.isWhole_whole cc1_scratch1).wordExact_slice rfl _ (k1_off4_wordsbf16 d0)).reshape _ _) wordU1
  mkTile arg0 arg1 (k1_off7 d0 1#32) (k1_off7_inb d0 1) ![3, 0, 0] inb_S8x512x1024_S1x512x1024_3_0_0 ![1, 0, 0] inb_S2x160x1024_S1x160x1024_1_0_0 storeU1
  fire1 (⟨k1_dev15 d0, k1_dev15_lt d0⟩ : Dev nD) (sS1 11) (sR1 11) ![1, 0, 0] inb_S2x160x1024_S1x160x1024_1_0_0 (k1_off8 d0) (k1_off8_inb d0) wordU1 (((Memref.isWhole_whole cc1_scratch1).wordExact_slice rfl _ (k1_off8_wordsbf16 d0)).reshape _ _)
  waitU (sS1 10) ![0, 0, 0] inb_S2x160x1024_S1x160x1024_0_0_0 (k1_off6 d0) (k1_off6_inb d0) (((Memref.isWhole_whole cc1_scratch1).wordExact_slice rfl _ (k1_off6_wordsbf16 d0)).reshape _ _) wordU0
  mkTile arg0 arg1 (k1_off9 d0 1#32) (k1_off9_inb d0 1) ![4, 0, 0] inb_S8x512x1024_S1x512x1024_4_0_0 ![0, 0, 0] inb_S2x160x1024_S1x160x1024_0_0_0 storeU0
  fire1 (⟨k1_dev16 d0, k1_dev16_lt d0⟩ : Dev nD) (sS1 12) (sR1 12) ![0, 0, 0] inb_S2x160x1024_S1x160x1024_0_0_0 (k1_off10 d0) (k1_off10_inb d0) wordU0 (((Memref.isWhole_whole cc1_scratch1).wordExact_slice rfl _ (k1_off10_wordsbf16 d0)).reshape _ _)
  waitU (sS1 11) ![1, 0, 0] inb_S2x160x1024_S1x160x1024_1_0_0 (k1_off8 d0) (k1_off8_inb d0) (((Memref.isWhole_whole cc1_scratch1).wordExact_slice rfl _ (k1_off8_wordsbf16 d0)).reshape _ _) wordU1
  mkTile arg0 arg1 (k1_off11 d0 1#32) (k1_off11_inb d0 1) ![5, 0, 0] inb_S8x512x1024_S1x512x1024_5_0_0 ![1, 0, 0] inb_S2x160x1024_S1x160x1024_1_0_0 storeU1
  fire1 (⟨k1_dev17 d0, k1_dev17_lt d0⟩ : Dev nD) (sS1 13) (sR1 13) ![1, 0, 0] inb_S2x160x1024_S1x160x1024_1_0_0 (k1_off12 d0) (k1_off12_inb d0) wordU1 (((Memref.isWhole_whole cc1_scratch1).wordExact_slice rfl _ (k1_off12_wordsbf16 d0)).reshape _ _)
  waitU (sS1 12) ![0, 0, 0] inb_S2x160x1024_S1x160x1024_0_0_0 (k1_off10 d0) (k1_off10_inb d0) (((Memref.isWhole_whole cc1_scratch1).wordExact_slice rfl _ (k1_off10_wordsbf16 d0)).reshape _ _) wordU0
  mkTile arg0 arg1 (k1_off13 d0 1#32) (k1_off13_inb d0 1) ![6, 0, 0] inb_S8x512x1024_S1x512x1024_6_0_0 ![0, 0, 0] inb_S2x160x1024_S1x160x1024_0_0_0 storeU0
  fire1 (⟨k1_dev18 d0, k1_dev18_lt d0⟩ : Dev nD) (sS1 14) (sR1 14) ![0, 0, 0] inb_S2x160x1024_S1x160x1024_0_0_0 (k1_off14 d0) (k1_off14_inb d0) wordU0 (((Memref.isWhole_whole cc1_scratch1).wordExact_slice rfl _ (k1_off14_wordsbf16 d0)).reshape _ _)
  waitU (sS1 13) ![1, 0, 0] inb_S2x160x1024_S1x160x1024_1_0_0 (k1_off12 d0) (k1_off12_inb d0) (((Memref.isWhole_whole cc1_scratch1).wordExact_slice rfl _ (k1_off12_wordsbf16 d0)).reshape _ _) wordU1
  mkTile arg0 arg1 (k1_off15 d0 1#32) (k1_off15_inb d0 1) ![7, 0, 0] inb_S8x512x1024_S1x512x1024_7_0_0 ![1, 0, 0] inb_S2x160x1024_S1x160x1024_1_0_0 storeU1
  fire1 (⟨k1_dev19 d0, k1_dev19_lt d0⟩ : Dev nD) (sS1 15) (sR1 15) ![1, 0, 0] inb_S2x160x1024_S1x160x1024_1_0_0 (k1_off16 d0) (k1_off16_inb d0) wordU1 (((Memref.isWhole_whole cc1_scratch1).wordExact_slice rfl _ (k1_off16_wordsbf16 d0)).reshape _ _)
  waitU (sS1 14) ![0, 0, 0] inb_S2x160x1024_S1x160x1024_0_0_0 (k1_off14 d0) (k1_off14_inb d0) (((Memref.isWhole_whole cc1_scratch1).wordExact_slice rfl _ (k1_off14_wordsbf16 d0)).reshape _ _) wordU0
  mkTile arg0 arg1 (k1_off1 d0 2#32) (k1_off1_inb d0 2) ![0, 0, 0] inb_S8x512x1024_S1x512x1024_0_0_0 ![0, 0, 0] inb_S2x160x1024_S1x160x1024_0_0_0 storeU0
  fire1 (⟨k1_dev20 d0, k1_dev20_lt d0⟩ : Dev nD) (sS1 16) (sR1 16) ![0, 0, 0] inb_S2x160x1024_S1x160x1024_0_0_0 (k1_off2 d0) (k1_off2_inb d0) wordU0 (((Memref.isWhole_whole cc1_scratch1).wordExact_slice rfl _ (k1_off2_wordsbf16 d0)).reshape _ _)
  waitU (sS1 15) ![1, 0, 0] inb_S2x160x1024_S1x160x1024_1_0_0 (k1_off16 d0) (k1_off16_inb d0) (((Memref.isWhole_whole cc1_scratch1).wordExact_slice rfl _ (k1_off16_wordsbf16 d0)).reshape _ _) wordU1
  mkTile arg0 arg1 (k1_off3 d0 2#32) (k1_off3_inb d0 2) ![1, 0, 0] inb_S8x512x1024_S1x512x1024_1_0_0 ![1, 0, 0] inb_S2x160x1024_S1x160x1024_1_0_0 storeU1
  fire1 (⟨k1_dev21 d0, k1_dev21_lt d0⟩ : Dev nD) (sS1 17) (sR1 17) ![1, 0, 0] inb_S2x160x1024_S1x160x1024_1_0_0 (k1_off4 d0) (k1_off4_inb d0) wordU1 (((Memref.isWhole_whole cc1_scratch1).wordExact_slice rfl _ (k1_off4_wordsbf16 d0)).reshape _ _)
  waitU (sS1 16) ![0, 0, 0] inb_S2x160x1024_S1x160x1024_0_0_0 (k1_off2 d0) (k1_off2_inb d0) (((Memref.isWhole_whole cc1_scratch1).wordExact_slice rfl _ (k1_off2_wordsbf16 d0)).reshape _ _) wordU0
  mkTile arg0 arg1 (k1_off5 d0 2#32) (k1_off5_inb d0 2) ![2, 0, 0] inb_S8x512x1024_S1x512x1024_2_0_0 ![0, 0, 0] inb_S2x160x1024_S1x160x1024_0_0_0 storeU0
  fire1 (⟨k1_dev22 d0, k1_dev22_lt d0⟩ : Dev nD) (sS1 18) (sR1 18) ![0, 0, 0] inb_S2x160x1024_S1x160x1024_0_0_0 (k1_off6 d0) (k1_off6_inb d0) wordU0 (((Memref.isWhole_whole cc1_scratch1).wordExact_slice rfl _ (k1_off6_wordsbf16 d0)).reshape _ _)
  waitU (sS1 17) ![1, 0, 0] inb_S2x160x1024_S1x160x1024_1_0_0 (k1_off4 d0) (k1_off4_inb d0) (((Memref.isWhole_whole cc1_scratch1).wordExact_slice rfl _ (k1_off4_wordsbf16 d0)).reshape _ _) wordU1
  mkTile arg0 arg1 (k1_off7 d0 2#32) (k1_off7_inb d0 2) ![3, 0, 0] inb_S8x512x1024_S1x512x1024_3_0_0 ![1, 0, 0] inb_S2x160x1024_S1x160x1024_1_0_0 storeU1
  fire1 (⟨k1_dev23 d0, k1_dev23_lt d0⟩ : Dev nD) (sS1 19) (sR1 19) ![1, 0, 0] inb_S2x160x1024_S1x160x1024_1_0_0 (k1_off8 d0) (k1_off8_inb d0) wordU1 (((Memref.isWhole_whole cc1_scratch1).wordExact_slice rfl _ (k1_off8_wordsbf16 d0)).reshape _ _)
  waitU (sS1 18) ![0, 0, 0] inb_S2x160x1024_S1x160x1024_0_0_0 (k1_off6 d0) (k1_off6_inb d0) (((Memref.isWhole_whole cc1_scratch1).wordExact_slice rfl _ (k1_off6_wordsbf16 d0)).reshape _ _) wordU0
  mkTile arg0 arg1 (k1_off9 d0 2#32) (k1_off9_inb d0 2) ![4, 0, 0] inb_S8x512x1024_S1x512x1024_4_0_0 ![0, 0, 0] inb_S2x160x1024_S1x160x1024_0_0_0 storeU0
  fire1 (⟨k1_dev24 d0, k1_dev24_lt d0⟩ : Dev nD) (sS1 20) (sR1 20) ![0, 0, 0] inb_S2x160x1024_S1x160x1024_0_0_0 (k1_off10 d0) (k1_off10_inb d0) wordU0 (((Memref.isWhole_whole cc1_scratch1).wordExact_slice rfl _ (k1_off10_wordsbf16 d0)).reshape _ _)
  waitU (sS1 19) ![1, 0, 0] inb_S2x160x1024_S1x160x1024_1_0_0 (k1_off8 d0) (k1_off8_inb d0) (((Memref.isWhole_whole cc1_scratch1).wordExact_slice rfl _ (k1_off8_wordsbf16 d0)).reshape _ _) wordU1
  mkTile arg0 arg1 (k1_off11 d0 2#32) (k1_off11_inb d0 2) ![5, 0, 0] inb_S8x512x1024_S1x512x1024_5_0_0 ![1, 0, 0] inb_S2x160x1024_S1x160x1024_1_0_0 storeU1
  fire1 (⟨k1_dev25 d0, k1_dev25_lt d0⟩ : Dev nD) (sS1 21) (sR1 21) ![1, 0, 0] inb_S2x160x1024_S1x160x1024_1_0_0 (k1_off12 d0) (k1_off12_inb d0) wordU1 (((Memref.isWhole_whole cc1_scratch1).wordExact_slice rfl _ (k1_off12_wordsbf16 d0)).reshape _ _)
  waitU (sS1 20) ![0, 0, 0] inb_S2x160x1024_S1x160x1024_0_0_0 (k1_off10 d0) (k1_off10_inb d0) (((Memref.isWhole_whole cc1_scratch1).wordExact_slice rfl _ (k1_off10_wordsbf16 d0)).reshape _ _) wordU0
  mkTile arg0 arg1 (k1_off13 d0 2#32) (k1_off13_inb d0 2) ![6, 0, 0] inb_S8x512x1024_S1x512x1024_6_0_0 ![0, 0, 0] inb_S2x160x1024_S1x160x1024_0_0_0 storeU0
  fire1 (⟨k1_dev26 d0, k1_dev26_lt d0⟩ : Dev nD) (sS1 22) (sR1 22) ![0, 0, 0] inb_S2x160x1024_S1x160x1024_0_0_0 (k1_off14 d0) (k1_off14_inb d0) wordU0 (((Memref.isWhole_whole cc1_scratch1).wordExact_slice rfl _ (k1_off14_wordsbf16 d0)).reshape _ _)
  waitU (sS1 21) ![1, 0, 0] inb_S2x160x1024_S1x160x1024_1_0_0 (k1_off12 d0) (k1_off12_inb d0) (((Memref.isWhole_whole cc1_scratch1).wordExact_slice rfl _ (k1_off12_wordsbf16 d0)).reshape _ _) wordU1
  mkTile arg0 arg1 (k1_off15 d0 2#32) (k1_off15_inb d0 2) ![7, 0, 0] inb_S8x512x1024_S1x512x1024_7_0_0 ![1, 0, 0] inb_S2x160x1024_S1x160x1024_1_0_0 storeU1
  fire1 (⟨k1_dev27 d0, k1_dev27_lt d0⟩ : Dev nD) (sS1 23) (sR1 23) ![1, 0, 0] inb_S2x160x1024_S1x160x1024_1_0_0 (k1_off16 d0) (k1_off16_inb d0) wordU1 (((Memref.isWhole_whole cc1_scratch1).wordExact_slice rfl _ (k1_off16_wordsbf16 d0)).reshape _ _)
  mkOwn arg0 arg1 (k1_off17 d0) (k1_off17_inb d0) ![0, 0, 0] inb_S8x512x1024_S1x512x1024_0_0_0 (k1_off18 d0) (k1_off18_inb d0) (View.stores_vmem h_S1x1x160x1024 ((Memref.isWhole_whole cc1_scratch1).storeExact_slice rfl _ (k1_off18_packedbf16 d0)) (fun _ => rfl))
  mkOwn arg0 arg1 (k1_off19 d0) (k1_off19_inb d0) ![1, 0, 0] inb_S8x512x1024_S1x512x1024_1_0_0 (k1_off20 d0) (k1_off20_inb d0) (View.stores_vmem h_S1x1x160x1024 ((Memref.isWhole_whole cc1_scratch1).storeExact_slice rfl _ (k1_off20_packedbf16 d0)) (fun _ => rfl))
  mkOwn arg0 arg1 (k1_off21 d0) (k1_off21_inb d0) ![2, 0, 0] inb_S8x512x1024_S1x512x1024_2_0_0 (k1_off22 d0) (k1_off22_inb d0) (View.stores_vmem h_S1x1x160x1024 ((Memref.isWhole_whole cc1_scratch1).storeExact_slice rfl _ (k1_off22_packedbf16 d0)) (fun _ => rfl))
  mkOwn arg0 arg1 (k1_off23 d0) (k1_off23_inb d0) ![3, 0, 0] inb_S8x512x1024_S1x512x1024_3_0_0 (k1_off24 d0) (k1_off24_inb d0) (View.stores_vmem h_S1x1x160x1024 ((Memref.isWhole_whole cc1_scratch1).storeExact_slice rfl _ (k1_off24_packedbf16 d0)) (fun _ => rfl))
  mkOwn arg0 arg1 (k1_off25 d0) (k1_off25_inb d0) ![4, 0, 0] inb_S8x512x1024_S1x512x1024_4_0_0 (k1_off26 d0) (k1_off26_inb d0) (View.stores_vmem h_S1x1x160x1024 ((Memref.isWhole_whole cc1_scratch1).storeExact_slice rfl _ (k1_off26_packedbf16 d0)) (fun _ => rfl))
  mkOwn arg0 arg1 (k1_off27 d0) (k1_off27_inb d0) ![5, 0, 0] inb_S8x512x1024_S1x512x1024_5_0_0 (k1_off28 d0) (k1_off28_inb d0) (View.stores_vmem h_S1x1x160x1024 ((Memref.isWhole_whole cc1_scratch1).storeExact_slice rfl _ (k1_off28_packedbf16 d0)) (fun _ => rfl))
  mkOwn arg0 arg1 (k1_off29 d0) (k1_off29_inb d0) ![6, 0, 0] inb_S8x512x1024_S1x512x1024_6_0_0 (k1_off30 d0) (k1_off30_inb d0) (View.stores_vmem h_S1x1x160x1024 ((Memref.isWhole_whole cc1_scratch1).storeExact_slice rfl _ (k1_off30_packedbf16 d0)) (fun _ => rfl))
  mkOwn arg0 arg1 (k1_off31 d0) (k1_off31_inb d0) ![7, 0, 0] inb_S8x512x1024_S1x512x1024_7_0_0 (k1_off32 d0) (k1_off32_inb d0) (View.stores_vmem h_S1x1x160x1024 ((Memref.isWhole_whole cc1_scratch1).storeExact_slice rfl _ (k1_off32_packedbf16 d0)) (fun _ => rfl))
  base arg3 arg4 arg5 (View.stores_vmem_bits_univ h_S2048x1024 rfl)
  comb arg2 arg5 (k1_off33 d0 0#32) (k1_off33_inb d0 0) (pout1 d0) (View.stores_vmem_bits_univ h_S2048x1024 rfl)
  waitY (sR1 0) ![0, 0, 0] inb_S2x160x1024_S1x160x1024_0_0_0 (k1_off34 d0 3#32) (k1_off34_inb d0 2) wordU0 (((Memref.isWhole_whole cc1_scratch1).wordExact_slice rfl _ (k1_off34_wordsbf16 d0 2)).reshape _ _)
  waitY (sR1 1) ![0, 0, 0] inb_S2x160x1024_S1x160x1024_0_0_0 (k1_off35 d0 3#32) (k1_off35_inb d0 2) wordU0 (((Memref.isWhole_whole cc1_scratch1).wordExact_slice rfl _ (k1_off35_wordsbf16 d0 2)).reshape _ _)
  waitY (sR1 2) ![0, 0, 0] inb_S2x160x1024_S1x160x1024_0_0_0 (k1_off36 d0 3#32) (k1_off36_inb d0 2) wordU0 (((Memref.isWhole_whole cc1_scratch1).wordExact_slice rfl _ (k1_off36_wordsbf16 d0 2)).reshape _ _)
  waitY (sR1 3) ![0, 0, 0] inb_S2x160x1024_S1x160x1024_0_0_0 (k1_off37 d0 3#32) (k1_off37_inb d0 2) wordU0 (((Memref.isWhole_whole cc1_scratch1).wordExact_slice rfl _ (k1_off37_wordsbf16 d0 2)).reshape _ _)
  waitY (sR1 4) ![0, 0, 0] inb_S2x160x1024_S1x160x1024_0_0_0 (k1_off38 d0 3#32) (k1_off38_inb d0 2) wordU0 (((Memref.isWhole_whole cc1_scratch1).wordExact_slice rfl _ (k1_off38_wordsbf16 d0 2)).reshape _ _)
  waitY (sR1 5) ![0, 0, 0] inb_S2x160x1024_S1x160x1024_0_0_0 (k1_off39 d0 3#32) (k1_off39_inb d0 2) wordU0 (((Memref.isWhole_whole cc1_scratch1).wordExact_slice rfl _ (k1_off39_wordsbf16 d0 2)).reshape _ _)
  waitY (sR1 6) ![0, 0, 0] inb_S2x160x1024_S1x160x1024_0_0_0 (k1_off40 d0 3#32) (k1_off40_inb d0 2) wordU0 (((Memref.isWhole_whole cc1_scratch1).wordExact_slice rfl _ (k1_off40_wordsbf16 d0 2)).reshape _ _)
  waitY (sR1 7) ![0, 0, 0] inb_S2x160x1024_S1x160x1024_0_0_0 (k1_off41 d0 3#32) (k1_off41_inb d0 2) wordU0 (((Memref.isWhole_whole cc1_scratch1).wordExact_slice rfl _ (k1_off41_wordsbf16 d0 2)).reshape _ _)
  comb arg2 arg5 (k1_off33 d0 3#32) (k1_off33_inb d0 3) (pout2 d0) (View.stores_vmem_bits_univ h_S2048x1024 rfl)
  waitY (sR1 8) ![0, 0, 0] inb_S2x160x1024_S1x160x1024_0_0_0 (k1_off34 d0 2#32) (k1_off34_inb d0 1) wordU0 (((Memref.isWhole_whole cc1_scratch1).wordExact_slice rfl _ (k1_off34_wordsbf16 d0 1)).reshape _ _)
  waitY (sR1 9) ![0, 0, 0] inb_S2x160x1024_S1x160x1024_0_0_0 (k1_off35 d0 2#32) (k1_off35_inb d0 1) wordU0 (((Memref.isWhole_whole cc1_scratch1).wordExact_slice rfl _ (k1_off35_wordsbf16 d0 1)).reshape _ _)
  waitY (sR1 10) ![0, 0, 0] inb_S2x160x1024_S1x160x1024_0_0_0 (k1_off36 d0 2#32) (k1_off36_inb d0 1) wordU0 (((Memref.isWhole_whole cc1_scratch1).wordExact_slice rfl _ (k1_off36_wordsbf16 d0 1)).reshape _ _)
  waitY (sR1 11) ![0, 0, 0] inb_S2x160x1024_S1x160x1024_0_0_0 (k1_off37 d0 2#32) (k1_off37_inb d0 1) wordU0 (((Memref.isWhole_whole cc1_scratch1).wordExact_slice rfl _ (k1_off37_wordsbf16 d0 1)).reshape _ _)
  waitY (sR1 12) ![0, 0, 0] inb_S2x160x1024_S1x160x1024_0_0_0 (k1_off38 d0 2#32) (k1_off38_inb d0 1) wordU0 (((Memref.isWhole_whole cc1_scratch1).wordExact_slice rfl _ (k1_off38_wordsbf16 d0 1)).reshape _ _)
  waitY (sR1 13) ![0, 0, 0] inb_S2x160x1024_S1x160x1024_0_0_0 (k1_off39 d0 2#32) (k1_off39_inb d0 1) wordU0 (((Memref.isWhole_whole cc1_scratch1).wordExact_slice rfl _ (k1_off39_wordsbf16 d0 1)).reshape _ _)
  waitY (sR1 14) ![0, 0, 0] inb_S2x160x1024_S1x160x1024_0_0_0 (k1_off40 d0 2#32) (k1_off40_inb d0 1) wordU0 (((Memref.isWhole_whole cc1_scratch1).wordExact_slice rfl _ (k1_off40_wordsbf16 d0 1)).reshape _ _)
  waitY (sR1 15) ![0, 0, 0] inb_S2x160x1024_S1x160x1024_0_0_0 (k1_off41 d0 2#32) (k1_off41_inb d0 1) wordU0 (((Memref.isWhole_whole cc1_scratch1).wordExact_slice rfl _ (k1_off41_wordsbf16 d0 1)).reshape _ _)
  comb arg2 arg5 (k1_off33 d0 2#32) (k1_off33_inb d0 2) (pout3 d0) (View.stores_vmem_bits_univ h_S2048x1024 rfl)
  waitY (sR1 16) ![0, 0, 0] inb_S2x160x1024_S1x160x1024_0_0_0 (k1_off34 d0 1#32) (k1_off34_inb d0 0) wordU0 (((Memref.isWhole_whole cc1_scratch1).wordExact_slice rfl _ (k1_off34_wordsbf16 d0 0)).reshape _ _)
  waitY (sR1 17) ![0, 0, 0] inb_S2x160x1024_S1x160x1024_0_0_0 (k1_off35 d0 1#32) (k1_off35_inb d0 0) wordU0 (((Memref.isWhole_whole cc1_scratch1).wordExact_slice rfl _ (k1_off35_wordsbf16 d0 0)).reshape _ _)
  waitY (sR1 18) ![0, 0, 0] inb_S2x160x1024_S1x160x1024_0_0_0 (k1_off36 d0 1#32) (k1_off36_inb d0 0) wordU0 (((Memref.isWhole_whole cc1_scratch1).wordExact_slice rfl _ (k1_off36_wordsbf16 d0 0)).reshape _ _)
  waitY (sR1 19) ![0, 0, 0] inb_S2x160x1024_S1x160x1024_0_0_0 (k1_off37 d0 1#32) (k1_off37_inb d0 0) wordU0 (((Memref.isWhole_whole cc1_scratch1).wordExact_slice rfl _ (k1_off37_wordsbf16 d0 0)).reshape _ _)
  waitY (sR1 20) ![0, 0, 0] inb_S2x160x1024_S1x160x1024_0_0_0 (k1_off38 d0 1#32) (k1_off38_inb d0 0) wordU0 (((Memref.isWhole_whole cc1_scratch1).wordExact_slice rfl _ (k1_off38_wordsbf16 d0 0)).reshape _ _)
  waitY (sR1 21) ![0, 0, 0] inb_S2x160x1024_S1x160x1024_0_0_0 (k1_off39 d0 1#32) (k1_off39_inb d0 0) wordU0 (((Memref.isWhole_whole cc1_scratch1).wordExact_slice rfl _ (k1_off39_wordsbf16 d0 0)).reshape _ _)
  waitY (sR1 22) ![0, 0, 0] inb_S2x160x1024_S1x160x1024_0_0_0 (k1_off40 d0 1#32) (k1_off40_inb d0 0) wordU0 (((Memref.isWhole_whole cc1_scratch1).wordExact_slice rfl _ (k1_off40_wordsbf16 d0 0)).reshape _ _)
  waitY (sR1 23) ![0, 0, 0] inb_S2x160x1024_S1x160x1024_0_0_0 (k1_off41 d0 1#32) (k1_off41_inb d0 0) wordU0 (((Memref.isWhole_whole cc1_scratch1).wordExact_slice rfl _ (k1_off41_wordsbf16 d0 0)).reshape _ _)
  comb arg2 arg5 (k1_off33 d0 1#32) (k1_off33_inb d0 1) (pout4 d0) (View.stores_vmem_bits_univ h_S2048x1024 rfl)
  waitU (sS1 22) ![0, 0, 0] inb_S2x160x1024_S1x160x1024_0_0_0 (k1_off14 d0) (k1_off14_inb d0) (((Memref.isWhole_whole cc1_scratch1).wordExact_slice rfl _ (k1_off14_wordsbf16 d0)).reshape _ _) wordU0
  waitU (sS1 23) ![1, 0, 0] inb_S2x160x1024_S1x160x1024_1_0_0 (k1_off16 d0) (k1_off16_inb d0) (((Memref.isWhole_whole cc1_scratch1).wordExact_slice rfl _ (k1_off16_wordsbf16 d0)).reshape _ _) wordU1
  pure ⟨⟩

theorem body1_eq (arg0 : Memref sig .tc .vmem S4x8x160x512 .bf16) (harg0 : arg0.IsWhole) (arg1 : Memref sig .tc .vmem S8x512x1024 .bf16) (harg1 : arg1.IsWhole) (arg2 : Memref sig .tc .vmem S2048x1 .i32) (harg2 : arg2.IsWhole) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) :
    cc1__expert_combine_body_skel (F := F) arg0 harg0 arg1 harg1 arg2 harg2 arg3 harg3 arg4 harg4 arg5 harg5 (Memref.whole cc1_scratch0) (Memref.isWhole_whole _) (Memref.whole cc1_scratch1) (Memref.isWhole_whole _) cc1_scratch2 cc1_scratch3 = norm1 arg0 harg0 arg1 harg1 arg2 harg2 arg3 harg3 arg4 harg4 arg5 harg5 := rfl

end Cert.KernelIdeal.A2A
-- ==== Proof.IdealStep0.lean ====
/- One rule per step of the first call's body, each step a short straight piece of program before its continuation. -/
module

public import proofs.«01_k».proof.Proof.IdealNorm
public import Idealize.ShloMosaic.Lib.VecWindow

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- A program run on device `c`. -/
abbrev Run (c : Dev nD) (p : Pg F) (Kt : PUnit → sProp 𝕄) : sProp 𝕄 :=
  wp frame (wpE (defs₀ (F := F)) 𝒱₀ (c : Thread nD τ) none) Set.univ p Kt

/-! ## The elements of the pieces -/

theorem set_sT (b : Fin 2) : (sT ![b.val, 0, 0, 0] (inbT b)).view.set = (rT b).set :=
  ((mT.view.slice (rT b)).set_reshape _).trans (View.set_slice_whole _ _)
theorem set_sR (p : Fin 4) : (sR ![p.val, 0, 0, 0] (inbR p)).view.set = (rR p).set :=
  ((mR.view.slice (rR p)).set_reshape _).trans (View.set_slice_whole _ _)
theorem set_sU (b : Fin 2) : (sU ![b.val, 0, 0] (inbU b)).view.set = (rU b).set :=
  ((mU.view.slice (rU b)).set_reshape _).trans (View.set_slice_whole _ _)
theorem set_sY (p : Fin 4) (j : Fin 8) : (sY ![p.val, j.val, 0, 0] (inbY p j)).view.set = (rY p j).set :=
  ((mY.view.slice (rY p j)).set_reshape _).trans (View.set_slice_whole _ _)

/-- A piece is known by what its view reads. -/
theorem held_of_read {sp : Space} {s : Shape} {e : EltTy} (v : View sig .tc sp s e) (c : Dev nD) (q : PosShare TreeShare)
    {f g : Buf (Elt F) (v.loc (c : Thread nD τ))} (h : v.read (Elt F) f = v.read (Elt F) g) :
    (v.loc (c : Thread nD τ) ↦[v.set]{q} f : sProp 𝕄) = v.loc (c : Thread nD τ) ↦[v.set]{q} g :=
  pointsTo_congr fun i hi => by
    obtain ⟨x, -, rfl⟩ := Finset.mem_map.mp hi
    have := congrFun h x
    rw [View.read_apply, View.read_apply] at this
    exact (cast_bijective _).1 this

/-! ## Loads of a whole operand -/

/-- An operand staged whole, known by what it reads. -/
abbrev held {sp : Space} {s : Shape} {e : EltTy} (c : Dev nD) (m : Memref sig .tc sp s e) (X : s.Idx → Elt F e) : sProp 𝕄 :=
  owns (c : Thread nD τ) m fullShare X

theorem load_held {cs : CoreSpace} {s : Shape} {e : EltTy} (c : Dev nD) (m : Memref sig .tc cs s e) (X : s.Idx → Elt F e)
    {o : Fin s.rank → ℕ} {inb : ∀ a, o a + s.size a ≤ s.size a} {hl : m.view.LoadsAt (Rect.unit (s := s) o s.size inb).toLoadRect}
    {k : (s.Idx → Elt F e) → Pg F} {Kt : PUnit → sProp 𝕄} :
    iprop(held c m X ∗ (held c m X -∗ Run c (k X) Kt)) ⊢ Run c (.op (.load m (Rect.unit (s := s) o s.size inb).toLoadRect hl) k) Kt := by
  unfold held owns
  iintro ⟨⟨%f, %hf, H⟩, Hk⟩
  subst hf
  iapply (wp_load 𝒱₀ (c : Thread nD τ) none Set.univ (m := m) (r := (Rect.unit (s := s) o s.size inb).toLoadRect) (hl := hl) (k := k)
    (S := m.view.set) (by intro i hi; obtain ⟨x, -, rfl⟩ := Finset.mem_map.mp hi; exact View.emb_mem_set _ _)) $$ H
  iintro H
  rw [show m.view.readAt (Elt F) (Rect.unit (s := s) o s.size inb).toLoadRect f = m.view.read (Elt F) f from View.readAt_full m.view f inb]
  iapply Hk
  iexists f
  isplitr; · ipureintro; rfl
  iexact H

theorem load_part {cs : CoreSpace} {s : Shape} {e : EltTy} (c : Dev nD) (m : Memref sig .tc cs s e) (r : Rect s) {S : Finset (Idx (m.view.loc (c : Thread nD τ)))}
    (hS : (m.view.slice r).set ⊆ S) {q : PosShare TreeShare} (f : Buf (Elt F) (m.view.loc (c : Thread nD τ))) {hl : m.view.LoadsAt r.toLoadRect}
    {k : (r.shape.Idx → Elt F e) → Pg F} {Kt : PUnit → sProp 𝕄} :
    iprop((m.view.loc (c : Thread nD τ) ↦[S]{q} f) ∗ ((m.view.loc (c : Thread nD τ) ↦[S]{q} f) -∗ Run c (k ((m.view.slice r).read (Elt F) f)) Kt))
      ⊢ Run c (.op (.load m r.toLoadRect hl) k) Kt := by
  iintro ⟨H, Hk⟩
  iapply (wp_load_rect 𝒱₀ (c : Thread nD τ) none Set.univ (m := m) (r := r) (S := S) (f := f) hS) $$ H
  iexact Hk

theorem store_part {cs : CoreSpace} {s : Shape} {e : EltTy} (c : Dev nD) (m : Memref sig .tc cs s e) (r : Rect s) {S : Finset (Idx (m.view.loc (c : Thread nD τ)))}
    (hS : (m.view.slice r).set ⊆ S) (f : Buf (Elt F) (m.view.loc (c : Thread nD τ))) {w : r.shape.Idx → Elt F e} {hx : (m.access r).Stores Finset.univ} {hm}
    {k : PUnit → Pg F} {Kt : PUnit → sProp 𝕄} :
    iprop((m.view.loc (c : Thread nD τ) ↦[S]{fullShare} f)
        ∗ ((∃ g, ⌜(m.view.slice r).read (Elt F) g = w⌝ ∗ (m.view.loc (c : Thread nD τ) ↦[S]{fullShare} g)) -∗ Run c (k ⟨⟩) Kt))
      ⊢ Run c (.op (.store m r w Finset.univ hx hm) k) Kt := by
  iintro ⟨H, Hk⟩
  iapply (wp_store 𝒱₀ (c : Thread nD τ) none Set.univ (m := m) (r := r) (S := S) (f := f) (Mk := Finset.univ) (hx := hx) (hm := hm) hS) $$ H
  iintro H
  iapply Hk
  iexists ((m.access r).write (Elt F) f w Finset.univ)
  isplitr
  · ipureintro; exact View.read_write_univ _ _
  iexact H

/-! ## Tiles with their contents -/

/-- Tile `b` of the first call's scratch holding `X`. -/
def tT (c : Dev nD) (b : Fin 2) (X : Vec F S1x8x160x512 .bf16) : sProp 𝕄 :=
  iprop(∃ g : BufT F, ⌜(mT.view.slice (rT b)).read (Elt F) g = X⌝ ∗ pT c b g)
/-- Tile `b` of the second call's scratch holding `X`. -/
def tU (c : Dev nD) (b : Fin 2) (X : Vec F S1x160x1024 .bf16) : sProp 𝕄 :=
  iprop(∃ g : BufU F, ⌜(mU.view.slice (rU b)).read (Elt F) g = X⌝ ∗ pU c b g)

/-- What a device still owes. -/
def ow (c : Dev nD) (O : CellTallies nD τ sig Unit) : sProp 𝕄 := iprop(∃ W, owes (c : Thread nD τ) O W)

variable (RC : Dev nD → BufR F) (YB : Dev nD → BufY F) (K : GSem nD τ sig → ℕ)

/-- The record of a cell. -/
abbrev cI (g : GSem nD τ sig) : sProp 𝕄 := cellInv ER (talkRd (F := F) RC YB) (K g) g

/-! ## Signals and waits -/

theorem sig_step {c d : Dev nD} {b : Sem sig} {u : Fin 3} {P : sProp 𝕄} {v : Dev nD} {k : PUnit → Pg F} {Kt : PUnit → sProp 𝕄}
    {O₀ : CellTallies nD τ sig Unit} (O : CellTallies nD τ sig Unit) (hv : v = d) (hp : (talkRd (F := F) RC YB).payload ((d : Thread nD τ), .reg b) 0 u = P)
    (hO : O₀ = O + tallyAt ((d : Thread nD τ), .reg b) () 1) :
    iprop(cI RC YB K ((d : Thread nD τ), .reg b) ∗ ow c O₀ ∗ dutyTok ER ((d : Thread nD τ), .reg b) 0 u ∗ P ∗ reached ER ((d : Thread nD τ), .reg b) 0
        ∗ (ow c O -∗ Run c (k ⟨⟩) Kt))
      ⊢ Run c (semSignalWord v b 1#32 >>= k) Kt := by
  subst hv hp
  unfold ow
  iintro ⟨HI, ⟨%W, HO⟩, Ht, HP, Hr, Hk⟩
  iapply (Rounds.wp_signal 𝒱₀ ER (talkRd (F := F) RC YB) (c : Thread nD τ) none (dst := (v : Thread nD τ)) (sem := b) (r := 0) (d := u) (k' := 1)
    (κ := K ((v : Thread nD τ), .reg b)) (k := k) (by rw [duties_reg]; exact Finset.mem_univ _) rfl () O hO) $$ [HI HO Ht HP Hr]
  · isplitl [HI]; · iexact HI
    isplitl [HO]; · iexact HO
    isplitl [Ht]; · iexact Ht
    isplitl [HP]; · iexact HP
    iexact Hr
  iintro HO
  iapply Hk
  iexists W; iexact HO

theorem wait_step {c : Dev nD} {sm : SemLoc sig} {N n : ℕ} {P : sProp 𝕄} {w : TpuEff nD τ sig (Elt F) Λ₀ .tc PUnit} {k : PUnit → Pg F} {Kt : PUnit → sProp 𝕄}
    {O : CellTallies nD τ sig Unit}
    (hw : ∀ Q : PUnit → sProp 𝕄, wpE (defs₀ (F := F)) 𝒱₀ (c : Thread nD τ) none Set.univ w Q = waitSpec (c : Thread nD τ) Set.univ sm N Q)
    (hN : (talkRd (F := F) RC YB).expect ((c : Thread nD τ), sm) 0 = N)
    (hp : bigSep ((talkRd (F := F) RC YB).duties ((c : Thread nD τ), sm) 0 \ ∅) (fun u => (talkRd (F := F) RC YB).payload ((c : Thread nD τ), sm) 0 u) = P)
    (hO : Above n O) (hl : lv ((c : Thread nD τ), sm) () ≤ n) :
    iprop(cI RC YB K ((c : Thread nD τ), sm) ∗ levAts L lv ∗ cred (tallyAt ((c : Thread nD τ), sm) () N) ∗ ow c O ∗ atPos ER ((c : Thread nD τ), sm) 0 ∅ 0
        ∗ ((ow c O ∗ atPos ER ((c : Thread nD τ), sm) 1 ∅ 0 ∗ P) -∗ Run c (k ⟨⟩) Kt))
      ⊢ Run c (.op w k) Kt := by
  subst hp
  unfold ow
  iintro ⟨HI, Hlev, Hc, ⟨%W, HO⟩, Hat, Hk⟩
  iapply (Rounds.wp_wait_rest_token 𝒱₀ ER (talkRd (F := F) RC YB) (c : Thread nD τ) none (κ := K ((c : Thread nD τ), sm)) (k := k)
    hw (Set.mem_univ _) () (O := O) (W := W) (R := 0) (m := 0) (T := ∅) ((Nat.zero_add _).trans hN.symm)) $$ [HI Hlev Hc HO Hat]
  · isplitl [HI]; · iexact HI
    isplitl [Hc]; · iexact Hc
    isplitl [HO]; · iexact HO
    isplitl [Hlev]; · iapply (mayWait c sm n O hO hl); iexact Hlev
    iexact Hat
  iintro ⟨HO, Hat, -, HP⟩
  iapply Hk
  isplitl [HO]; · iexists _; iexact HO
  isplitl [Hat]; · iexact Hat
  iexact HP

theorem waitBar_step {c : Dev nD} {b : Sem sig} {n : ℕ} {P : sProp 𝕄} {k : PUnit → Pg F} {Kt : PUnit → sProp 𝕄} {O : CellTallies nD τ sig Unit}
    (hp : bigSep ((talkRd (F := F) RC YB).duties ((c : Thread nD τ), .reg b) 0 \ ∅) (fun u => (talkRd (F := F) RC YB).payload ((c : Thread nD τ), .reg b) 0 u) = P)
    (hO : Above n O) (hl : lv ((c : Thread nD τ), .reg b) () ≤ n) :
    iprop(cI RC YB K ((c : Thread nD τ), .reg b) ∗ levAts L lv ∗ cred (tallyAt ((c : Thread nD τ), .reg b) () 3) ∗ ow c O ∗ atPos ER ((c : Thread nD τ), .reg b) 0 ∅ 0
        ∗ ((ow c O ∗ atPos ER ((c : Thread nD τ), .reg b) 1 ∅ 0 ∗ P) -∗ Run c (k ⟨⟩) Kt))
      ⊢ Run c (semWaitWord b 3#32 >>= k) Kt :=
  wait_step RC YB K (w := .semWait b (3 : ℕ)) (wpE_semWait_eq 𝒱₀ (c : Thread nD τ) none Set.univ) (expect_reg RC YB c b) hp hO hl

theorem waitR_step {c : Dev nD} {s : DmaSem sig} {n : ℕ} {P : sProp 𝕄} {o h p hp' w1 w2} {k : PUnit → Pg F} {Kt : PUnit → sProp 𝕄} {O : CellTallies nD τ sig Unit}
    (hd : (talkRd (F := F) RC YB).duties ((c : Thread nD τ), .dma s) 0 = {0}) (ha : (talkRd (F := F) RC YB).amount ((c : Thread nD τ), .dma s) 0 0 = N0)
    (hp : (talkRd (F := F) RC YB).payload ((c : Thread nD τ), .dma s) 0 0 = P) (hO : Above n O) (hl : lv ((c : Thread nD τ), .dma s) () ≤ n) :
    iprop(cI RC YB K ((c : Thread nD τ), .dma s) ∗ levAts L lv ∗ cred (tallyAt ((c : Thread nD τ), .dma s) () N0) ∗ ow c O ∗ atPos ER ((c : Thread nD τ), .dma s) 0 ∅ 0
        ∗ ((ow c O ∗ atPos ER ((c : Thread nD τ), .dma s) 1 ∅ 0 ∗ P) -∗ Run c (k ⟨⟩) Kt))
      ⊢ Run c (waitR s o h p hp' w1 w2 >>= k) Kt :=
  wait_step RC YB K (N := N0) (w := .waitDma2 s (sT o h) (sR p hp') w1 w2) (wpE_waitDma2_eq 𝒱₀ (c : Thread nD τ) none Set.univ) (expect_one RC YB hd ha)
    (rest_one RC YB hd hp) hO hl
theorem waitT_step {c : Dev nD} {s : DmaSem sig} {n : ℕ} {P : sProp 𝕄} {o h p hp' w1 w2} {k : PUnit → Pg F} {Kt : PUnit → sProp 𝕄} {O : CellTallies nD τ sig Unit}
    (hd : (talkRd (F := F) RC YB).duties ((c : Thread nD τ), .dma s) 0 = {0}) (ha : (talkRd (F := F) RC YB).amount ((c : Thread nD τ), .dma s) 0 0 = N0)
    (hp : (talkRd (F := F) RC YB).payload ((c : Thread nD τ), .dma s) 0 0 = P) (hO : Above n O) (hl : lv ((c : Thread nD τ), .dma s) () ≤ n) :
    iprop(cI RC YB K ((c : Thread nD τ), .dma s) ∗ levAts L lv ∗ cred (tallyAt ((c : Thread nD τ), .dma s) () N0) ∗ ow c O ∗ atPos ER ((c : Thread nD τ), .dma s) 0 ∅ 0
        ∗ ((ow c O ∗ atPos ER ((c : Thread nD τ), .dma s) 1 ∅ 0 ∗ P) -∗ Run c (k ⟨⟩) Kt))
      ⊢ Run c (waitT s o h p hp' w1 w2 >>= k) Kt :=
  wait_step RC YB K (N := N0) (w := .waitDma2 s (sR p hp') (sT o h) w1 w2) (wpE_waitDma2_eq 𝒱₀ (c : Thread nD τ) none Set.univ) (expect_one RC YB hd ha)
    (rest_one RC YB hd hp) hO hl

/-! ## The steps of the first call -/

theorem fill_bind {arg0 : Memref sig .tc .vmem S1x2048 .i32} {arg1 : Memref sig .tc .vmem S2048x512 .bf16} {o h f hs} {k : PUnit → Pg F} :
    fill arg0 arg1 o h f hs >>= k =
    .op (.load arg0 (Rect.unit (s := S1x2048) ![0, 0] S1x2048.size inb_S1x2048_S1x2048_0_0).toLoadRect (View.loadsAt_vmem h_S1x2048)) fun a' =>
    .op (.load arg1 (Rect.unit (s := S2048x512) ![0, 0] S2048x512.size inb_S2048x512_S2048x512_0_0).toLoadRect (View.loadsAt_vmem h_S2048x512)) fun x' =>
    .op (.load mT (qT o h).toLoadRect (View.loadsAt_vmem h_S1x8x160x512)) fun _ =>
    .op (.store mT (qT o h) (f a' x') Finset.univ hs (.inl rfl)) k := rfl

set_option maxHeartbeats 400000 in
theorem fill_step {c : Dev nD} {arg0 : Memref sig .tc .vmem S1x2048 .i32} {arg1 : Memref sig .tc .vmem S2048x512 .bf16} {o h f hs}
    {k : PUnit → Pg F} {Kt : PUnit → sProp 𝕄} (b : Fin 2) (ho : o = ![b.val, 0, 0, 0]) (a : Vec F S1x2048 .i32) (x : Vec F S2048x512 .bf16) :
    iprop(held c arg0 a ∗ held c arg1 x ∗ (∃ g : BufT F, pT c b g)
        ∗ ((held c arg0 a ∗ held c arg1 x ∗ tT c b (f a x)) -∗ Run c (k ⟨⟩) Kt))
      ⊢ Run c (fill arg0 arg1 o h f hs >>= k) Kt := by
  have hset : (mT.view.slice (qT o h)).set ⊆ (rT b).set := by subst ho; exact (View.set_slice_whole _ _).subset
  have hread : ∀ g : BufT F, (mT.view.slice (qT o h)).read (Elt F) g = (mT.view.slice (rT b)).read (Elt F) g := by subst ho; exact fun _ => rfl
  rw [fill_bind]
  iintro ⟨Ha, Hx, ⟨%g, Hg⟩, Hk⟩
  iapply (load_held c arg0 a)
  isplitl [Ha]; · iexact Ha
  iintro Ha
  iapply (load_held c arg1 x)
  isplitl [Hx]; · iexact Hx
  iintro Hx
  iapply (load_part c mT (qT o h) hset g)
  isplitl [Hg]; · iexact Hg
  iintro Hg
  iapply (store_part c mT (qT o h) hset g)
  isplitl [Hg]; · iexact Hg
  iintro Hg
  iapply Hk
  isplitl [Ha]; · iexact Ha
  isplitl [Hx]; · iexact Hx
  unfold tT
  icases Hg with ⟨%g', %hg, Hg⟩
  iexists g'
  isplitr; · ipureintro; exact (hread g').symm.trans hg
  iexact Hg

theorem landed0 {c : Dev nD} {b : Fin 2} {p : Fin 4} {X : Vec F S1x8x160x512 .bf16} {fd R : BufR F} {g : BufT F}
    (hX : (mR.view.slice (rR p)).read (Elt F) R = X) (hg : (mT.view.slice (rT b)).read (Elt F) g = X) :
    ((sR ![p.val, 0, 0, 0] (inbR p)).view.loc (c : Thread nD τ) ↦[(sR ![p.val, 0, 0, 0] (inbR p)).view.set]{fullShare}
        ((sR ![p.val, 0, 0, 0] (inbR p)).view.write (Elt F) fd ((sT ![b.val, 0, 0, 0] (inbT b)).view.read (Elt F) g) Finset.univ) : sProp 𝕄)
      ⊢ pR c p R := by
  refine (Entails.of_eq (held_of_read (sR ![p.val, 0, 0, 0] (inbR p)).view c fullShare (g := R) ?_)).trans (Entails.of_eq (by rw [set_sR]))
  rw [View.read_write_univ]
  funext i
  exact congrFun (hg.trans hX.symm) (Shape.reshapeEquiv (squeezes_S1x8x160x512_S8x160x512.numel_eq) i)

theorem fire0_step {c : Dev nD} {v : Dev nD} {ss rs o h p hp w1 w2} {k : PUnit → Pg F} {Kt : PUnit → sProp 𝕄} {O₀ : CellTallies nD τ sig Unit}
    (i : Fin 3) (O : CellTallies nD τ sig Unit) (X : Vec F S1x8x160x512 .bf16)
    (hv : v = dst c i) (hss : ss = sS0 i) (hrs : rs = sR0 i) (ho : o = ![(tb0 i).val, 0, 0, 0]) (hp' : p = ![c.val, 0, 0, 0])
    (hO : O₀ = O + tallyAt (R0 (dst c i) i) () N0) (hX : (mR.view.slice (rR c)).read (Elt F) (RC (dst c i)) = X) :
    iprop(cI RC YB K (S0 c i) ∗ cI RC YB K (R0 (dst c i) i) ∗ tT c (tb0 i) X ∗ (∃ f : BufR F, pR (dst c i) c f) ∗ ow c O₀
        ∗ dutyTok ER (S0 c i) 0 0 ∗ reached ER (S0 c i) 0 ∗ dutyTok ER (R0 (dst c i) i) 0 0 ∗ reached ER (R0 (dst c i) i) 0
        ∗ ((cred (tallyAt (S0 c i) () N0) ∗ ow c O) -∗ Run c (k ⟨⟩) Kt))
      ⊢ Run c (fire0 v ss rs o h p hp w1 w2 >>= k) Kt := by
  subst hv hss hrs ho hp'
  unfold ow tT
  iintro ⟨HI1, HI2, ⟨%g, %hg, Hg⟩, ⟨%fd, Hf⟩, ⟨%W, HO⟩, Ht1, Hr1, Ht2, Hr2, Hk⟩
  iapply (Rounds.wp_send_pointsTo 𝒱₀ ER (talkRd (F := F) RC YB) (c : Thread nD τ) none (c' := (dst c i : Thread nD τ))
      (src := sT ![(tb0 i).val, 0, 0, 0] (inbT (tb0 i))) (dst := sR ![c.val, 0, 0, 0] (inbR c))
      (sS := .dma (sS0 i)) (sem := .dma (sR0 i)) (q := fullShare) (fs := g) (κ₁ := K (S0 c i)) (κ₂ := K (R0 (dst c i) i))
      (r₁ := 0) (r₂ := 0) (d₁ := 0) (d₂ := 0) (fd := fd) (k := k)
      (by rw [duties_S0]; exact Finset.mem_singleton_self _) (by rw [duties_R0]; exact Finset.mem_singleton_self _)
      () () N0 rfl (amount_S0 RC YB c i 0) (amount_R0 RC YB (dst c i) i 0) O hO (W := W)
      (by rw [payload_S0, set_sT]; unfold sendPay0; iintro H; iexists g; iexact H)
      (by rw [payload_R0]; unfold recvPay0; rw [src_dst]; exact landed0 hX hg)) $$ [HI1 HI2 Hg Hf HO Ht1 Hr1 Ht2 Hr2]
  · isplitl [HI1]; · iexact HI1
    isplitl [HI2]; · iexact HI2
    isplitl [Hg]; · rw [set_sT]; iexact Hg
    isplitl [Hf]; · rw [set_sR]; iexact Hf
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

theorem keep_step {c : Dev nD} {o h p hp w1 w2} {k : PUnit → Pg F} {Kt : PUnit → sProp 𝕄}
    (X : Vec F S1x8x160x512 .bf16) (ho : o = ![(1 : Fin 2).val, 0, 0, 0]) (hp' : p = ![c.val, 0, 0, 0])
    (hX : (mR.view.slice (rR c)).read (Elt F) (RC c) = X) :
    iprop(cI RC YB K (C0 c) ∗ tT c 1 X ∗ (∃ f : BufR F, pR c c f) ∗ dutyTok ER (C0 c) 0 0 ∗ reached ER (C0 c) 0
        ∗ (cred (tallyAt (C0 c) () N0) -∗ Run c (k ⟨⟩) Kt))
      ⊢ Run c (keep o h p hp w1 w2 >>= k) Kt := by
  subst ho hp'
  unfold tT
  iintro ⟨HI1, ⟨%g, %hg, Hg⟩, ⟨%fd, Hf⟩, Ht1, Hr1, Hk⟩
  iapply (Rounds.wp_copy_pointsTo 𝒱₀ ER (talkRd (F := F) RC YB) (c : Thread nD τ) none
      (src := sT ![(1 : Fin 2).val, 0, 0, 0] (inbT 1)) (dst := sR ![c.val, 0, 0, 0] (inbR c)) (sem := .dma sC0) (q := fullShare) (fs := g) (κ := K (C0 c))
      (r := 0) (d := 0) (fd := fd) (k := k)
      (by rw [duties_C0]; exact Finset.mem_singleton_self _) () N0 rfl (amount_C0 RC YB c 0)
      (by rw [payload_C0]; unfold copyPay0
          exact sep_mono (landed0 hX hg) (by rw [set_sT]; iintro H; iexists g; iexact H))) $$ [HI1 Hg Hf Ht1 Hr1]
  · isplitl [HI1]; · iexact HI1
    isplitl [Hg]; · rw [set_sT]; iexact Hg
    isplitl [Hf]; · rw [set_sR]; iexact Hf
    isplitl [Ht1]; · iexact Ht1
    iexact Hr1
  iexact Hk

end Cert.KernelIdeal.A2A
-- ==== Proof.IdealCells.lean ====
/- The cells of the protocol and their records. -/
module

public import proofs.«01_k».proof.Proof.IdealStep0
public import Idealize.ShloMosaic.Lib.VecWindow

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The cells of the protocol, and their records -/

def barOf : Dev nD × Fin 2 ↪ GSem nD τ sig where
  toFun x := ((x.1 : Thread nD τ), .reg (if x.2 = 0 then bar0 else bar1))
  inj' x y h := by
    have h1 : x.1 = y.1 := congrArg (fun g : GSem nD τ sig => g.1.1) h
    have h2 : (if x.2 = 0 then bar0 else bar1 : Sem sig) = if y.2 = 0 then bar0 else bar1 := SemLoc.reg.inj (congrArg Prod.snd h)
    refine Prod.ext h1 ?_
    revert h2; generalize x.2 = a; generalize y.2 = b; revert a b; decide
def osem0 (k : Fin 7) : SemLoc sig := .dma ⟨2 + k.val, by have := k.isLt; show _ < 63; omega⟩
def osem1 (k : Fin 48) : SemLoc sig := .dma ⟨15 + k.val, by have := k.isLt; show _ < 63; omega⟩
theorem osem0_inj {k l : Fin 7} (h : osem0 k = osem0 l) : k = l := by
  have := congrArg Fin.val (SemLoc.dma.inj h); exact Fin.ext (Nat.add_left_cancel this)
theorem osem1_inj {k l : Fin 48} (h : osem1 k = osem1 l) : k = l := by
  have := congrArg Fin.val (SemLoc.dma.inj h); exact Fin.ext (Nat.add_left_cancel this)
theorem osem_ne {k : Fin 7} {l : Fin 48} (h : osem0 k = osem1 l) : False := by
  have := congrArg Fin.val (SemLoc.dma.inj h); have h2 : 2 + k.val = 15 + l.val := this; omega
def sc0Of : Dev nD × Fin 7 ↪ GSem nD τ sig where
  toFun x := ((x.1 : Thread nD τ), osem0 x.2)
  inj' x y h := Prod.ext (congrArg (fun g : GSem nD τ sig => g.1.1) h) (osem0_inj (congrArg Prod.snd h))
def sc1Of : Dev nD × Fin 48 ↪ GSem nD τ sig where
  toFun x := ((x.1 : Thread nD τ), osem1 x.2)
  inj' x y h := Prod.ext (congrArg (fun g : GSem nD τ sig => g.1.1) h) (osem1_inj (congrArg Prod.snd h))
def barCells : Finset (GSem nD τ sig) := Finset.univ.map barOf
def scCells0 : Finset (GSem nD τ sig) := Finset.univ.map sc0Of
def scCells1 : Finset (GSem nD τ sig) := Finset.univ.map sc1Of
def scCells : Finset (GSem nD τ sig) := scCells0 ∪ scCells1
def allCells : Finset (GSem nD τ sig) := barCells ∪ scCells

theorem mem_bar0 (c : Dev nD) : B0 c ∈ barCells := Finset.mem_map.mpr ⟨(c, 0), Finset.mem_univ _, rfl⟩
theorem mem_bar1 (c : Dev nD) : B1 c ∈ barCells := Finset.mem_map.mpr ⟨(c, 1), Finset.mem_univ _, rfl⟩
theorem mem_sc0 (c : Dev nD) (k : Fin 7) : ((c : Thread nD τ), osem0 k) ∈ allCells :=
  Finset.mem_union_right _ (Finset.mem_union_left _ (Finset.mem_map.mpr ⟨(c, k), Finset.mem_univ _, rfl⟩))
theorem mem_sc1 (c : Dev nD) (k : Fin 48) : ((c : Thread nD τ), osem1 k) ∈ allCells :=
  Finset.mem_union_right _ (Finset.mem_union_right _ (Finset.mem_map.mpr ⟨(c, k), Finset.mem_univ _, rfl⟩))
theorem mem_B0 (c : Dev nD) : B0 c ∈ allCells := Finset.mem_union_left _ (mem_bar0 c)
theorem mem_B1 (c : Dev nD) : B1 c ∈ allCells := Finset.mem_union_left _ (mem_bar1 c)
theorem mem_S0 (c : Dev nD) (k : Fin 3) : S0 c k ∈ allCells := mem_sc0 c ⟨k.val, by omega⟩
theorem mem_R0 (c : Dev nD) (k : Fin 3) : R0 c k ∈ allCells := by
  have h := mem_sc0 c ⟨3 + k.val, by omega⟩
  have e : ((c : Thread nD τ), osem0 ⟨3 + k.val, by omega⟩) = R0 c k :=
    Prod.ext rfl (congrArg SemLoc.dma (Fin.ext (by show 2 + (3 + k.val) = 5 + k.val; omega)))
  rwa [e] at h
theorem mem_C0 (c : Dev nD) : C0 c ∈ allCells := mem_sc0 c ⟨6, by omega⟩
theorem mem_Sd1 (c : Dev nD) (i : Fin 24) : Sd1 c i ∈ allCells := mem_sc1 c ⟨i.val, by omega⟩
theorem mem_Rc1 (c : Dev nD) (i : Fin 24) : Rc1 c i ∈ allCells := by
  have h := mem_sc1 c ⟨24 + i.val, by omega⟩
  have e : ((c : Thread nD τ), osem1 ⟨24 + i.val, by omega⟩) = Rc1 c i :=
    Prod.ext rfl (congrArg SemLoc.dma (Fin.ext (by show 15 + (24 + i.val) = 39 + i.val; omega)))
  rwa [e] at h

variable (RC : Dev nD → BufR F) (YB : Dev nD → BufY F) (K : GSem nD τ sig → ℕ)

theorem device_step (c : Dev nD) {f : Dev nD → Pg F} {Kt : PUnit → sProp 𝕄} :
    Run c (f c) Kt ⊢ Run c (Prog.lift .deviceId >>= f) Kt := by
  show _ ⊢ Run c (.op .deviceId f) Kt
  exact Entails.of_eq (wp_deviceId 𝒱₀ (c : Thread nD τ) none Set.univ).symm

theorem ret_step (c : Dev nD) {Kt : PUnit → sProp 𝕄} : (|={Set.univ}=> Kt ⟨⟩ : sProp 𝕄) ⊢ Run c (pure ⟨⟩ : Pg F) Kt := by
  show _ ⊢ Run c (.ret ⟨⟩) Kt
  unfold Run
  rw [wp_ret]

theorem bigSep_succ {M : Type} [URA M] {n : ℕ} (Φ : Fin (n + 1) → sProp M) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl
theorem bigSep_none {M : Type} [URA M] (Φ : Fin 0 → sProp M) : bigSep Finset.univ Φ = iprop(emp) := bigSep_univ_eq_bigSepL [] (by decide) (by decide) Φ
theorem bigSep_three {M : Type} [URA M] (Φ : Fin 3 → sProp M) : bigSep Finset.univ Φ = iprop(Φ 0 ∗ Φ 1 ∗ Φ 2) := by
  rw [bigSep_succ, bigSep_fin_two]; rfl

/-- Every cell's record, that each barrier cell is open, and the levels. -/
def recs : sProp 𝕄 :=
  iprop(bigSep allCells (fun g => cI RC YB K g) ∗ bigSep barCells (fun g => reached ER g 0) ∗ levAts L lv)
instance recs_persistent : BI.Persistent (recs RC YB K) := by unfold recs; infer_instance

theorem recs_cell {g : GSem nD τ sig} (h : g ∈ allCells) : recs RC YB K ⊢ cI RC YB K g := by
  have e : (bigSep allCells (fun g => cI RC YB K g) : sProp 𝕄) ⊢ cI RC YB K g := bigSep_elim h
  unfold recs
  iintro ⟨#H, -, -⟩
  iapply e; iexact H
theorem recs_bar {g : GSem nD τ sig} (h : g ∈ barCells) : recs RC YB K ⊢ reached ER g 0 := by
  have e : (bigSep barCells (fun g => reached ER g 0) : sProp 𝕄) ⊢ reached ER g 0 := bigSep_elim h
  unfold recs
  iintro ⟨-, #H, -⟩
  iapply e; iexact H
theorem recs_lev : recs RC YB K ⊢ levAts L lv := by
  unfold recs
  iintro ⟨-, -, #H⟩
  iexact H

/-- A cell is closed, its counter back at zero. -/
theorem close {g : GSem nD τ sig} (h : g ∈ allCells) :
    iprop(recs RC YB K ∗ atPos ER g 1 ∅ 0) ⊢ (|={Set.univ}=> semVal g 0 : sProp 𝕄) :=
  (sep_mono_left (recs_cell RC YB K h)).trans
    (Rounds.cell_close ER (talkRd RC YB) (Set.mem_univ (K g)) id (duties_later RC YB g))

end Cert.KernelIdeal.A2A
-- ==== Proof.IdealRun0.lean ====
/- The first call's body, run on one device. -/
module

public import proofs.«01_k».proof.Proof.IdealCells
public import Idealize.ShloMosaic.Lib.VecWindow

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (RC : Dev nD → BufR F) (YB : Dev nD → BufY F) (K : GSem nD τ sig → ℕ)

/-! ## Addresses and offsets of the first call -/

theorem d0_1 (c : Dev nD) : (⟨k0_dev1 c, k0_dev1_lt c⟩ : Dev nD) = dst c 0 := by revert c; decide
theorem d0_2 (c : Dev nD) : (⟨k0_dev2 c, k0_dev2_lt c⟩ : Dev nD) = dst c 1 := by revert c; decide
theorem d0_3 (c : Dev nD) : (⟨k0_dev3 c, k0_dev3_lt c⟩ : Dev nD) = dst c 2 := by revert c; decide
theorem d0_4 (c : Dev nD) : (⟨k0_dev4 c, k0_dev4_lt c⟩ : Dev nD) = dst c 0 := by revert c; decide
theorem d0_5 (c : Dev nD) : (⟨k0_dev5 c, k0_dev5_lt c⟩ : Dev nD) = dst c 1 := by revert c; decide
theorem d0_6 (c : Dev nD) : (⟨k0_dev6 c, k0_dev6_lt c⟩ : Dev nD) = dst c 2 := by revert c; decide
theorem o0_1 (c : Dev nD) : k0_off1 c = ![c.val, 0, 0, 0] := by revert c; decide

/-! ## What the first call's body runs from, and to -/

/-- What goes with transfer `k` to device `dst c k`. -/
def own0 (c : Dev nD) (k : Fin 3) : sProp 𝕄 :=
  iprop((atPos ER (S0 c k) 0 ∅ 0 ∗ reached ER (S0 c k) 0) ∗ (atPos ER (R0 c k) 0 ∅ 0 ∗ reached ER (R0 c k) 0)
    ∗ dutyTok ER (S0 c k) 0 0 ∗ dutyTok ER (R0 (dst c k) k) 0 0 ∗ dutyTok ER (B0 (dst c k)) 0 k
    ∗ cred (tallyAt (R0 c k) () N0) ∗ ∃ f : BufR F, pR c (dst c k) f)
def done0 (c : Dev nD) (k : Fin 3) : sProp 𝕄 :=
  iprop(semVal (S0 c k) 0 ∗ semVal (R0 c k) 0 ∗ pR c (src c k) (RC c))

variable (arg0 : Memref sig .tc .vmem S1x2048 .i32) (harg0 : arg0.IsWhole) (arg1 : Memref sig .tc .vmem S2048x512 .bf16) (harg1 : arg1.IsWhole)
variable (a : Vec F S1x2048 .i32) (x : Vec F S2048x512 .bf16)

def pre0 (c : Dev nD) : sProp 𝕄 :=
  iprop(own0 (F := F) c 0 ∗ own0 (F := F) c 1 ∗ own0 (F := F) c 2 ∗ (atPos ER (B0 c) 0 ∅ 0 ∗ cred (tallyAt (B0 c) () 3))
    ∗ ((atPos ER (C0 c) 0 ∅ 0 ∗ reached ER (C0 c) 0) ∗ dutyTok ER (C0 c) 0 0) ∗ (∃ f : BufR F, pR c c f)
    ∗ (∃ f : BufT F, pT c 0 f) ∗ (∃ f : BufT F, pT c 1 f) ∗ ow c (due1 c + due0 c) ∗ held c arg0 a ∗ held c arg1 x)
def post0 (c : Dev nD) : sProp 𝕄 :=
  iprop(done0 RC c 0 ∗ done0 RC c 1 ∗ done0 RC c 2 ∗ semVal (B0 c) 0 ∗ semVal (C0 c) 0 ∗ pR c c (RC c)
    ∗ (∃ f : BufT F, pT c 0 f) ∗ (∃ f : BufT F, pT c 1 f) ∗ ow c (due1 c) ∗ held c arg0 a ∗ held c arg1 x)

theorem barPay0_of (c : Dev nD) (k : Fin 3) :
    iprop((∃ f : BufR F, pR c (dst c k) f) ∗ reached ER (R0 c k.rev) 0) ⊢ (barPay0 (F := F) (dst c k) k : sProp 𝕄) := by
  unfold barPay0; rw [dst_dst_rev]

/-- What arrives with the barrier, by the transfer it makes room for. -/
theorem barPay0_at (c : Dev nD) :
    (bigSep Finset.univ (barPay0 (F := F) c) : sProp 𝕄)
      = iprop(((∃ f : BufR F, pR (dst c 2) c f) ∗ reached ER (R0 (dst c 2) 2) 0) ∗ ((∃ f : BufR F, pR (dst c 1) c f) ∗ reached ER (R0 (dst c 1) 1) 0)
        ∗ ((∃ f : BufR F, pR (dst c 0) c f) ∗ reached ER (R0 (dst c 0) 0) 0)) := by
  rw [bigSep_three]; rfl

set_option maxHeartbeats 1600000 in
theorem run0 (c : Dev nD) (hX : ∀ k : Fin 3, (mR.view.slice (rR c)).read (Elt F) (RC (dst c k)) = bkt c k.castSucc a x)
    (hXc : (mR.view.slice (rR c)).read (Elt F) (RC c) = bkt c 3 a x) (Kt : PUnit → sProp 𝕄) :
    iprop(recs RC YB K ∗ pre0 arg0 arg1 a x c ∗ (post0 RC arg0 arg1 a x c -∗ Kt ⟨⟩)) ⊢ Run c (norm0 arg0 harg0 arg1 harg1) Kt := by
  unfold pre0 own0 norm0
  iintro ⟨#HI, ⟨⟨⟨HaS0, #HrS0⟩, ⟨HaR0, #HrR0⟩, HtS0, HtR0, HtB0, HcR0, Hs0⟩, ⟨⟨HaS1, #HrS1⟩, ⟨HaR1, #HrR1⟩, HtS1, HtR1, HtB1, HcR1, Hs1⟩,
    ⟨⟨HaS2, #HrS2⟩, ⟨HaR2, #HrR2⟩, HtS2, HtR2, HtB2, HcR2, Hs2⟩, ⟨HaB, HcB⟩, ⟨⟨HaC, #HrC⟩, HtC⟩, HsC, HT0, HT1, HO, Ha, Hx⟩, Hk⟩
  ihave #Hlev := (recs_lev RC YB K) $$ HI
  iapply (device_step c)
  iapply (sig_step RC YB K (d := dst c 0) (u := 0) (due1 c + oB0 c 2) (d0_1 c) (payload_B0 RC YB _ 0) (add_assoc _ _ _).symm)
  isplitr; · iapply (recs_cell RC YB K (mem_B0 _)); iexact HI
  isplitl [HO]; · iexact HO
  isplitl [HtB0]; · iexact HtB0
  isplitl [Hs0]
  · iapply (barPay0_of c 0); isplitl [Hs0]; · iexact Hs0
    iexact HrR2
  isplitr; · iapply (recs_bar RC YB K (mem_bar0 _)); iexact HI
  iintro HO
  iapply (sig_step RC YB K (d := dst c 1) (u := 1) (due1 c + oB0 c 1) (d0_2 c) (payload_B0 RC YB _ 1) (add_assoc _ _ _).symm)
  isplitr; · iapply (recs_cell RC YB K (mem_B0 _)); iexact HI
  isplitl [HO]; · iexact HO
  isplitl [HtB1]; · iexact HtB1
  isplitl [Hs1]
  · iapply (barPay0_of c 1); isplitl [Hs1]; · iexact Hs1
    iexact HrR1
  isplitr; · iapply (recs_bar RC YB K (mem_bar0 _)); iexact HI
  iintro HO
  iapply (sig_step RC YB K (d := dst c 2) (u := 2) (due1 c + oB0 c 0) (d0_3 c) (payload_B0 RC YB _ 2) (add_assoc _ _ _).symm)
  isplitr; · iapply (recs_cell RC YB K (mem_B0 _)); iexact HI
  isplitl [HO]; · iexact HO
  isplitl [HtB2]; · iexact HtB2
  isplitl [Hs2]
  · iapply (barPay0_of c 2); isplitl [Hs2]; · iexact Hs2
    iexact HrR0
  isplitr; · iapply (recs_bar RC YB K (mem_bar0 _)); iexact HI
  iintro HO
  iapply (waitBar_step RC YB K (n := 1) ((rest_B0 RC YB c).trans (barPay0_at c)) (above_add ((above_oB1 c 3).mono (by decide)) (above_oR0 c 3)) (by rw [lv_B0]))
  isplitr; · iapply (recs_cell RC YB K (mem_B0 _)); iexact HI
  isplitr; · iexact Hlev
  isplitl [HcB]; · iexact HcB
  isplitl [HO]; · iexact HO
  isplitl [HaB]; · iexact HaB
  iintro ⟨HO, HaB, ⟨Hd2, #HrD2⟩, ⟨Hd1, #HrD1⟩, ⟨Hd0, #HrD0⟩⟩
  iapply (fill_step 0 rfl a x)
  isplitl [Ha]; · iexact Ha
  isplitl [Hx]; · iexact Hx
  isplitl [HT0]; · iexact HT0
  iintro ⟨Ha, Hx, HT0⟩
  iapply (fire0_step RC YB K 0 (due1 c + oR0 c 2) (bkt c 0 a x) (d0_4 c) rfl rfl rfl (o0_1 c) (add_assoc _ _ _).symm (hX 0))
  isplitr; · iapply (recs_cell RC YB K (mem_S0 _ _)); iexact HI
  isplitr; · iapply (recs_cell RC YB K (mem_R0 _ _)); iexact HI
  isplitl [HT0]; · iexact HT0
  isplitl [Hd0]; · iexact Hd0
  isplitl [HO]; · iexact HO
  isplitl [HtS0]; · iexact HtS0
  isplitr; · iexact HrS0
  isplitl [HtR0]; · iexact HtR0
  isplitr; · iexact HrD0
  iintro ⟨HcS0, HO⟩
  iapply (fill_step 1 rfl a x)
  isplitl [Ha]; · iexact Ha
  isplitl [Hx]; · iexact Hx
  isplitl [HT1]; · iexact HT1
  iintro ⟨Ha, Hx, HT1⟩
  iapply (fire0_step RC YB K 1 (due1 c + oR0 c 1) (bkt c 1 a x) (d0_5 c) rfl rfl rfl (o0_1 c) (add_assoc _ _ _).symm (hX 1))
  isplitr; · iapply (recs_cell RC YB K (mem_S0 _ _)); iexact HI
  isplitr; · iapply (recs_cell RC YB K (mem_R0 _ _)); iexact HI
  isplitl [HT1]; · iexact HT1
  isplitl [Hd1]; · iexact Hd1
  isplitl [HO]; · iexact HO
  isplitl [HtS1]; · iexact HtS1
  isplitr; · iexact HrS1
  isplitl [HtR1]; · iexact HtR1
  isplitr; · iexact HrD1
  iintro ⟨HcS1, HO⟩
  iapply (waitT_step RC YB K (n := 0) (duties_S0 RC YB c 0) (amount_S0 RC YB c 0 0) ((payload_S0 RC YB c 0 0).trans (by unfold sendPay0; rfl)) (above_add ((above_oB1 c 3).mono (by decide)) ((above_oR0 c 1).mono (by decide))) (by rw [lv_S0]))
  isplitr; · iapply (recs_cell RC YB K (mem_S0 _ _)); iexact HI
  isplitr; · iexact Hlev
  isplitl [HcS0]; · iexact HcS0
  isplitl [HO]; · iexact HO
  isplitl [HaS0]; · iexact HaS0
  iintro ⟨HO, HaS0, HT0⟩
  iapply (fill_step 0 rfl a x)
  isplitl [Ha]; · iexact Ha
  isplitl [Hx]; · iexact Hx
  isplitl [HT0]; · iexact HT0
  iintro ⟨Ha, Hx, HT0⟩
  iapply (fire0_step RC YB K 2 (due1 c) (bkt c 2 a x) (d0_6 c) rfl rfl rfl (o0_1 c) (congrArg (due1 c + ·) (zero_add _)) (hX 2))
  isplitr; · iapply (recs_cell RC YB K (mem_S0 _ _)); iexact HI
  isplitr; · iapply (recs_cell RC YB K (mem_R0 _ _)); iexact HI
  isplitl [HT0]; · iexact HT0
  isplitl [Hd2]; · iexact Hd2
  isplitl [HO]; · iexact HO
  isplitl [HtS2]; · iexact HtS2
  isplitr; · iexact HrS2
  isplitl [HtR2]; · iexact HtR2
  isplitr; · iexact HrD2
  iintro ⟨HcS2, HO⟩
  iapply (waitT_step RC YB K (n := 0) (duties_S0 RC YB c 1) (amount_S0 RC YB c 1 0) ((payload_S0 RC YB c 1 0).trans (by unfold sendPay0; rfl)) ((above_oB1 c 3).mono (by decide)) (by rw [lv_S0]))
  isplitr; · iapply (recs_cell RC YB K (mem_S0 _ _)); iexact HI
  isplitr; · iexact Hlev
  isplitl [HcS1]; · iexact HcS1
  isplitl [HO]; · iexact HO
  isplitl [HaS1]; · iexact HaS1
  iintro ⟨HO, HaS1, HT1⟩
  iapply (fill_step 1 rfl a x)
  isplitl [Ha]; · iexact Ha
  isplitl [Hx]; · iexact Hx
  isplitl [HT1]; · iexact HT1
  iintro ⟨Ha, Hx, HT1⟩
  iapply (keep_step RC YB K (bkt c 3 a x) rfl (o0_1 c) hXc)
  isplitr; · iapply (recs_cell RC YB K (mem_C0 _)); iexact HI
  isplitl [HT1]; · iexact HT1
  isplitl [HsC]; · iexact HsC
  isplitl [HtC]; · iexact HtC
  isplitr; · iexact HrC
  iintro HcC
  iapply (waitR_step RC YB K (n := 0) (duties_C0 RC YB c) (amount_C0 RC YB c 0) ((payload_C0 RC YB c 0).trans (by unfold copyPay0; rfl)) ((above_oB1 c 3).mono (by decide)) (by rw [lv_C0]))
  isplitr; · iapply (recs_cell RC YB K (mem_C0 _)); iexact HI
  isplitr; · iexact Hlev
  isplitl [HcC]; · iexact HcC
  isplitl [HO]; · iexact HO
  isplitl [HaC]; · iexact HaC
  iintro ⟨HO, HaC, ⟨HsC, HT1⟩⟩
  iapply (waitT_step RC YB K (n := 0) (duties_S0 RC YB c 2) (amount_S0 RC YB c 2 0) ((payload_S0 RC YB c 2 0).trans (by unfold sendPay0; rfl)) ((above_oB1 c 3).mono (by decide)) (by rw [lv_S0]))
  isplitr; · iapply (recs_cell RC YB K (mem_S0 _ _)); iexact HI
  isplitr; · iexact Hlev
  isplitl [HcS2]; · iexact HcS2
  isplitl [HO]; · iexact HO
  isplitl [HaS2]; · iexact HaS2
  iintro ⟨HO, HaS2, HT0⟩
  iapply (waitR_step RC YB K (n := 2) (duties_R0 RC YB c 0) (amount_R0 RC YB c 0 0) (payload_R0 RC YB c 0 0) (above_oB1 c 3) (by rw [lv_R0]))
  isplitr; · iapply (recs_cell RC YB K (mem_R0 _ _)); iexact HI
  isplitr; · iexact Hlev
  isplitl [HcR0]; · iexact HcR0
  isplitl [HO]; · iexact HO
  isplitl [HaR0]; · iexact HaR0
  iintro ⟨HO, HaR0, Hs0⟩
  iapply (waitR_step RC YB K (n := 2) (duties_R0 RC YB c 1) (amount_R0 RC YB c 1 0) (payload_R0 RC YB c 1 0) (above_oB1 c 3) (by rw [lv_R0]))
  isplitr; · iapply (recs_cell RC YB K (mem_R0 _ _)); iexact HI
  isplitr; · iexact Hlev
  isplitl [HcR1]; · iexact HcR1
  isplitl [HO]; · iexact HO
  isplitl [HaR1]; · iexact HaR1
  iintro ⟨HO, HaR1, Hs1⟩
  iapply (waitR_step RC YB K (n := 2) (duties_R0 RC YB c 2) (amount_R0 RC YB c 2 0) (payload_R0 RC YB c 2 0) (above_oB1 c 3) (by rw [lv_R0]))
  isplitr; · iapply (recs_cell RC YB K (mem_R0 _ _)); iexact HI
  isplitr; · iexact Hlev
  isplitl [HcR2]; · iexact HcR2
  isplitl [HO]; · iexact HO
  isplitl [HaR2]; · iexact HaR2
  iintro ⟨HO, HaR2, Hs2⟩
  iapply (ret_step c)
  imod (close RC YB K (mem_B0 c)) $$ [HaB] with HaB
  · isplitr; · iexact HI
    iexact HaB
  imod (close RC YB K (mem_C0 c)) $$ [HaC] with HaC
  · isplitr; · iexact HI
    iexact HaC
  imod (close RC YB K (mem_S0 c 0)) $$ [HaS0] with HaS0
  · isplitr; · iexact HI
    iexact HaS0
  imod (close RC YB K (mem_S0 c 1)) $$ [HaS1] with HaS1
  · isplitr; · iexact HI
    iexact HaS1
  imod (close RC YB K (mem_S0 c 2)) $$ [HaS2] with HaS2
  · isplitr; · iexact HI
    iexact HaS2
  imod (close RC YB K (mem_R0 c 0)) $$ [HaR0] with HaR0
  · isplitr; · iexact HI
    iexact HaR0
  imod (close RC YB K (mem_R0 c 1)) $$ [HaR1] with HaR1
  · isplitr; · iexact HI
    iexact HaR1
  imod (close RC YB K (mem_R0 c 2)) $$ [HaR2] with HaR2
  · isplitr; · iexact HI
    iexact HaR2
  imodintro
  iapply Hk
  unfold post0 done0 recvPay0
  isplitl [HaS0 HaR0 Hs0]
  · isplitl [HaS0]; · iexact HaS0
    isplitl [HaR0]; · iexact HaR0
    iexact Hs0
  isplitl [HaS1 HaR1 Hs1]
  · isplitl [HaS1]; · iexact HaS1
    isplitl [HaR1]; · iexact HaR1
    iexact Hs1
  isplitl [HaS2 HaR2 Hs2]
  · isplitl [HaS2]; · iexact HaS2
    isplitl [HaR2]; · iexact HaR2
    iexact Hs2
  isplitl [HaB]; · iexact HaB
  isplitl [HaC]; · iexact HaC
  isplitl [HsC]; · iexact HsC
  isplitl [HT0]; · iexact HT0
  isplitl [HT1]; · iexact HT1
  isplitl [HO]; · iexact HO
  isplitl [Ha]; · iexact Ha
  iexact Hx

end Cert.KernelIdeal.A2A
-- ==== Proof.IdealStep1.lean ====
/- One rule per step of the second call's body. -/
module

public import proofs.«01_k».proof.Proof.IdealCells
public import Idealize.ShloMosaic.Lib.VecWindow

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (RC : Dev nD → BufR F) (YB : Dev nD → BufY F) (K : GSem nD τ sig → ℕ)

/-! ## Values of the second call -/

theorem inbA (p : Fin 4) (j : Fin 8) : InbA ![p.val, j.val, 0, 0] := by revert p j; decide
theorem inbW (j : Fin 8) : InbW ![j.val, 0, 0] := by revert j; decide

/-- Slab `(p, j)` of the received buckets, and expert `j`. -/
def slabA (A : Vec F S4x8x160x512 .bf16) (p : Fin 4) (j : Fin 8) : Vec F S1x1x160x512 .bf16 := fun i => A ((qA ![p.val, j.val, 0, 0] (inbA p j)).emb i)
def slabW (W : Vec F S8x512x1024 .bf16) (j : Fin 8) : Vec F S1x512x1024 .bf16 := fun i => W ((qW ![j.val, 0, 0] (inbW j)).emb i)

/-- A tile squeezed and a kept product squeezed are the same product. -/
theorem ptile_pown (a : Vec F S1x1x160x512 .bf16) (b : Vec F S1x512x1024 .bf16) (i : S160x1024.Idx) :
    ptile a b (Shape.reshapeEquiv squeezes_S1x160x1024_S160x1024.numel_eq i) = pown a b (Shape.reshapeEquiv squeezes_S1x1x160x1024_S160x1024.numel_eq i) := by
  unfold ptile pown k1_pay3 k1_pay32 shapeCast
  rw [Shape.reshapeEquiv_reshapeEquiv, Shape.reshapeEquiv_reshapeEquiv]

/-- The output once the four slabs have been added. -/
def outV (c : Dev nD) (s : Vec F S2048x1 .i32) (x : Vec F S2048x512 .f32) (w : Vec F S512x1024 .f32) : Vec F S2048x1024 .f32 :=
  pout4 c s ((mY.view.slice (rZ (src c 2))).read (Elt F) (YB c)) (pout3 c s ((mY.view.slice (rZ (src c 1))).read (Elt F) (YB c))
    (pout2 c s ((mY.view.slice (rZ (src c 0))).read (Elt F) (YB c)) (pout1 c s ((mY.view.slice (rZ c)).read (Elt F) (YB c)) (pout0 x w))))

/-! ## Loads of a part and stores of a whole operand -/

theorem load_heldPart {cs : CoreSpace} {s : Shape} {e : EltTy} (c : Dev nD) (m : Memref sig .tc cs s e) (X : s.Idx → Elt F e) (r : Rect s)
    {hl : m.view.LoadsAt r.toLoadRect} {k : (r.shape.Idx → Elt F e) → Pg F} {Kt : PUnit → sProp 𝕄} :
    iprop(held c m X ∗ (held c m X -∗ Run c (k fun i => X (r.emb i)) Kt)) ⊢ Run c (.op (.load m r.toLoadRect hl) k) Kt := by
  unfold held owns
  iintro ⟨⟨%f, %hf, H⟩, Hk⟩
  subst hf
  iapply (load_part c m r (View.set_slice_subset _ _) f)
  isplitl [H]; · iexact H
  iintro H
  iapply Hk
  iexists f
  isplitr; · ipureintro; rfl
  iexact H

theorem store_held {cs : CoreSpace} {s : Shape} {e : EltTy} (c : Dev nD) (m : Memref sig .tc cs s e) {X w : s.Idx → Elt F e} {o : Fin s.rank → ℕ}
    {inb : ∀ a, o a + s.size a ≤ s.size a} {hx : (m.access (Rect.unit (s := s) o s.size inb)).Stores Finset.univ} {hm} {k : PUnit → Pg F} {Kt : PUnit → sProp 𝕄} :
    iprop(held c m X ∗ (held c m w -∗ Run c (k ⟨⟩) Kt)) ⊢ Run c (.op (.store m (Rect.unit (s := s) o s.size inb) w Finset.univ hx hm) k) Kt := by
  unfold held owns
  iintro ⟨⟨%f, %hf, H⟩, Hk⟩
  iapply (store_part c m (Rect.unit (s := s) o s.size inb) (View.set_slice_subset _ _) f)
  isplitl [H]; · iexact H
  iintro ⟨%g, %hg, H⟩
  iapply Hk
  iexists g
  isplitr; · ipureintro; exact (View.readAt_full m.view g inb).symm.trans hg
  iexact H

/-! ## The waits of the second call -/

theorem waitY_step {c : Dev nD} {s : DmaSem sig} {n : ℕ} {P : sProp 𝕄} {o h p hp' w1 w2} {k : PUnit → Pg F} {Kt : PUnit → sProp 𝕄} {O : CellTallies nD τ sig Unit}
    (hd : (talkRd (F := F) RC YB).duties ((c : Thread nD τ), .dma s) 0 = {0}) (ha : (talkRd (F := F) RC YB).amount ((c : Thread nD τ), .dma s) 0 0 = N1)
    (hp : (talkRd (F := F) RC YB).payload ((c : Thread nD τ), .dma s) 0 0 = P) (hO : Above n O) (hl : lv ((c : Thread nD τ), .dma s) () ≤ n) :
    iprop(cI RC YB K ((c : Thread nD τ), .dma s) ∗ levAts L lv ∗ cred (tallyAt ((c : Thread nD τ), .dma s) () N1) ∗ ow c O ∗ atPos ER ((c : Thread nD τ), .dma s) 0 ∅ 0
        ∗ ((ow c O ∗ atPos ER ((c : Thread nD τ), .dma s) 1 ∅ 0 ∗ P) -∗ Run c (k ⟨⟩) Kt))
      ⊢ Run c (waitY s o h p hp' w1 w2 >>= k) Kt :=
  wait_step RC YB K (N := N1) (w := .waitDma2 s (sU o h) (sY p hp') w1 w2) (wpE_waitDma2_eq 𝒱₀ (c : Thread nD τ) none Set.univ) (expect_one RC YB hd ha)
    (rest_one RC YB hd hp) hO hl
theorem waitU_step {c : Dev nD} {s : DmaSem sig} {n : ℕ} {P : sProp 𝕄} {o h p hp' w1 w2} {k : PUnit → Pg F} {Kt : PUnit → sProp 𝕄} {O : CellTallies nD τ sig Unit}
    (hd : (talkRd (F := F) RC YB).duties ((c : Thread nD τ), .dma s) 0 = {0}) (ha : (talkRd (F := F) RC YB).amount ((c : Thread nD τ), .dma s) 0 0 = N1)
    (hp : (talkRd (F := F) RC YB).payload ((c : Thread nD τ), .dma s) 0 0 = P) (hO : Above n O) (hl : lv ((c : Thread nD τ), .dma s) () ≤ n) :
    iprop(cI RC YB K ((c : Thread nD τ), .dma s) ∗ levAts L lv ∗ cred (tallyAt ((c : Thread nD τ), .dma s) () N1) ∗ ow c O ∗ atPos ER ((c : Thread nD τ), .dma s) 0 ∅ 0
        ∗ ((ow c O ∗ atPos ER ((c : Thread nD τ), .dma s) 1 ∅ 0 ∗ P) -∗ Run c (k ⟨⟩) Kt))
      ⊢ Run c (waitU s o h p hp' w1 w2 >>= k) Kt :=
  wait_step RC YB K (N := N1) (w := .waitDma2 s (sY p hp') (sU o h) w1 w2) (wpE_waitDma2_eq 𝒱₀ (c : Thread nD τ) none Set.univ) (expect_one RC YB hd ha)
    (rest_one RC YB hd hp) hO hl

/-! ## Products -/

theorem mkTile_bind {arg0 : Memref sig .tc .vmem S4x8x160x512 .bf16} {arg1 : Memref sig .tc .vmem S8x512x1024 .bf16} {o0 h0 o1 h1 o h hs} {k : PUnit → Pg F} :
    mkTile arg0 arg1 o0 h0 o1 h1 o h hs >>= k =
    .op (.load arg0 (qA o0 h0).toLoadRect (View.loadsAt_vmem h_S1x1x160x512)) fun a' =>
    .op (.load arg1 (qW o1 h1).toLoadRect (View.loadsAt_vmem h_S1x512x1024)) fun x' =>
    .op (.load mU (qU o h).toLoadRect (View.loadsAt_vmem h_S1x160x1024)) fun _ =>
    .op (.store mU (qU o h) (ptile a' x') Finset.univ hs (.inl rfl)) k := rfl

theorem slabA_eq {o0 : Fin 4 → ℕ} {h0 : InbA o0} {p : Fin 4} {j : Fin 8} (e : o0 = ![p.val, j.val, 0, 0]) (A : Vec F S4x8x160x512 .bf16) :
    (fun i => A ((qA o0 h0).emb i)) = slabA A p j := by subst e; rfl
theorem slabW_eq {o1 : Fin 3 → ℕ} {h1 : InbW o1} {j : Fin 8} (e : o1 = ![j.val, 0, 0]) (W : Vec F S8x512x1024 .bf16) :
    (fun i => W ((qW o1 h1).emb i)) = slabW W j := by subst e; rfl

set_option maxHeartbeats 400000 in
theorem mkTile_step {c : Dev nD} {arg0 : Memref sig .tc .vmem S4x8x160x512 .bf16} {arg1 : Memref sig .tc .vmem S8x512x1024 .bf16} {o0 h0 o1 h1 o h hs}
    {k : PUnit → Pg F} {Kt : PUnit → sProp 𝕄} (b : Fin 2) (p : Fin 4) (j : Fin 8) (ho : o = ![b.val, 0, 0]) (ho0 : o0 = ![p.val, j.val, 0, 0]) (ho1 : o1 = ![j.val, 0, 0])
    (A : Vec F S4x8x160x512 .bf16) (W : Vec F S8x512x1024 .bf16) :
    iprop(held c arg0 A ∗ held c arg1 W ∗ (∃ g : BufU F, pU c b g)
        ∗ ((held c arg0 A ∗ held c arg1 W ∗ tU c b (ptile (slabA A p j) (slabW W j))) -∗ Run c (k ⟨⟩) Kt))
      ⊢ Run c (mkTile arg0 arg1 o0 h0 o1 h1 o h hs >>= k) Kt := by
  have hset : (mU.view.slice (qU o h)).set ⊆ (rU b).set := by subst ho; exact (View.set_slice_whole _ _).subset
  have hread : ∀ g : BufU F, (mU.view.slice (qU o h)).read (Elt F) g = (mU.view.slice (rU b)).read (Elt F) g := by subst ho; exact fun _ => rfl
  rw [mkTile_bind]
  iintro ⟨Ha, Hx, ⟨%g, Hg⟩, Hk⟩
  iapply (load_heldPart c arg0 A (qA o0 h0))
  isplitl [Ha]; · iexact Ha
  iintro Ha
  iapply (load_heldPart c arg1 W (qW o1 h1))
  isplitl [Hx]; · iexact Hx
  iintro Hx
  iapply (load_part c mU (qU o h) hset g)
  isplitl [Hg]; · iexact Hg
  iintro Hg
  iapply (store_part c mU (qU o h) hset g)
  isplitl [Hg]; · iexact Hg
  iintro Hg
  iapply Hk
  isplitl [Ha]; · iexact Ha
  isplitl [Hx]; · iexact Hx
  unfold tU
  icases Hg with ⟨%g', %hg, Hg⟩
  iexists g'
  isplitr; · ipureintro; rw [← slabA_eq (h0 := h0) ho0, ← slabW_eq (h1 := h1) ho1]; exact (hread g').symm.trans hg
  iexact Hg

theorem mkOwn_bind {arg0 : Memref sig .tc .vmem S4x8x160x512 .bf16} {arg1 : Memref sig .tc .vmem S8x512x1024 .bf16} {o0 h0 o1 h1 o h hs} {k : PUnit → Pg F} :
    mkOwn arg0 arg1 o0 h0 o1 h1 o h hs >>= k =
    .op (.load arg0 (qA o0 h0).toLoadRect (View.loadsAt_vmem h_S1x1x160x512)) fun a' =>
    .op (.load arg1 (qW o1 h1).toLoadRect (View.loadsAt_vmem h_S1x512x1024)) fun x' =>
    .op (.load mY (qY o h).toLoadRect (View.loadsAt_vmem h_S1x1x160x1024)) fun _ =>
    .op (.store mY (qY o h) (pown a' x') Finset.univ hs (.inl rfl)) k := rfl

set_option maxHeartbeats 400000 in
theorem mkOwn_step {c : Dev nD} {arg0 : Memref sig .tc .vmem S4x8x160x512 .bf16} {arg1 : Memref sig .tc .vmem S8x512x1024 .bf16} {o0 h0 o1 h1 o h hs}
    {k : PUnit → Pg F} {Kt : PUnit → sProp 𝕄} (j : Fin 8) (ho : o = ![c.val, j.val, 0, 0]) (ho0 : o0 = ![c.val, j.val, 0, 0]) (ho1 : o1 = ![j.val, 0, 0])
    (A : Vec F S4x8x160x512 .bf16) (W : Vec F S8x512x1024 .bf16) (Y : BufY F)
    (hY : (mY.view.slice (rY c j)).read (Elt F) Y = pown (slabA A c j) (slabW W j)) :
    iprop(held c arg0 A ∗ held c arg1 W ∗ (∃ g : BufY F, pY c c j g)
        ∗ ((held c arg0 A ∗ held c arg1 W ∗ pY c c j Y) -∗ Run c (k ⟨⟩) Kt))
      ⊢ Run c (mkOwn arg0 arg1 o0 h0 o1 h1 o h hs >>= k) Kt := by
  have hset : (mY.view.slice (qY o h)).set ⊆ (rY c j).set := by subst ho; exact (View.set_slice_whole _ _).subset
  have hread : ∀ g : BufY F, (mY.view.slice (qY o h)).read (Elt F) g = (mY.view.slice (rY c j)).read (Elt F) g := by subst ho; exact fun _ => rfl
  have hs2 : (mY.view.slice (rY c j)).set = (rY c j).set := View.set_slice_whole _ _
  have hput : ∀ g : BufY F, (mY.view.slice (rY c j)).read (Elt F) g = (mY.view.slice (rY c j)).read (Elt F) Y → (pY c c j g : sProp 𝕄) ⊢ pY c c j Y := fun g e =>
    (Entails.of_eq (by rw [hs2])).trans
      ((Entails.of_eq (held_of_read (mY.view.slice (rY c j)) c fullShare e)).trans (Entails.of_eq (by rw [hs2])))
  rw [mkOwn_bind]
  iintro ⟨Ha, Hx, ⟨%g, Hg⟩, Hk⟩
  iapply (load_heldPart c arg0 A (qA o0 h0))
  isplitl [Ha]; · iexact Ha
  iintro Ha
  iapply (load_heldPart c arg1 W (qW o1 h1))
  isplitl [Hx]; · iexact Hx
  iintro Hx
  iapply (load_part c mY (qY o h) hset g)
  isplitl [Hg]; · iexact Hg
  iintro Hg
  iapply (store_part c mY (qY o h) hset g)
  isplitl [Hg]; · iexact Hg
  iintro ⟨%g', %hg, Hg⟩
  iapply Hk
  isplitl [Ha]; · iexact Ha
  isplitl [Hx]; · iexact Hx
  iapply (hput g' (by rw [hY, ← slabA_eq (h0 := h0) ho0, ← slabW_eq (h1 := h1) ho1]; exact (hread g').symm.trans hg))
  iexact Hg

/-! ## Transfers -/

theorem landed1 {c : Dev nD} {b : Fin 2} {p : Fin 4} {j : Fin 8} {a : Vec F S1x1x160x512 .bf16} {w : Vec F S1x512x1024 .bf16} {fd Y : BufY F} {g : BufU F}
    (hY : (mY.view.slice (rY p j)).read (Elt F) Y = pown a w) (hg : (mU.view.slice (rU b)).read (Elt F) g = ptile a w) :
    ((sY ![p.val, j.val, 0, 0] (inbY p j)).view.loc (c : Thread nD τ) ↦[(sY ![p.val, j.val, 0, 0] (inbY p j)).view.set]{fullShare}
        ((sY ![p.val, j.val, 0, 0] (inbY p j)).view.write (Elt F) fd ((sU ![b.val, 0, 0] (inbU b)).view.read (Elt F) g) Finset.univ) : sProp 𝕄)
      ⊢ pY c p j Y := by
  refine (Entails.of_eq (held_of_read (sY ![p.val, j.val, 0, 0] (inbY p j)).view c fullShare (g := Y) ?_)).trans (Entails.of_eq (by rw [set_sY]))
  rw [View.read_write_univ]
  funext i
  exact (congrFun hg (Shape.reshapeEquiv squeezes_S1x160x1024_S160x1024.numel_eq i)).trans
    ((ptile_pown a w i).trans (congrFun hY (Shape.reshapeEquiv squeezes_S1x1x160x1024_S160x1024.numel_eq i)).symm)

theorem fire1_step {c : Dev nD} {v : Dev nD} {ss rs o h p hp w1 w2} {k : PUnit → Pg F} {Kt : PUnit → sProp 𝕄} {O₀ : CellTallies nD τ sig Unit}
    (i : Fin 24) (O : CellTallies nD τ sig Unit) (a : Vec F S1x1x160x512 .bf16) (w : Vec F S1x512x1024 .bf16)
    (hv : v = dst c (kk i)) (hss : ss = sS1 i) (hrs : rs = sR1 i) (ho : o = ![(tb1 i).val, 0, 0]) (hp' : p = ![c.val, (jj i).val, 0, 0])
    (hO : O₀ = O + tallyAt (Rc1 (dst c (kk i)) i) () N1) (hY : (mY.view.slice (rY c (jj i))).read (Elt F) (YB (dst c (kk i))) = pown a w) :
    iprop(cI RC YB K (Sd1 c i) ∗ cI RC YB K (Rc1 (dst c (kk i)) i) ∗ tU c (tb1 i) (ptile a w) ∗ (∃ f : BufY F, pY (dst c (kk i)) c (jj i) f) ∗ ow c O₀
        ∗ dutyTok ER (Sd1 c i) 0 0 ∗ reached ER (Sd1 c i) 0 ∗ dutyTok ER (Rc1 (dst c (kk i)) i) 0 0 ∗ reached ER (Rc1 (dst c (kk i)) i) 0
        ∗ ((cred (tallyAt (Sd1 c i) () N1) ∗ ow c O) -∗ Run c (k ⟨⟩) Kt))
      ⊢ Run c (fire1 v ss rs o h p hp w1 w2 >>= k) Kt := by
  subst hv hss hrs ho hp'
  unfold ow tU
  iintro ⟨HI1, HI2, ⟨%g, %hg, Hg⟩, ⟨%fd, Hf⟩, ⟨%W, HO⟩, Ht1, Hr1, Ht2, Hr2, Hk⟩
  iapply (Rounds.wp_send_pointsTo 𝒱₀ ER (talkRd (F := F) RC YB) (c : Thread nD τ) none (c' := (dst c (kk i) : Thread nD τ))
      (src := sU ![(tb1 i).val, 0, 0] (inbU (tb1 i))) (dst := sY ![c.val, (jj i).val, 0, 0] (inbY c (jj i)))
      (sS := .dma (sS1 i)) (sem := .dma (sR1 i)) (q := fullShare) (fs := g) (κ₁ := K (Sd1 c i)) (κ₂ := K (Rc1 (dst c (kk i)) i))
      (r₁ := 0) (r₂ := 0) (d₁ := 0) (d₂ := 0) (fd := fd) (k := k)
      (by rw [duties_Sd1]; exact Finset.mem_singleton_self _) (by rw [duties_Rc1]; exact Finset.mem_singleton_self _)
      () () N1 rfl (amount_Sd1 RC YB c i 0) (amount_Rc1 RC YB (dst c (kk i)) i 0) O hO (W := W)
      (by rw [payload_Sd1, set_sU]; unfold sendPay1; iintro H; iexists g; iexact H)
      (by rw [payload_Rc1]; unfold recvPay1; rw [src_dst]; exact landed1 hY hg)) $$ [HI1 HI2 Hg Hf HO Ht1 Hr1 Ht2 Hr2]
  · isplitl [HI1]; · iexact HI1
    isplitl [HI2]; · iexact HI2
    isplitl [Hg]; · rw [set_sU]; iexact Hg
    isplitl [Hf]; · rw [set_sY]; iexact Hf
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-! ## The output -/

theorem base_bind {arg3 : Memref sig .tc .vmem S2048x512 .f32} {arg4 : Memref sig .tc .vmem S512x1024 .f32} {arg5 : Memref sig .tc .vmem S2048x1024 .f32} {hs}
    {k : PUnit → Pg F} :
    base arg3 arg4 arg5 hs >>= k =
    .op (.load arg3 (Rect.unit (s := S2048x512) ![0, 0] S2048x512.size inb_S2048x512_S2048x512_0_0).toLoadRect (View.loadsAt_vmem h_S2048x512)) fun x' =>
    .op (.load arg4 (Rect.unit (s := S512x1024) ![0, 0] S512x1024.size inb_S512x1024_S512x1024_0_0).toLoadRect (View.loadsAt_vmem h_S512x1024)) fun w' =>
    .op (.load arg5 (Rect.unit (s := S2048x1024) ![0, 0] S2048x1024.size inb_S2048x1024_S2048x1024_0_0).toLoadRect (View.loadsAt_vmem h_S2048x1024)) fun _ =>
    .op (.store arg5 (Rect.unit (s := S2048x1024) ![0, 0] S2048x1024.size inb_S2048x1024_S2048x1024_0_0) (pout0 x' w') Finset.univ hs (.inl rfl)) k := rfl

theorem base_step {c : Dev nD} {arg3 : Memref sig .tc .vmem S2048x512 .f32} {arg4 : Memref sig .tc .vmem S512x1024 .f32} {arg5 : Memref sig .tc .vmem S2048x1024 .f32} {hs}
    {k : PUnit → Pg F} {Kt : PUnit → sProp 𝕄} (x : Vec F S2048x512 .f32) (w : Vec F S512x1024 .f32) :
    iprop(held c arg3 x ∗ held c arg4 w ∗ (∃ z, held c arg5 z)
        ∗ ((held c arg3 x ∗ held c arg4 w ∗ held c arg5 (pout0 x w)) -∗ Run c (k ⟨⟩) Kt))
      ⊢ Run c (base arg3 arg4 arg5 hs >>= k) Kt := by
  rw [base_bind]
  iintro ⟨Ha, Hx, ⟨%z, Hz⟩, Hk⟩
  iapply (load_held c arg3 x)
  isplitl [Ha]; · iexact Ha
  iintro Ha
  iapply (load_held c arg4 w)
  isplitl [Hx]; · iexact Hx
  iintro Hx
  iapply (load_held c arg5 z)
  isplitl [Hz]; · iexact Hz
  iintro Hz
  iapply (store_held c arg5)
  isplitl [Hz]; · iexact Hz
  iintro Hz
  iapply Hk
  isplitl [Ha]; · iexact Ha
  isplitl [Hx]; · iexact Hx
  iexact Hz

theorem comb_bind {arg2 : Memref sig .tc .vmem S2048x1 .i32} {arg5 : Memref sig .tc .vmem S2048x1024 .f32} {o h f hs} {k : PUnit → Pg F} :
    comb arg2 arg5 o h f hs >>= k =
    .op (.load arg2 (Rect.unit (s := S2048x1) ![0, 0] S2048x1.size inb_S2048x1_S2048x1_0_0).toLoadRect (View.loadsAt_vmem h_S2048x1)) fun t =>
    .op (.load mY (qZ o h).toLoadRect (View.loadsAt_vmem h_S1x8x160x1024)) fun y =>
    .op (.load arg5 (Rect.unit (s := S2048x1024) ![0, 0] S2048x1024.size inb_S2048x1024_S2048x1024_0_0).toLoadRect (View.loadsAt_vmem h_S2048x1024)) fun z =>
    .op (.load arg5 (Rect.unit (s := S2048x1024) ![0, 0] S2048x1024.size inb_S2048x1024_S2048x1024_0_0).toLoadRect (View.loadsAt_vmem h_S2048x1024)) fun _ =>
    .op (.store arg5 (Rect.unit (s := S2048x1024) ![0, 0] S2048x1024.size inb_S2048x1024_S2048x1024_0_0) (f t y z) Finset.univ hs (.inl rfl)) k := rfl

theorem comb_step {c : Dev nD} {arg2 : Memref sig .tc .vmem S2048x1 .i32} {arg5 : Memref sig .tc .vmem S2048x1024 .f32} {o h f hs}
    {k : PUnit → Pg F} {Kt : PUnit → sProp 𝕄} (p : Fin 4) (ho : o = ![p.val, 0, 0, 0]) (s : Vec F S2048x1 .i32) (z : Vec F S2048x1024 .f32) (Y : BufY F) :
    iprop(held c arg2 s ∗ pZ c p Y ∗ held c arg5 z
        ∗ ((held c arg2 s ∗ pZ c p Y ∗ held c arg5 (f s ((mY.view.slice (rZ p)).read (Elt F) Y) z)) -∗ Run c (k ⟨⟩) Kt))
      ⊢ Run c (comb arg2 arg5 o h f hs >>= k) Kt := by
  have hset : (mY.view.slice (qZ o h)).set ⊆ (rZ p).set := by subst ho; exact (View.set_slice_whole _ _).subset
  have hread : (mY.view.slice (qZ o h)).read (Elt F) Y = (mY.view.slice (rZ p)).read (Elt F) Y := by subst ho; rfl
  rw [comb_bind]
  iintro ⟨Ha, Hy, Hz, Hk⟩
  iapply (load_held c arg2 s)
  isplitl [Ha]; · iexact Ha
  iintro Ha
  iapply (load_part c mY (qZ o h) hset Y)
  isplitl [Hy]; · iexact Hy
  iintro Hy
  iapply (load_held c arg5 z)
  isplitl [Hz]; · iexact Hz
  iintro Hz
  iapply (load_held c arg5 z)
  isplitl [Hz]; · iexact Hz
  iintro Hz
  iapply (store_held c arg5)
  isplitl [Hz]; · iexact Hz
  iintro Hz
  iapply Hk
  isplitl [Ha]; · iexact Ha
  isplitl [Hy]; · iexact Hy
  rw [← hread]
  iexact Hz

end Cert.KernelIdeal.A2A
-- ==== Proof.IdealPieces.lean ====
/- The pieces of the travelling buffers, put together and taken apart. -/
module

public import proofs.«01_k».proof.Proof.IdealCells
public import Idealize.ShloMosaic.Lib.VecWindow

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem mem_rR {p : Fin 4} {i : S4x8x160x512.Idx} : i ∈ (rR p).set ↔ i 0 = p := by
  unfold rR
  rw [Rect.mem_set_unit]
  have h1 := (i 1).isLt; have h2 := (i 2).isLt; have h3 := (i 3).isLt
  constructor
  · intro h; have h0 := h 0
    exact Fin.ext (by have a : p.val ≤ (i 0).val := h0.1; have b : (i 0).val < p.val + 1 := h0.2; omega)
  · rintro rfl a; fin_cases a
    · exact ⟨le_refl _, Nat.lt_succ_self _⟩
    · exact ⟨Nat.zero_le _, lt_of_lt_of_eq h1 (Nat.zero_add _).symm⟩
    · exact ⟨Nat.zero_le _, lt_of_lt_of_eq h2 (Nat.zero_add _).symm⟩
    · exact ⟨Nat.zero_le _, lt_of_lt_of_eq h3 (Nat.zero_add _).symm⟩
theorem mem_rT {p : Fin 2} {i : S2x8x160x512.Idx} : i ∈ (rT p).set ↔ i 0 = p := by
  unfold rT
  rw [Rect.mem_set_unit]
  have h1 := (i 1).isLt; have h2 := (i 2).isLt; have h3 := (i 3).isLt
  constructor
  · intro h; have h0 := h 0
    exact Fin.ext (by have a : p.val ≤ (i 0).val := h0.1; have b : (i 0).val < p.val + 1 := h0.2; omega)
  · rintro rfl a; fin_cases a
    · exact ⟨le_refl _, Nat.lt_succ_self _⟩
    · exact ⟨Nat.zero_le _, lt_of_lt_of_eq h1 (Nat.zero_add _).symm⟩
    · exact ⟨Nat.zero_le _, lt_of_lt_of_eq h2 (Nat.zero_add _).symm⟩
    · exact ⟨Nat.zero_le _, lt_of_lt_of_eq h3 (Nat.zero_add _).symm⟩
theorem mem_rU {p : Fin 2} {i : S2x160x1024.Idx} : i ∈ (rU p).set ↔ i 0 = p := by
  unfold rU
  rw [Rect.mem_set_unit]
  have h1 := (i 1).isLt; have h2 := (i 2).isLt
  constructor
  · intro h; have h0 := h 0
    exact Fin.ext (by have a : p.val ≤ (i 0).val := h0.1; have b : (i 0).val < p.val + 1 := h0.2; omega)
  · rintro rfl a; fin_cases a
    · exact ⟨le_refl _, Nat.lt_succ_self _⟩
    · exact ⟨Nat.zero_le _, lt_of_lt_of_eq h1 (Nat.zero_add _).symm⟩
    · exact ⟨Nat.zero_le _, lt_of_lt_of_eq h2 (Nat.zero_add _).symm⟩
theorem mem_rZ {p : Fin 4} {i : S4x8x160x1024.Idx} : i ∈ (rZ p).set ↔ i 0 = p := by
  unfold rZ
  rw [Rect.mem_set_unit]
  have h1 := (i 1).isLt; have h2 := (i 2).isLt; have h3 := (i 3).isLt
  constructor
  · intro h; have h0 := h 0
    exact Fin.ext (by have a : p.val ≤ (i 0).val := h0.1; have b : (i 0).val < p.val + 1 := h0.2; omega)
  · rintro rfl a; fin_cases a
    · exact ⟨le_refl _, Nat.lt_succ_self _⟩
    · exact ⟨Nat.zero_le _, lt_of_lt_of_eq h1 (Nat.zero_add _).symm⟩
    · exact ⟨Nat.zero_le _, lt_of_lt_of_eq h2 (Nat.zero_add _).symm⟩
    · exact ⟨Nat.zero_le _, lt_of_lt_of_eq h3 (Nat.zero_add _).symm⟩
theorem mem_rY {p : Fin 4} {j : Fin 8} {i : S4x8x160x1024.Idx} : i ∈ (rY p j).set ↔ i 0 = p ∧ i 1 = j := by
  unfold rY
  rw [Rect.mem_set_unit]
  have h2 := (i 2).isLt; have h3 := (i 3).isLt
  constructor
  · intro h; have h0 := h 0; have h1 := h 1
    exact ⟨Fin.ext (by have a : p.val ≤ (i 0).val := h0.1; have b : (i 0).val < p.val + 1 := h0.2; omega),
      Fin.ext (by have a : j.val ≤ (i 1).val := h1.1; have b : (i 1).val < j.val + 1 := h1.2; omega)⟩
  · rintro ⟨rfl, rfl⟩ a; fin_cases a
    · exact ⟨le_refl _, Nat.lt_succ_self _⟩
    · exact ⟨le_refl _, Nat.lt_succ_self _⟩
    · exact ⟨Nat.zero_le _, lt_of_lt_of_eq h2 (Nat.zero_add _).symm⟩
    · exact ⟨Nat.zero_le _, lt_of_lt_of_eq h3 (Nat.zero_add _).symm⟩

theorem un_R : (Finset.univ : Finset (Fin 4)).biUnion (fun p => (rR p).set) = Finset.univ := by
  ext i; simp only [Finset.mem_biUnion, Finset.mem_univ, true_and, iff_true]; exact ⟨i 0, mem_rR.mpr rfl⟩
theorem un_T : (Finset.univ : Finset (Fin 2)).biUnion (fun p => (rT p).set) = Finset.univ := by
  ext i; simp only [Finset.mem_biUnion, Finset.mem_univ, true_and, iff_true]; exact ⟨i 0, mem_rT.mpr rfl⟩
theorem un_U : (Finset.univ : Finset (Fin 2)).biUnion (fun p => (rU p).set) = Finset.univ := by
  ext i; simp only [Finset.mem_biUnion, Finset.mem_univ, true_and, iff_true]; exact ⟨i 0, mem_rU.mpr rfl⟩
theorem un_Z : (Finset.univ : Finset (Fin 4)).biUnion (fun p => (rZ p).set) = Finset.univ := by
  ext i; simp only [Finset.mem_biUnion, Finset.mem_univ, true_and, iff_true]; exact ⟨i 0, mem_rZ.mpr rfl⟩
theorem un_Y (p : Fin 4) : (Finset.univ : Finset (Fin 8)).biUnion (fun j => (rY p j).set) = (rZ p).set := by
  ext i; simp only [Finset.mem_biUnion, Finset.mem_univ, true_and, mem_rY, mem_rZ]
  exact ⟨fun ⟨_, h, _⟩ => h, fun h => ⟨i 1, h, rfl⟩⟩
theorem dj_R : ∀ p ∈ (Finset.univ : Finset (Fin 4)), ∀ p' ∈ (Finset.univ : Finset (Fin 4)), p ≠ p' → Disjoint (rR p).set (rR p').set := fun p _ p' _ h =>
  Finset.disjoint_left.mpr fun i hi hi' => h ((mem_rR.mp hi).symm.trans (mem_rR.mp hi'))
theorem dj_T : ∀ p ∈ (Finset.univ : Finset (Fin 2)), ∀ p' ∈ (Finset.univ : Finset (Fin 2)), p ≠ p' → Disjoint (rT p).set (rT p').set := fun p _ p' _ h =>
  Finset.disjoint_left.mpr fun i hi hi' => h ((mem_rT.mp hi).symm.trans (mem_rT.mp hi'))
theorem dj_U : ∀ p ∈ (Finset.univ : Finset (Fin 2)), ∀ p' ∈ (Finset.univ : Finset (Fin 2)), p ≠ p' → Disjoint (rU p).set (rU p').set := fun p _ p' _ h =>
  Finset.disjoint_left.mpr fun i hi hi' => h ((mem_rU.mp hi).symm.trans (mem_rU.mp hi'))
theorem dj_Z : ∀ p ∈ (Finset.univ : Finset (Fin 4)), ∀ p' ∈ (Finset.univ : Finset (Fin 4)), p ≠ p' → Disjoint (rZ p).set (rZ p').set := fun p _ p' _ h =>
  Finset.disjoint_left.mpr fun i hi hi' => h ((mem_rZ.mp hi).symm.trans (mem_rZ.mp hi'))
theorem dj_Y (p : Fin 4) : ∀ j ∈ (Finset.univ : Finset (Fin 8)), ∀ j' ∈ (Finset.univ : Finset (Fin 8)), j ≠ j' → Disjoint (rY p j).set (rY p j').set :=
  fun j _ j' _ h => Finset.disjoint_left.mpr fun i hi hi' => h ((mem_rY.mp hi).2.symm.trans (mem_rY.mp hi').2)

/-- Each buffer whole is its pieces. -/
theorem whole_R (c : Dev nD) (f : BufR F) : (mR.view.loc (c : Thread nD τ) ↦[Finset.univ]{fullShare} f : sProp 𝕄) = bigSep Finset.univ fun p => pR c p f := by
  rw [← un_R]; exact pointsTo_biUnion Finset.univ _ dj_R
theorem whole_T (c : Dev nD) (f : BufT F) : (mT.view.loc (c : Thread nD τ) ↦[Finset.univ]{fullShare} f : sProp 𝕄) = bigSep Finset.univ fun p => pT c p f := by
  rw [← un_T]; exact pointsTo_biUnion Finset.univ _ dj_T
theorem whole_U (c : Dev nD) (f : BufU F) : (mU.view.loc (c : Thread nD τ) ↦[Finset.univ]{fullShare} f : sProp 𝕄) = bigSep Finset.univ fun p => pU c p f := by
  rw [← un_U]; exact pointsTo_biUnion Finset.univ _ dj_U
theorem whole_Z (c : Dev nD) (f : BufY F) : (mY.view.loc (c : Thread nD τ) ↦[Finset.univ]{fullShare} f : sProp 𝕄) = bigSep Finset.univ fun p => pZ c p f := by
  rw [← un_Z]; exact pointsTo_biUnion Finset.univ _ dj_Z
theorem slab_Y (c : Dev nD) (p : Fin 4) (f : BufY F) : (pZ c p f : sProp 𝕄) = bigSep Finset.univ fun j => pY c p j f := by
  unfold pZ; rw [← un_Y]; exact pointsTo_biUnion Finset.univ _ (dj_Y p)

theorem fin_two_un {α : Type} [DecidableEq α] (K : Fin 2 → Finset α) : (Finset.univ : Finset (Fin 2)).biUnion K = K 0 ∪ K 1 := by
  ext x; simp [Fin.exists_fin_two]

/-- A scratch whose two tiles hold anything holds something whole. -/
theorem join_T (c : Dev nD) : iprop((∃ f : BufT F, pT c 0 f) ∗ (∃ f : BufT F, pT c 1 f)) ⊢ (iprop(∃ f : BufT F, mT.view.loc (c : Thread nD τ) ↦[Finset.univ]{fullShare} f) : sProp 𝕄) := by
  iintro ⟨⟨%f, Hf⟩, ⟨%g, Hg⟩⟩
  iexists (rT 1).set.piecewise g f
  have e : ((rT 0).set ∪ (rT 1).set : Finset S2x8x160x512.Idx) = Finset.univ := by
    rw [← un_T, fin_two_un]
  rw [← e]
  iapply (pointsTo_join (dj_T 0 (Finset.mem_univ _) 1 (Finset.mem_univ _) (by decide)))
  isplitl [Hf]; · iexact Hf
  iexact Hg
theorem join_U (c : Dev nD) : iprop((∃ f : BufU F, pU c 0 f) ∗ (∃ f : BufU F, pU c 1 f)) ⊢ (iprop(∃ f : BufU F, mU.view.loc (c : Thread nD τ) ↦[Finset.univ]{fullShare} f) : sProp 𝕄) := by
  iintro ⟨⟨%f, Hf⟩, ⟨%g, Hg⟩⟩
  iexists (rU 1).set.piecewise g f
  have e : ((rU 0).set ∪ (rU 1).set : Finset S2x160x1024.Idx) = Finset.univ := by
    rw [← un_U, fin_two_un]
  rw [← e]
  iapply (pointsTo_join (dj_U 0 (Finset.mem_univ _) 1 (Finset.mem_univ _) (by decide)))
  isplitl [Hf]; · iexact Hf
  iexact Hg

/-! ## Families written out -/

theorem bigSep_four {M : Type} [URA M] (Φ : Fin 4 → sProp M) : bigSep Finset.univ Φ = iprop(Φ 0 ∗ Φ 1 ∗ Φ 2 ∗ Φ 3) := by
  rw [bigSep_succ, bigSep_succ, bigSep_fin_two]; rfl
theorem bigSep_eight {M : Type} [URA M] (Φ : Fin 8 → sProp M) : bigSep Finset.univ Φ = iprop(Φ 0 ∗ Φ 1 ∗ Φ 2 ∗ Φ 3 ∗ Φ 4 ∗ Φ 5 ∗ Φ 6 ∗ Φ 7) := by
  rw [bigSep_succ, bigSep_succ, bigSep_succ, bigSep_succ, bigSep_succ, bigSep_succ, bigSep_fin_two]; rfl
theorem bigSep_all {M : Type} [URA M] (Φ : Fin 24 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [bigSep_succ, bigSep_succ, bigSep_succ, bigSep_succ, bigSep_succ, bigSep_succ, bigSep_succ, bigSep_succ, bigSep_succ, bigSep_succ, bigSep_succ, bigSep_succ, bigSep_succ, bigSep_succ, bigSep_succ, bigSep_succ, bigSep_succ, bigSep_succ, bigSep_succ, bigSep_succ, bigSep_succ, bigSep_succ, bigSep_fin_two]; rfl

/-- A device is one of the four, counted from any of them. -/
theorem four_from {M : Type} [URA M] (c : Dev nD) (Φ : Fin 4 → sProp M) :
    bigSep Finset.univ Φ ⊣⊢ iprop(Φ (dst c 0) ∗ Φ (dst c 1) ∗ Φ (dst c 2) ∗ Φ c) := by
  have e : (Finset.univ : Finset (Fin 4)) = {dst c 0, dst c 1, dst c 2, c} := by revert c; decide
  rw [e, bigSep_insert (by revert c; decide), bigSep_insert (by revert c; decide), bigSep_insert (by revert c; decide), bigSep_singleton]
  exact ⟨.rfl, .rfl⟩

end Cert.KernelIdeal.A2A
-- ==== Proof.IdealRun1.lean ====
/- The second call's body, run on one device. -/
module

public import proofs.«01_k».proof.Proof.IdealStep1
public import proofs.«01_k».proof.Proof.IdealPieces
public import Idealize.ShloMosaic.Lib.VecWindow

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (RC : Dev nD → BufR F) (YB : Dev nD → BufY F) (K : GSem nD τ sig → ℕ)

/-! ## Addresses and offsets of the second call -/

theorem d1_1 (c : Dev nD) : (⟨k1_dev1 c, k1_dev1_lt c⟩ : Dev nD) = dst c 0 := by revert c; decide
theorem d1_2 (c : Dev nD) : (⟨k1_dev2 c, k1_dev2_lt c⟩ : Dev nD) = dst c 1 := by revert c; decide
theorem d1_3 (c : Dev nD) : (⟨k1_dev3 c, k1_dev3_lt c⟩ : Dev nD) = dst c 2 := by revert c; decide
theorem d1_4 (c : Dev nD) : (⟨k1_dev4 c, k1_dev4_lt c⟩ : Dev nD) = dst c 0 := by revert c; decide
theorem oA_0 (c : Dev nD) : k1_off1 c 0#32 = ![(dst c 0).val, 0, 0, 0] := by revert c; decide
theorem d1_5 (c : Dev nD) : (⟨k1_dev5 c, k1_dev5_lt c⟩ : Dev nD) = dst c 0 := by revert c; decide
theorem oA_1 (c : Dev nD) : k1_off3 c 0#32 = ![(dst c 0).val, 1, 0, 0] := by revert c; decide
theorem d1_6 (c : Dev nD) : (⟨k1_dev6 c, k1_dev6_lt c⟩ : Dev nD) = dst c 0 := by revert c; decide
theorem oA_2 (c : Dev nD) : k1_off5 c 0#32 = ![(dst c 0).val, 2, 0, 0] := by revert c; decide
theorem d1_7 (c : Dev nD) : (⟨k1_dev7 c, k1_dev7_lt c⟩ : Dev nD) = dst c 0 := by revert c; decide
theorem oA_3 (c : Dev nD) : k1_off7 c 0#32 = ![(dst c 0).val, 3, 0, 0] := by revert c; decide
theorem d1_8 (c : Dev nD) : (⟨k1_dev8 c, k1_dev8_lt c⟩ : Dev nD) = dst c 0 := by revert c; decide
theorem oA_4 (c : Dev nD) : k1_off9 c 0#32 = ![(dst c 0).val, 4, 0, 0] := by revert c; decide
theorem d1_9 (c : Dev nD) : (⟨k1_dev9 c, k1_dev9_lt c⟩ : Dev nD) = dst c 0 := by revert c; decide
theorem oA_5 (c : Dev nD) : k1_off11 c 0#32 = ![(dst c 0).val, 5, 0, 0] := by revert c; decide
theorem d1_10 (c : Dev nD) : (⟨k1_dev10 c, k1_dev10_lt c⟩ : Dev nD) = dst c 0 := by revert c; decide
theorem oA_6 (c : Dev nD) : k1_off13 c 0#32 = ![(dst c 0).val, 6, 0, 0] := by revert c; decide
theorem d1_11 (c : Dev nD) : (⟨k1_dev11 c, k1_dev11_lt c⟩ : Dev nD) = dst c 0 := by revert c; decide
theorem oA_7 (c : Dev nD) : k1_off15 c 0#32 = ![(dst c 0).val, 7, 0, 0] := by revert c; decide
theorem d1_12 (c : Dev nD) : (⟨k1_dev12 c, k1_dev12_lt c⟩ : Dev nD) = dst c 1 := by revert c; decide
theorem oA_8 (c : Dev nD) : k1_off1 c 1#32 = ![(dst c 1).val, 0, 0, 0] := by revert c; decide
theorem d1_13 (c : Dev nD) : (⟨k1_dev13 c, k1_dev13_lt c⟩ : Dev nD) = dst c 1 := by revert c; decide
theorem oA_9 (c : Dev nD) : k1_off3 c 1#32 = ![(dst c 1).val, 1, 0, 0] := by revert c; decide
theorem d1_14 (c : Dev nD) : (⟨k1_dev14 c, k1_dev14_lt c⟩ : Dev nD) = dst c 1 := by revert c; decide
theorem oA_10 (c : Dev nD) : k1_off5 c 1#32 = ![(dst c 1).val, 2, 0, 0] := by revert c; decide
theorem d1_15 (c : Dev nD) : (⟨k1_dev15 c, k1_dev15_lt c⟩ : Dev nD) = dst c 1 := by revert c; decide
theorem oA_11 (c : Dev nD) : k1_off7 c 1#32 = ![(dst c 1).val, 3, 0, 0] := by revert c; decide
theorem d1_16 (c : Dev nD) : (⟨k1_dev16 c, k1_dev16_lt c⟩ : Dev nD) = dst c 1 := by revert c; decide
theorem oA_12 (c : Dev nD) : k1_off9 c 1#32 = ![(dst c 1).val, 4, 0, 0] := by revert c; decide
theorem d1_17 (c : Dev nD) : (⟨k1_dev17 c, k1_dev17_lt c⟩ : Dev nD) = dst c 1 := by revert c; decide
theorem oA_13 (c : Dev nD) : k1_off11 c 1#32 = ![(dst c 1).val, 5, 0, 0] := by revert c; decide
theorem d1_18 (c : Dev nD) : (⟨k1_dev18 c, k1_dev18_lt c⟩ : Dev nD) = dst c 1 := by revert c; decide
theorem oA_14 (c : Dev nD) : k1_off13 c 1#32 = ![(dst c 1).val, 6, 0, 0] := by revert c; decide
theorem d1_19 (c : Dev nD) : (⟨k1_dev19 c, k1_dev19_lt c⟩ : Dev nD) = dst c 1 := by revert c; decide
theorem oA_15 (c : Dev nD) : k1_off15 c 1#32 = ![(dst c 1).val, 7, 0, 0] := by revert c; decide
theorem d1_20 (c : Dev nD) : (⟨k1_dev20 c, k1_dev20_lt c⟩ : Dev nD) = dst c 2 := by revert c; decide
theorem oA_16 (c : Dev nD) : k1_off1 c 2#32 = ![(dst c 2).val, 0, 0, 0] := by revert c; decide
theorem d1_21 (c : Dev nD) : (⟨k1_dev21 c, k1_dev21_lt c⟩ : Dev nD) = dst c 2 := by revert c; decide
theorem oA_17 (c : Dev nD) : k1_off3 c 2#32 = ![(dst c 2).val, 1, 0, 0] := by revert c; decide
theorem d1_22 (c : Dev nD) : (⟨k1_dev22 c, k1_dev22_lt c⟩ : Dev nD) = dst c 2 := by revert c; decide
theorem oA_18 (c : Dev nD) : k1_off5 c 2#32 = ![(dst c 2).val, 2, 0, 0] := by revert c; decide
theorem d1_23 (c : Dev nD) : (⟨k1_dev23 c, k1_dev23_lt c⟩ : Dev nD) = dst c 2 := by revert c; decide
theorem oA_19 (c : Dev nD) : k1_off7 c 2#32 = ![(dst c 2).val, 3, 0, 0] := by revert c; decide
theorem d1_24 (c : Dev nD) : (⟨k1_dev24 c, k1_dev24_lt c⟩ : Dev nD) = dst c 2 := by revert c; decide
theorem oA_20 (c : Dev nD) : k1_off9 c 2#32 = ![(dst c 2).val, 4, 0, 0] := by revert c; decide
theorem d1_25 (c : Dev nD) : (⟨k1_dev25 c, k1_dev25_lt c⟩ : Dev nD) = dst c 2 := by revert c; decide
theorem oA_21 (c : Dev nD) : k1_off11 c 2#32 = ![(dst c 2).val, 5, 0, 0] := by revert c; decide
theorem d1_26 (c : Dev nD) : (⟨k1_dev26 c, k1_dev26_lt c⟩ : Dev nD) = dst c 2 := by revert c; decide
theorem oA_22 (c : Dev nD) : k1_off13 c 2#32 = ![(dst c 2).val, 6, 0, 0] := by revert c; decide
theorem d1_27 (c : Dev nD) : (⟨k1_dev27 c, k1_dev27_lt c⟩ : Dev nD) = dst c 2 := by revert c; decide
theorem oA_23 (c : Dev nD) : k1_off15 c 2#32 = ![(dst c 2).val, 7, 0, 0] := by revert c; decide
theorem oP_0 (c : Dev nD) : k1_off2 c = ![c.val, 0, 0, 0] := by revert c; decide
theorem oQ_0 (c : Dev nD) : k1_off17 c = ![c.val, 0, 0, 0] := by revert c; decide
theorem oS_0 (c : Dev nD) : k1_off18 c = ![c.val, 0, 0, 0] := by revert c; decide
theorem oP_1 (c : Dev nD) : k1_off4 c = ![c.val, 1, 0, 0] := by revert c; decide
theorem oQ_1 (c : Dev nD) : k1_off19 c = ![c.val, 1, 0, 0] := by revert c; decide
theorem oS_1 (c : Dev nD) : k1_off20 c = ![c.val, 1, 0, 0] := by revert c; decide
theorem oP_2 (c : Dev nD) : k1_off6 c = ![c.val, 2, 0, 0] := by revert c; decide
theorem oQ_2 (c : Dev nD) : k1_off21 c = ![c.val, 2, 0, 0] := by revert c; decide
theorem oS_2 (c : Dev nD) : k1_off22 c = ![c.val, 2, 0, 0] := by revert c; decide
theorem oP_3 (c : Dev nD) : k1_off8 c = ![c.val, 3, 0, 0] := by revert c; decide
theorem oQ_3 (c : Dev nD) : k1_off23 c = ![c.val, 3, 0, 0] := by revert c; decide
theorem oS_3 (c : Dev nD) : k1_off24 c = ![c.val, 3, 0, 0] := by revert c; decide
theorem oP_4 (c : Dev nD) : k1_off10 c = ![c.val, 4, 0, 0] := by revert c; decide
theorem oQ_4 (c : Dev nD) : k1_off25 c = ![c.val, 4, 0, 0] := by revert c; decide
theorem oS_4 (c : Dev nD) : k1_off26 c = ![c.val, 4, 0, 0] := by revert c; decide
theorem oP_5 (c : Dev nD) : k1_off12 c = ![c.val, 5, 0, 0] := by revert c; decide
theorem oQ_5 (c : Dev nD) : k1_off27 c = ![c.val, 5, 0, 0] := by revert c; decide
theorem oS_5 (c : Dev nD) : k1_off28 c = ![c.val, 5, 0, 0] := by revert c; decide
theorem oP_6 (c : Dev nD) : k1_off14 c = ![c.val, 6, 0, 0] := by revert c; decide
theorem oQ_6 (c : Dev nD) : k1_off29 c = ![c.val, 6, 0, 0] := by revert c; decide
theorem oS_6 (c : Dev nD) : k1_off30 c = ![c.val, 6, 0, 0] := by revert c; decide
theorem oP_7 (c : Dev nD) : k1_off16 c = ![c.val, 7, 0, 0] := by revert c; decide
theorem oQ_7 (c : Dev nD) : k1_off31 c = ![c.val, 7, 0, 0] := by revert c; decide
theorem oS_7 (c : Dev nD) : k1_off32 c = ![c.val, 7, 0, 0] := by revert c; decide
theorem oZ_0 (c : Dev nD) : k1_off33 c 0#32 = ![c.val, 0, 0, 0] := by revert c; decide
theorem oZ_1 (c : Dev nD) : k1_off33 c 3#32 = ![(src c 0).val, 0, 0, 0] := by revert c; decide
theorem oZ_2 (c : Dev nD) : k1_off33 c 2#32 = ![(src c 1).val, 0, 0, 0] := by revert c; decide
theorem oZ_3 (c : Dev nD) : k1_off33 c 1#32 = ![(src c 2).val, 0, 0, 0] := by revert c; decide

/-! ## What goes with each transfer -/

def tr1 (c : Dev nD) (i : Fin 24) : sProp 𝕄 :=
  iprop(atPos ER (Sd1 c i) 0 ∅ 0 ∗ reached ER (Sd1 c i) 0 ∗ dutyTok ER (Sd1 c i) 0 0 ∗ dutyTok ER (Rc1 (dst c (kk i)) i) 0 0)
def rc1 (c : Dev nD) (i : Fin 24) : sProp 𝕄 := iprop(atPos ER (Rc1 c i) 0 ∅ 0 ∗ cred (tallyAt (Rc1 c i) () N1))
def slot1 (c : Dev nD) (k : Fin 3) (j : Fin 8) (i : Fin 24) : sProp 𝕄 := iprop((∃ f : BufY F, pY (dst c k) c j f) ∗ reached ER (Rc1 (dst c k) i) 0)
def sent1 (c : Dev nD) (i : Fin 24) : sProp 𝕄 := iprop(atPos ER (Sd1 c i) 0 ∅ 0 ∗ cred (tallyAt (Sd1 c i) () N1))
def done1 (c : Dev nD) (i : Fin 24) : sProp 𝕄 := iprop(semVal (Sd1 c i) 0 ∗ semVal (Rc1 c i) 0)

set_option maxHeartbeats 400000 in
theorem xfer_step {c : Dev nD} {arg0 : Memref sig .tc .vmem S4x8x160x512 .bf16} {arg1 : Memref sig .tc .vmem S8x512x1024 .bf16} {o0 h0 o1 h1 o h hs}
    {v : Dev nD} {ss rs o' h' p hp w1 w2} {k : PUnit → Pg F} {Kt : PUnit → sProp 𝕄} {O₀ : CellTallies nD τ sig Unit}
    (i : Fin 24) (n : Fin 3) (b : Fin 2) (j : Fin 8) (O : CellTallies nD τ sig Unit) (hn : kk i = n) (hj : jj i = j) (hb : tb1 i = b)
    (hv : v = dst c n) (ho0 : o0 = ![(dst c n).val, j.val, 0, 0]) (hp' : p = ![c.val, j.val, 0, 0])
    (ho1 : o1 = ![j.val, 0, 0]) (ho : o = ![b.val, 0, 0]) (ho' : o' = ![b.val, 0, 0]) (hss : ss = sS1 i) (hrs : rs = sR1 i)
    (hO : O₀ = O + tallyAt (Rc1 (dst c n) i) () N1) (A : Vec F S4x8x160x512 .bf16) (W : Vec F S8x512x1024 .bf16)
    (hY : (mY.view.slice (rY c j)).read (Elt F) (YB (dst c n)) = pown (slabA A (dst c n) j) (slabW W j)) :
    iprop(recs RC YB K ∗ held c arg0 A ∗ held c arg1 W ∗ (∃ g : BufU F, pU c b g) ∗ tr1 (F := F) c i ∗ slot1 (F := F) c n j i ∗ ow c O₀
        ∗ ((held c arg0 A ∗ held c arg1 W ∗ sent1 (F := F) c i ∗ ow c O) -∗ Run c (k ⟨⟩) Kt))
      ⊢ Run c (mkTile arg0 arg1 o0 h0 o1 h1 o h hs >>= fun _ => fire1 v ss rs o' h' p hp w1 w2 >>= k) Kt := by
  subst hn hj hb
  unfold tr1 slot1 sent1
  iintro ⟨#HI, Ha, Hx, HU, ⟨Hat, #HrS, Ht1, Ht2⟩, ⟨Hd, #HrD⟩, HO, Hk⟩
  iapply (mkTile_step (tb1 i) (dst c (kk i)) (jj i) ho ho0 ho1 A W)
  isplitl [Ha]; · iexact Ha
  isplitl [Hx]; · iexact Hx
  isplitl [HU]; · iexact HU
  iintro ⟨Ha, Hx, HU⟩
  iapply (fire1_step RC YB K i O (slabA A (dst c (kk i)) (jj i)) (slabW W (jj i)) hv hss hrs ho' hp' hO hY)
  isplitr; · iapply (recs_cell RC YB K (mem_Sd1 _ _)); iexact HI
  isplitr; · iapply (recs_cell RC YB K (mem_Rc1 _ _)); iexact HI
  isplitl [HU]; · iexact HU
  isplitl [Hd]; · iexact Hd
  isplitl [HO]; · iexact HO
  isplitl [Ht1]; · iexact Ht1
  isplitr; · iexact HrS
  isplitl [Ht2]; · iexact Ht2
  isplitr; · iexact HrD
  iintro ⟨Hc, HO⟩
  iapply Hk
  isplitl [Ha]; · iexact Ha
  isplitl [Hx]; · iexact Hx
  isplitl [Hat Hc]
  · isplitl [Hat]; · iexact Hat
    iexact Hc
  iexact HO

theorem free_step {c : Dev nD} {s : DmaSem sig} {o h p hp' w1 w2} {k : PUnit → Pg F} {Kt : PUnit → sProp 𝕄} {O : CellTallies nD τ sig Unit}
    (i : Fin 24) (b : Fin 2) (hb : tb1 i = b) (hs : s = sS1 i) (hO : Above 3 O) :
    iprop(recs RC YB K ∗ sent1 (F := F) c i ∗ ow c O ∗ (((∃ g : BufU F, pU c b g) ∗ atPos ER (Sd1 c i) 1 ∅ 0 ∗ ow c O) -∗ Run c (k ⟨⟩) Kt))
      ⊢ Run c (waitU s o h p hp' w1 w2 >>= k) Kt := by
  subst hb hs
  unfold sent1
  iintro ⟨#HI, ⟨Hat, Hc⟩, HO, Hk⟩
  ihave #Hlev := (recs_lev RC YB K) $$ HI
  iapply (waitU_step RC YB K (n := 0) (duties_Sd1 RC YB c i) (amount_Sd1 RC YB c i 0) (payload_Sd1 RC YB c i 0) (hO.mono (by decide)) (by rw [lv_Sd1]))
  isplitr; · iapply (recs_cell RC YB K (mem_Sd1 _ _)); iexact HI
  isplitr; · iexact Hlev
  isplitl [Hc]; · iexact Hc
  isplitl [HO]; · iexact HO
  isplitl [Hat]; · iexact Hat
  iintro ⟨HO, Hat, HP⟩
  iapply Hk
  unfold sendPay1
  isplitl [HP]; · iexact HP
  isplitl [Hat]; · iexact Hat
  iexact HO

theorem get_step {c : Dev nD} {s : DmaSem sig} {o h p hp' w1 w2} {k : PUnit → Pg F} {Kt : PUnit → sProp 𝕄}
    (i : Fin 24) (n : Fin 3) (j : Fin 8) (hn : kk i = n) (hj : jj i = j) (hs : s = sR1 i) :
    iprop(recs RC YB K ∗ rc1 (F := F) c i ∗ ow c 0 ∗ ((pY c (src c n) j (YB c) ∗ atPos ER (Rc1 c i) 1 ∅ 0 ∗ ow c 0) -∗ Run c (k ⟨⟩) Kt))
      ⊢ Run c (waitY s o h p hp' w1 w2 >>= k) Kt := by
  subst hn hj hs
  unfold rc1
  iintro ⟨#HI, ⟨Hat, Hc⟩, HO, Hk⟩
  ihave #Hlev := (recs_lev RC YB K) $$ HI
  iapply (waitY_step RC YB K (n := 4) (duties_Rc1 RC YB c i) (amount_Rc1 RC YB c i 0) (payload_Rc1 RC YB c i 0) (above_zero 4) (by rw [lv_Rc1]))
  isplitr; · iapply (recs_cell RC YB K (mem_Rc1 _ _)); iexact HI
  isplitr; · iexact Hlev
  isplitl [Hc]; · iexact Hc
  isplitl [HO]; · iexact HO
  isplitl [Hat]; · iexact Hat
  iintro ⟨HO, Hat, HP⟩
  iapply Hk
  unfold recvPay1
  isplitl [HP]; · iexact HP
  isplitl [Hat]; · iexact Hat
  iexact HO

/-- What arrives with the barrier, by the transfers it makes room for. -/
theorem barPay1_at (c : Dev nD) :
    (bigSep Finset.univ (barPay1 (F := F) c) : sProp 𝕄)
      = iprop((bigSep Finset.univ fun j => slot1 c 2 j (ix 2 j)) ∗ (bigSep Finset.univ fun j => slot1 c 1 j (ix 1 j)) ∗ (bigSep Finset.univ fun j => slot1 c 0 j (ix 0 j))) := by
  rw [bigSep_three]; rfl

variable (arg0 : Memref sig .tc .vmem S4x8x160x512 .bf16) (harg0 : arg0.IsWhole) (arg1 : Memref sig .tc .vmem S8x512x1024 .bf16) (harg1 : arg1.IsWhole) (arg2 : Memref sig .tc .vmem S2048x1 .i32) (harg2 : arg2.IsWhole) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole)
variable (A : Vec F S4x8x160x512 .bf16) (W : Vec F S8x512x1024 .bf16) (s : Vec F S2048x1 .i32) (x : Vec F S2048x512 .f32) (w : Vec F S512x1024 .f32)

def pre1 (c : Dev nD) : sProp 𝕄 :=
  iprop((bigSep Finset.univ fun i => tr1 (F := F) c i) ∗ (bigSep Finset.univ fun i => rc1 (F := F) c i)
    ∗ (barPay1 (F := F) (dst c 0) 0 ∗ dutyTok ER (B1 (dst c 0)) 0 0) ∗ (barPay1 (F := F) (dst c 1) 1 ∗ dutyTok ER (B1 (dst c 1)) 0 1)
    ∗ (barPay1 (F := F) (dst c 2) 2 ∗ dutyTok ER (B1 (dst c 2)) 0 2) ∗ (atPos ER (B1 c) 0 ∅ 0 ∗ cred (tallyAt (B1 c) () 3))
    ∗ (bigSep Finset.univ fun j => iprop(∃ f : BufY F, pY c c j f))
    ∗ (∃ f : BufU F, pU c 0 f) ∗ (∃ f : BufU F, pU c 1 f) ∗ ow c (due1 c)
    ∗ held c arg0 A ∗ held c arg1 W ∗ held c arg2 s ∗ held c arg3 x ∗ held c arg4 w ∗ ∃ z, held c arg5 z)
def post1 (c : Dev nD) : sProp 𝕄 :=
  iprop((bigSep Finset.univ fun i => done1 (F := F) c i) ∗ semVal (B1 c) 0
    ∗ pZ c (src c 0) (YB c) ∗ pZ c (src c 1) (YB c) ∗ pZ c (src c 2) (YB c) ∗ pZ c c (YB c)
    ∗ (∃ f : BufU F, pU c 0 f) ∗ (∃ f : BufU F, pU c 1 f) ∗ ow c 0
    ∗ held c arg0 A ∗ held c arg1 W ∗ held c arg2 s ∗ held c arg3 x ∗ held c arg4 w ∗ held c arg5 (outV YB c s x w))

set_option maxHeartbeats 2000000 in
theorem run1 (c : Dev nD) (hY : ∀ (k : Fin 3) (j : Fin 8), (mY.view.slice (rY c j)).read (Elt F) (YB (dst c k)) = pown (slabA A (dst c k) j) (slabW W j))
    (hYc : ∀ j : Fin 8, (mY.view.slice (rY c j)).read (Elt F) (YB c) = pown (slabA A c j) (slabW W j)) (Kt : PUnit → sProp 𝕄) :
    iprop(recs RC YB K ∗ pre1 arg0 arg1 arg2 arg3 arg4 arg5 A W s x w c ∗ (post1 YB arg0 arg1 arg2 arg3 arg4 arg5 A W s x w c -∗ Kt ⟨⟩))
      ⊢ Run c (norm1 arg0 harg0 arg1 harg1 arg2 harg2 arg3 harg3 arg4 harg4 arg5 harg5) Kt := by
  unfold pre1 norm1
  rw [bigSep_all (fun i => tr1 (F := F) c i), bigSep_all (fun i => rc1 (F := F) c i), bigSep_eight (fun j => iprop(∃ f : BufY F, pY c c j f))]
  iintro ⟨#HI, ⟨⟨Ht0, Ht1, Ht2, Ht3, Ht4, Ht5, Ht6, Ht7, Ht8, Ht9, Ht10, Ht11, Ht12, Ht13, Ht14, Ht15, Ht16, Ht17, Ht18, Ht19, Ht20, Ht21, Ht22, Ht23⟩, ⟨Hr0, Hr1, Hr2, Hr3, Hr4, Hr5, Hr6, Hr7, Hr8, Hr9, Hr10, Hr11, Hr12, Hr13, Hr14, Hr15, Hr16, Hr17, Hr18, Hr19, Hr20, Hr21, Hr22, Hr23⟩, ⟨Hg0, Hb0⟩, ⟨Hg1, Hb1⟩, ⟨Hg2, Hb2⟩, ⟨HaB, HcB⟩, ⟨Ho0, Ho1, Ho2, Ho3, Ho4, Ho5, Ho6, Ho7⟩, HU0, HU1, HO, Ha0, Ha1, Ha2, Ha3, Ha4, Ha5⟩, Hk⟩
  ihave #Hlev := (recs_lev RC YB K) $$ HI
  iapply (device_step c)
  iapply (sig_step RC YB K (d := dst c 0) (u := 0) (oB1 c 2) (d1_1 c) (payload_B1 RC YB _ 0) rfl)
  isplitr; · iapply (recs_cell RC YB K (mem_B1 _)); iexact HI
  isplitl [HO]; · iexact HO
  isplitl [Hb0]; · iexact Hb0
  isplitl [Hg0]; · iexact Hg0
  isplitr; · iapply (recs_bar RC YB K (mem_bar1 _)); iexact HI
  iintro HO
  iapply (sig_step RC YB K (d := dst c 1) (u := 1) (oB1 c 1) (d1_2 c) (payload_B1 RC YB _ 1) rfl)
  isplitr; · iapply (recs_cell RC YB K (mem_B1 _)); iexact HI
  isplitl [HO]; · iexact HO
  isplitl [Hb1]; · iexact Hb1
  isplitl [Hg1]; · iexact Hg1
  isplitr; · iapply (recs_bar RC YB K (mem_bar1 _)); iexact HI
  iintro HO
  iapply (sig_step RC YB K (d := dst c 2) (u := 2) (oB1 c 0) (d1_3 c) (payload_B1 RC YB _ 2) rfl)
  isplitr; · iapply (recs_cell RC YB K (mem_B1 _)); iexact HI
  isplitl [HO]; · iexact HO
  isplitl [Hb2]; · iexact Hb2
  isplitl [Hg2]; · iexact Hg2
  isplitr; · iapply (recs_bar RC YB K (mem_bar1 _)); iexact HI
  iintro HO
  iapply (waitBar_step RC YB K (n := 3) ((rest_B1 RC YB c).trans (barPay1_at c)) (above_oR1 c 24) (by rw [lv_B1]))
  isplitr; · iapply (recs_cell RC YB K (mem_B1 _)); iexact HI
  isplitr; · iexact Hlev
  isplitl [HcB]; · iexact HcB
  isplitl [HO]; · iexact HO
  isplitl [HaB]; · iexact HaB
  rw [bigSep_eight (fun j => slot1 c 2 j (ix 2 j)), bigSep_eight (fun j => slot1 c 1 j (ix 1 j)), bigSep_eight (fun j => slot1 c 0 j (ix 0 j))]
  iintro ⟨HO, HaB, ⟨Hd16, Hd17, Hd18, Hd19, Hd20, Hd21, Hd22, Hd23⟩, ⟨Hd8, Hd9, Hd10, Hd11, Hd12, Hd13, Hd14, Hd15⟩, ⟨Hd0, Hd1, Hd2, Hd3, Hd4, Hd5, Hd6, Hd7⟩⟩
  iapply (xfer_step RC YB K 0 0 0 0 (oR1 c 23) rfl rfl rfl (d1_4 c) (oA_0 c) (oP_0 c) rfl rfl rfl rfl rfl rfl A W (hY 0 0))
  isplitr; · iexact HI
  isplitl [Ha0]; · iexact Ha0
  isplitl [Ha1]; · iexact Ha1
  isplitl [HU0]; · iexact HU0
  isplitl [Ht0]; · iexact Ht0
  isplitl [Hd0]; · iexact Hd0
  isplitl [HO]; · iexact HO
  iintro ⟨Ha0, Ha1, Hs0, HO⟩
  iapply (xfer_step RC YB K 1 0 1 1 (oR1 c 22) rfl rfl rfl (d1_5 c) (oA_1 c) (oP_1 c) rfl rfl rfl rfl rfl rfl A W (hY 0 1))
  isplitr; · iexact HI
  isplitl [Ha0]; · iexact Ha0
  isplitl [Ha1]; · iexact Ha1
  isplitl [HU1]; · iexact HU1
  isplitl [Ht1]; · iexact Ht1
  isplitl [Hd1]; · iexact Hd1
  isplitl [HO]; · iexact HO
  iintro ⟨Ha0, Ha1, Hs1, HO⟩
  iapply (free_step RC YB K 0 0 rfl rfl (above_oR1 c 22))
  isplitr; · iexact HI
  isplitl [Hs0]; · iexact Hs0
  isplitl [HO]; · iexact HO
  iintro ⟨HU0, Hs0, HO⟩
  iapply (xfer_step RC YB K 2 0 0 2 (oR1 c 21) rfl rfl rfl (d1_6 c) (oA_2 c) (oP_2 c) rfl rfl rfl rfl rfl rfl A W (hY 0 2))
  isplitr; · iexact HI
  isplitl [Ha0]; · iexact Ha0
  isplitl [Ha1]; · iexact Ha1
  isplitl [HU0]; · iexact HU0
  isplitl [Ht2]; · iexact Ht2
  isplitl [Hd2]; · iexact Hd2
  isplitl [HO]; · iexact HO
  iintro ⟨Ha0, Ha1, Hs2, HO⟩
  iapply (free_step RC YB K 1 1 rfl rfl (above_oR1 c 21))
  isplitr; · iexact HI
  isplitl [Hs1]; · iexact Hs1
  isplitl [HO]; · iexact HO
  iintro ⟨HU1, Hs1, HO⟩
  iapply (xfer_step RC YB K 3 0 1 3 (oR1 c 20) rfl rfl rfl (d1_7 c) (oA_3 c) (oP_3 c) rfl rfl rfl rfl rfl rfl A W (hY 0 3))
  isplitr; · iexact HI
  isplitl [Ha0]; · iexact Ha0
  isplitl [Ha1]; · iexact Ha1
  isplitl [HU1]; · iexact HU1
  isplitl [Ht3]; · iexact Ht3
  isplitl [Hd3]; · iexact Hd3
  isplitl [HO]; · iexact HO
  iintro ⟨Ha0, Ha1, Hs3, HO⟩
  iapply (free_step RC YB K 2 0 rfl rfl (above_oR1 c 20))
  isplitr; · iexact HI
  isplitl [Hs2]; · iexact Hs2
  isplitl [HO]; · iexact HO
  iintro ⟨HU0, Hs2, HO⟩
  iapply (xfer_step RC YB K 4 0 0 4 (oR1 c 19) rfl rfl rfl (d1_8 c) (oA_4 c) (oP_4 c) rfl rfl rfl rfl rfl rfl A W (hY 0 4))
  isplitr; · iexact HI
  isplitl [Ha0]; · iexact Ha0
  isplitl [Ha1]; · iexact Ha1
  isplitl [HU0]; · iexact HU0
  isplitl [Ht4]; · iexact Ht4
  isplitl [Hd4]; · iexact Hd4
  isplitl [HO]; · iexact HO
  iintro ⟨Ha0, Ha1, Hs4, HO⟩
  iapply (free_step RC YB K 3 1 rfl rfl (above_oR1 c 19))
  isplitr; · iexact HI
  isplitl [Hs3]; · iexact Hs3
  isplitl [HO]; · iexact HO
  iintro ⟨HU1, Hs3, HO⟩
  iapply (xfer_step RC YB K 5 0 1 5 (oR1 c 18) rfl rfl rfl (d1_9 c) (oA_5 c) (oP_5 c) rfl rfl rfl rfl rfl rfl A W (hY 0 5))
  isplitr; · iexact HI
  isplitl [Ha0]; · iexact Ha0
  isplitl [Ha1]; · iexact Ha1
  isplitl [HU1]; · iexact HU1
  isplitl [Ht5]; · iexact Ht5
  isplitl [Hd5]; · iexact Hd5
  isplitl [HO]; · iexact HO
  iintro ⟨Ha0, Ha1, Hs5, HO⟩
  iapply (free_step RC YB K 4 0 rfl rfl (above_oR1 c 18))
  isplitr; · iexact HI
  isplitl [Hs4]; · iexact Hs4
  isplitl [HO]; · iexact HO
  iintro ⟨HU0, Hs4, HO⟩
  iapply (xfer_step RC YB K 6 0 0 6 (oR1 c 17) rfl rfl rfl (d1_10 c) (oA_6 c) (oP_6 c) rfl rfl rfl rfl rfl rfl A W (hY 0 6))
  isplitr; · iexact HI
  isplitl [Ha0]; · iexact Ha0
  isplitl [Ha1]; · iexact Ha1
  isplitl [HU0]; · iexact HU0
  isplitl [Ht6]; · iexact Ht6
  isplitl [Hd6]; · iexact Hd6
  isplitl [HO]; · iexact HO
  iintro ⟨Ha0, Ha1, Hs6, HO⟩
  iapply (free_step RC YB K 5 1 rfl rfl (above_oR1 c 17))
  isplitr; · iexact HI
  isplitl [Hs5]; · iexact Hs5
  isplitl [HO]; · iexact HO
  iintro ⟨HU1, Hs5, HO⟩
  iapply (xfer_step RC YB K 7 0 1 7 (oR1 c 16) rfl rfl rfl (d1_11 c) (oA_7 c) (oP_7 c) rfl rfl rfl rfl rfl rfl A W (hY 0 7))
  isplitr; · iexact HI
  isplitl [Ha0]; · iexact Ha0
  isplitl [Ha1]; · iexact Ha1
  isplitl [HU1]; · iexact HU1
  isplitl [Ht7]; · iexact Ht7
  isplitl [Hd7]; · iexact Hd7
  isplitl [HO]; · iexact HO
  iintro ⟨Ha0, Ha1, Hs7, HO⟩
  iapply (free_step RC YB K 6 0 rfl rfl (above_oR1 c 16))
  isplitr; · iexact HI
  isplitl [Hs6]; · iexact Hs6
  isplitl [HO]; · iexact HO
  iintro ⟨HU0, Hs6, HO⟩
  iapply (xfer_step RC YB K 8 1 0 0 (oR1 c 15) rfl rfl rfl (d1_12 c) (oA_8 c) (oP_0 c) rfl rfl rfl rfl rfl rfl A W (hY 1 0))
  isplitr; · iexact HI
  isplitl [Ha0]; · iexact Ha0
  isplitl [Ha1]; · iexact Ha1
  isplitl [HU0]; · iexact HU0
  isplitl [Ht8]; · iexact Ht8
  isplitl [Hd8]; · iexact Hd8
  isplitl [HO]; · iexact HO
  iintro ⟨Ha0, Ha1, Hs8, HO⟩
  iapply (free_step RC YB K 7 1 rfl rfl (above_oR1 c 15))
  isplitr; · iexact HI
  isplitl [Hs7]; · iexact Hs7
  isplitl [HO]; · iexact HO
  iintro ⟨HU1, Hs7, HO⟩
  iapply (xfer_step RC YB K 9 1 1 1 (oR1 c 14) rfl rfl rfl (d1_13 c) (oA_9 c) (oP_1 c) rfl rfl rfl rfl rfl rfl A W (hY 1 1))
  isplitr; · iexact HI
  isplitl [Ha0]; · iexact Ha0
  isplitl [Ha1]; · iexact Ha1
  isplitl [HU1]; · iexact HU1
  isplitl [Ht9]; · iexact Ht9
  isplitl [Hd9]; · iexact Hd9
  isplitl [HO]; · iexact HO
  iintro ⟨Ha0, Ha1, Hs9, HO⟩
  iapply (free_step RC YB K 8 0 rfl rfl (above_oR1 c 14))
  isplitr; · iexact HI
  isplitl [Hs8]; · iexact Hs8
  isplitl [HO]; · iexact HO
  iintro ⟨HU0, Hs8, HO⟩
  iapply (xfer_step RC YB K 10 1 0 2 (oR1 c 13) rfl rfl rfl (d1_14 c) (oA_10 c) (oP_2 c) rfl rfl rfl rfl rfl rfl A W (hY 1 2))
  isplitr; · iexact HI
  isplitl [Ha0]; · iexact Ha0
  isplitl [Ha1]; · iexact Ha1
  isplitl [HU0]; · iexact HU0
  isplitl [Ht10]; · iexact Ht10
  isplitl [Hd10]; · iexact Hd10
  isplitl [HO]; · iexact HO
  iintro ⟨Ha0, Ha1, Hs10, HO⟩
  iapply (free_step RC YB K 9 1 rfl rfl (above_oR1 c 13))
  isplitr; · iexact HI
  isplitl [Hs9]; · iexact Hs9
  isplitl [HO]; · iexact HO
  iintro ⟨HU1, Hs9, HO⟩
  iapply (xfer_step RC YB K 11 1 1 3 (oR1 c 12) rfl rfl rfl (d1_15 c) (oA_11 c) (oP_3 c) rfl rfl rfl rfl rfl rfl A W (hY 1 3))
  isplitr; · iexact HI
  isplitl [Ha0]; · iexact Ha0
  isplitl [Ha1]; · iexact Ha1
  isplitl [HU1]; · iexact HU1
  isplitl [Ht11]; · iexact Ht11
  isplitl [Hd11]; · iexact Hd11
  isplitl [HO]; · iexact HO
  iintro ⟨Ha0, Ha1, Hs11, HO⟩
  iapply (free_step RC YB K 10 0 rfl rfl (above_oR1 c 12))
  isplitr; · iexact HI
  isplitl [Hs10]; · iexact Hs10
  isplitl [HO]; · iexact HO
  iintro ⟨HU0, Hs10, HO⟩
  iapply (xfer_step RC YB K 12 1 0 4 (oR1 c 11) rfl rfl rfl (d1_16 c) (oA_12 c) (oP_4 c) rfl rfl rfl rfl rfl rfl A W (hY 1 4))
  isplitr; · iexact HI
  isplitl [Ha0]; · iexact Ha0
  isplitl [Ha1]; · iexact Ha1
  isplitl [HU0]; · iexact HU0
  isplitl [Ht12]; · iexact Ht12
  isplitl [Hd12]; · iexact Hd12
  isplitl [HO]; · iexact HO
  iintro ⟨Ha0, Ha1, Hs12, HO⟩
  iapply (free_step RC YB K 11 1 rfl rfl (above_oR1 c 11))
  isplitr; · iexact HI
  isplitl [Hs11]; · iexact Hs11
  isplitl [HO]; · iexact HO
  iintro ⟨HU1, Hs11, HO⟩
  iapply (xfer_step RC YB K 13 1 1 5 (oR1 c 10) rfl rfl rfl (d1_17 c) (oA_13 c) (oP_5 c) rfl rfl rfl rfl rfl rfl A W (hY 1 5))
  isplitr; · iexact HI
  isplitl [Ha0]; · iexact Ha0
  isplitl [Ha1]; · iexact Ha1
  isplitl [HU1]; · iexact HU1
  isplitl [Ht13]; · iexact Ht13
  isplitl [Hd13]; · iexact Hd13
  isplitl [HO]; · iexact HO
  iintro ⟨Ha0, Ha1, Hs13, HO⟩
  iapply (free_step RC YB K 12 0 rfl rfl (above_oR1 c 10))
  isplitr; · iexact HI
  isplitl [Hs12]; · iexact Hs12
  isplitl [HO]; · iexact HO
  iintro ⟨HU0, Hs12, HO⟩
  iapply (xfer_step RC YB K 14 1 0 6 (oR1 c 9) rfl rfl rfl (d1_18 c) (oA_14 c) (oP_6 c) rfl rfl rfl rfl rfl rfl A W (hY 1 6))
  isplitr; · iexact HI
  isplitl [Ha0]; · iexact Ha0
  isplitl [Ha1]; · iexact Ha1
  isplitl [HU0]; · iexact HU0
  isplitl [Ht14]; · iexact Ht14
  isplitl [Hd14]; · iexact Hd14
  isplitl [HO]; · iexact HO
  iintro ⟨Ha0, Ha1, Hs14, HO⟩
  iapply (free_step RC YB K 13 1 rfl rfl (above_oR1 c 9))
  isplitr; · iexact HI
  isplitl [Hs13]; · iexact Hs13
  isplitl [HO]; · iexact HO
  iintro ⟨HU1, Hs13, HO⟩
  iapply (xfer_step RC YB K 15 1 1 7 (oR1 c 8) rfl rfl rfl (d1_19 c) (oA_15 c) (oP_7 c) rfl rfl rfl rfl rfl rfl A W (hY 1 7))
  isplitr; · iexact HI
  isplitl [Ha0]; · iexact Ha0
  isplitl [Ha1]; · iexact Ha1
  isplitl [HU1]; · iexact HU1
  isplitl [Ht15]; · iexact Ht15
  isplitl [Hd15]; · iexact Hd15
  isplitl [HO]; · iexact HO
  iintro ⟨Ha0, Ha1, Hs15, HO⟩
  iapply (free_step RC YB K 14 0 rfl rfl (above_oR1 c 8))
  isplitr; · iexact HI
  isplitl [Hs14]; · iexact Hs14
  isplitl [HO]; · iexact HO
  iintro ⟨HU0, Hs14, HO⟩
  iapply (xfer_step RC YB K 16 2 0 0 (oR1 c 7) rfl rfl rfl (d1_20 c) (oA_16 c) (oP_0 c) rfl rfl rfl rfl rfl rfl A W (hY 2 0))
  isplitr; · iexact HI
  isplitl [Ha0]; · iexact Ha0
  isplitl [Ha1]; · iexact Ha1
  isplitl [HU0]; · iexact HU0
  isplitl [Ht16]; · iexact Ht16
  isplitl [Hd16]; · iexact Hd16
  isplitl [HO]; · iexact HO
  iintro ⟨Ha0, Ha1, Hs16, HO⟩
  iapply (free_step RC YB K 15 1 rfl rfl (above_oR1 c 7))
  isplitr; · iexact HI
  isplitl [Hs15]; · iexact Hs15
  isplitl [HO]; · iexact HO
  iintro ⟨HU1, Hs15, HO⟩
  iapply (xfer_step RC YB K 17 2 1 1 (oR1 c 6) rfl rfl rfl (d1_21 c) (oA_17 c) (oP_1 c) rfl rfl rfl rfl rfl rfl A W (hY 2 1))
  isplitr; · iexact HI
  isplitl [Ha0]; · iexact Ha0
  isplitl [Ha1]; · iexact Ha1
  isplitl [HU1]; · iexact HU1
  isplitl [Ht17]; · iexact Ht17
  isplitl [Hd17]; · iexact Hd17
  isplitl [HO]; · iexact HO
  iintro ⟨Ha0, Ha1, Hs17, HO⟩
  iapply (free_step RC YB K 16 0 rfl rfl (above_oR1 c 6))
  isplitr; · iexact HI
  isplitl [Hs16]; · iexact Hs16
  isplitl [HO]; · iexact HO
  iintro ⟨HU0, Hs16, HO⟩
  iapply (xfer_step RC YB K 18 2 0 2 (oR1 c 5) rfl rfl rfl (d1_22 c) (oA_18 c) (oP_2 c) rfl rfl rfl rfl rfl rfl A W (hY 2 2))
  isplitr; · iexact HI
  isplitl [Ha0]; · iexact Ha0
  isplitl [Ha1]; · iexact Ha1
  isplitl [HU0]; · iexact HU0
  isplitl [Ht18]; · iexact Ht18
  isplitl [Hd18]; · iexact Hd18
  isplitl [HO]; · iexact HO
  iintro ⟨Ha0, Ha1, Hs18, HO⟩
  iapply (free_step RC YB K 17 1 rfl rfl (above_oR1 c 5))
  isplitr; · iexact HI
  isplitl [Hs17]; · iexact Hs17
  isplitl [HO]; · iexact HO
  iintro ⟨HU1, Hs17, HO⟩
  iapply (xfer_step RC YB K 19 2 1 3 (oR1 c 4) rfl rfl rfl (d1_23 c) (oA_19 c) (oP_3 c) rfl rfl rfl rfl rfl rfl A W (hY 2 3))
  isplitr; · iexact HI
  isplitl [Ha0]; · iexact Ha0
  isplitl [Ha1]; · iexact Ha1
  isplitl [HU1]; · iexact HU1
  isplitl [Ht19]; · iexact Ht19
  isplitl [Hd19]; · iexact Hd19
  isplitl [HO]; · iexact HO
  iintro ⟨Ha0, Ha1, Hs19, HO⟩
  iapply (free_step RC YB K 18 0 rfl rfl (above_oR1 c 4))
  isplitr; · iexact HI
  isplitl [Hs18]; · iexact Hs18
  isplitl [HO]; · iexact HO
  iintro ⟨HU0, Hs18, HO⟩
  iapply (xfer_step RC YB K 20 2 0 4 (oR1 c 3) rfl rfl rfl (d1_24 c) (oA_20 c) (oP_4 c) rfl rfl rfl rfl rfl rfl A W (hY 2 4))
  isplitr; · iexact HI
  isplitl [Ha0]; · iexact Ha0
  isplitl [Ha1]; · iexact Ha1
  isplitl [HU0]; · iexact HU0
  isplitl [Ht20]; · iexact Ht20
  isplitl [Hd20]; · iexact Hd20
  isplitl [HO]; · iexact HO
  iintro ⟨Ha0, Ha1, Hs20, HO⟩
  iapply (free_step RC YB K 19 1 rfl rfl (above_oR1 c 3))
  isplitr; · iexact HI
  isplitl [Hs19]; · iexact Hs19
  isplitl [HO]; · iexact HO
  iintro ⟨HU1, Hs19, HO⟩
  iapply (xfer_step RC YB K 21 2 1 5 (oR1 c 2) rfl rfl rfl (d1_25 c) (oA_21 c) (oP_5 c) rfl rfl rfl rfl rfl rfl A W (hY 2 5))
  isplitr; · iexact HI
  isplitl [Ha0]; · iexact Ha0
  isplitl [Ha1]; · iexact Ha1
  isplitl [HU1]; · iexact HU1
  isplitl [Ht21]; · iexact Ht21
  isplitl [Hd21]; · iexact Hd21
  isplitl [HO]; · iexact HO
  iintro ⟨Ha0, Ha1, Hs21, HO⟩
  iapply (free_step RC YB K 20 0 rfl rfl (above_oR1 c 2))
  isplitr; · iexact HI
  isplitl [Hs20]; · iexact Hs20
  isplitl [HO]; · iexact HO
  iintro ⟨HU0, Hs20, HO⟩
  iapply (xfer_step RC YB K 22 2 0 6 (oR1 c 1) rfl rfl rfl (d1_26 c) (oA_22 c) (oP_6 c) rfl rfl rfl rfl rfl rfl A W (hY 2 6))
  isplitr; · iexact HI
  isplitl [Ha0]; · iexact Ha0
  isplitl [Ha1]; · iexact Ha1
  isplitl [HU0]; · iexact HU0
  isplitl [Ht22]; · iexact Ht22
  isplitl [Hd22]; · iexact Hd22
  isplitl [HO]; · iexact HO
  iintro ⟨Ha0, Ha1, Hs22, HO⟩
  iapply (free_step RC YB K 21 1 rfl rfl (above_oR1 c 1))
  isplitr; · iexact HI
  isplitl [Hs21]; · iexact Hs21
  isplitl [HO]; · iexact HO
  iintro ⟨HU1, Hs21, HO⟩
  iapply (xfer_step RC YB K 23 2 1 7 (oR1 c 0) rfl rfl rfl (d1_27 c) (oA_23 c) (oP_7 c) rfl rfl rfl rfl rfl rfl A W (hY 2 7))
  isplitr; · iexact HI
  isplitl [Ha0]; · iexact Ha0
  isplitl [Ha1]; · iexact Ha1
  isplitl [HU1]; · iexact HU1
  isplitl [Ht23]; · iexact Ht23
  isplitl [Hd23]; · iexact Hd23
  isplitl [HO]; · iexact HO
  iintro ⟨Ha0, Ha1, Hs23, HO⟩
  iapply (mkOwn_step 0 (oS_0 c) (oQ_0 c) rfl A W (YB c) (hYc 0))
  isplitl [Ha0]; · iexact Ha0
  isplitl [Ha1]; · iexact Ha1
  isplitl [Ho0]; · iexact Ho0
  iintro ⟨Ha0, Ha1, Ho0⟩
  iapply (mkOwn_step 1 (oS_1 c) (oQ_1 c) rfl A W (YB c) (hYc 1))
  isplitl [Ha0]; · iexact Ha0
  isplitl [Ha1]; · iexact Ha1
  isplitl [Ho1]; · iexact Ho1
  iintro ⟨Ha0, Ha1, Ho1⟩
  iapply (mkOwn_step 2 (oS_2 c) (oQ_2 c) rfl A W (YB c) (hYc 2))
  isplitl [Ha0]; · iexact Ha0
  isplitl [Ha1]; · iexact Ha1
  isplitl [Ho2]; · iexact Ho2
  iintro ⟨Ha0, Ha1, Ho2⟩
  iapply (mkOwn_step 3 (oS_3 c) (oQ_3 c) rfl A W (YB c) (hYc 3))
  isplitl [Ha0]; · iexact Ha0
  isplitl [Ha1]; · iexact Ha1
  isplitl [Ho3]; · iexact Ho3
  iintro ⟨Ha0, Ha1, Ho3⟩
  iapply (mkOwn_step 4 (oS_4 c) (oQ_4 c) rfl A W (YB c) (hYc 4))
  isplitl [Ha0]; · iexact Ha0
  isplitl [Ha1]; · iexact Ha1
  isplitl [Ho4]; · iexact Ho4
  iintro ⟨Ha0, Ha1, Ho4⟩
  iapply (mkOwn_step 5 (oS_5 c) (oQ_5 c) rfl A W (YB c) (hYc 5))
  isplitl [Ha0]; · iexact Ha0
  isplitl [Ha1]; · iexact Ha1
  isplitl [Ho5]; · iexact Ho5
  iintro ⟨Ha0, Ha1, Ho5⟩
  iapply (mkOwn_step 6 (oS_6 c) (oQ_6 c) rfl A W (YB c) (hYc 6))
  isplitl [Ha0]; · iexact Ha0
  isplitl [Ha1]; · iexact Ha1
  isplitl [Ho6]; · iexact Ho6
  iintro ⟨Ha0, Ha1, Ho6⟩
  iapply (mkOwn_step 7 (oS_7 c) (oQ_7 c) rfl A W (YB c) (hYc 7))
  isplitl [Ha0]; · iexact Ha0
  isplitl [Ha1]; · iexact Ha1
  isplitl [Ho7]; · iexact Ho7
  iintro ⟨Ha0, Ha1, Ho7⟩
  iapply (base_step x w)
  isplitl [Ha3]; · iexact Ha3
  isplitl [Ha4]; · iexact Ha4
  isplitl [Ha5]; · iexact Ha5
  iintro ⟨Ha3, Ha4, Ha5⟩
  ihave HZ3 := (Entails.of_eq ((slab_Y c (c) (YB c)).trans (bigSep_eight _)).symm) $$ [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  iapply (comb_step (c) (oZ_0 c) s _ (YB c))
  isplitl [Ha2]; · iexact Ha2
  isplitl [HZ3]; · iexact HZ3
  isplitl [Ha5]; · iexact Ha5
  iintro ⟨Ha2, HZ3, Ha5⟩
  iapply (get_step RC YB K 0 0 0 rfl rfl rfl)
  isplitr; · iexact HI
  isplitl [Hr0]; · iexact Hr0
  isplitl [HO]; · iexact HO
  iintro ⟨Hy0, Hr0, HO⟩
  iapply (get_step RC YB K 1 0 1 rfl rfl rfl)
  isplitr; · iexact HI
  isplitl [Hr1]; · iexact Hr1
  isplitl [HO]; · iexact HO
  iintro ⟨Hy1, Hr1, HO⟩
  iapply (get_step RC YB K 2 0 2 rfl rfl rfl)
  isplitr; · iexact HI
  isplitl [Hr2]; · iexact Hr2
  isplitl [HO]; · iexact HO
  iintro ⟨Hy2, Hr2, HO⟩
  iapply (get_step RC YB K 3 0 3 rfl rfl rfl)
  isplitr; · iexact HI
  isplitl [Hr3]; · iexact Hr3
  isplitl [HO]; · iexact HO
  iintro ⟨Hy3, Hr3, HO⟩
  iapply (get_step RC YB K 4 0 4 rfl rfl rfl)
  isplitr; · iexact HI
  isplitl [Hr4]; · iexact Hr4
  isplitl [HO]; · iexact HO
  iintro ⟨Hy4, Hr4, HO⟩
  iapply (get_step RC YB K 5 0 5 rfl rfl rfl)
  isplitr; · iexact HI
  isplitl [Hr5]; · iexact Hr5
  isplitl [HO]; · iexact HO
  iintro ⟨Hy5, Hr5, HO⟩
  iapply (get_step RC YB K 6 0 6 rfl rfl rfl)
  isplitr; · iexact HI
  isplitl [Hr6]; · iexact Hr6
  isplitl [HO]; · iexact HO
  iintro ⟨Hy6, Hr6, HO⟩
  iapply (get_step RC YB K 7 0 7 rfl rfl rfl)
  isplitr; · iexact HI
  isplitl [Hr7]; · iexact Hr7
  isplitl [HO]; · iexact HO
  iintro ⟨Hy7, Hr7, HO⟩
  ihave HZ0 := (Entails.of_eq ((slab_Y c (src c 0) (YB c)).trans (bigSep_eight _)).symm) $$ [Hy0 Hy1 Hy2 Hy3 Hy4 Hy5 Hy6 Hy7]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    iexact Hy7
  iapply (comb_step (src c 0) (oZ_1 c) s _ (YB c))
  isplitl [Ha2]; · iexact Ha2
  isplitl [HZ0]; · iexact HZ0
  isplitl [Ha5]; · iexact Ha5
  iintro ⟨Ha2, HZ0, Ha5⟩
  iapply (get_step RC YB K 8 1 0 rfl rfl rfl)
  isplitr; · iexact HI
  isplitl [Hr8]; · iexact Hr8
  isplitl [HO]; · iexact HO
  iintro ⟨Hy8, Hr8, HO⟩
  iapply (get_step RC YB K 9 1 1 rfl rfl rfl)
  isplitr; · iexact HI
  isplitl [Hr9]; · iexact Hr9
  isplitl [HO]; · iexact HO
  iintro ⟨Hy9, Hr9, HO⟩
  iapply (get_step RC YB K 10 1 2 rfl rfl rfl)
  isplitr; · iexact HI
  isplitl [Hr10]; · iexact Hr10
  isplitl [HO]; · iexact HO
  iintro ⟨Hy10, Hr10, HO⟩
  iapply (get_step RC YB K 11 1 3 rfl rfl rfl)
  isplitr; · iexact HI
  isplitl [Hr11]; · iexact Hr11
  isplitl [HO]; · iexact HO
  iintro ⟨Hy11, Hr11, HO⟩
  iapply (get_step RC YB K 12 1 4 rfl rfl rfl)
  isplitr; · iexact HI
  isplitl [Hr12]; · iexact Hr12
  isplitl [HO]; · iexact HO
  iintro ⟨Hy12, Hr12, HO⟩
  iapply (get_step RC YB K 13 1 5 rfl rfl rfl)
  isplitr; · iexact HI
  isplitl [Hr13]; · iexact Hr13
  isplitl [HO]; · iexact HO
  iintro ⟨Hy13, Hr13, HO⟩
  iapply (get_step RC YB K 14 1 6 rfl rfl rfl)
  isplitr; · iexact HI
  isplitl [Hr14]; · iexact Hr14
  isplitl [HO]; · iexact HO
  iintro ⟨Hy14, Hr14, HO⟩
  iapply (get_step RC YB K 15 1 7 rfl rfl rfl)
  isplitr; · iexact HI
  isplitl [Hr15]; · iexact Hr15
  isplitl [HO]; · iexact HO
  iintro ⟨Hy15, Hr15, HO⟩
  ihave HZ1 := (Entails.of_eq ((slab_Y c (src c 1) (YB c)).trans (bigSep_eight _)).symm) $$ [Hy8 Hy9 Hy10 Hy11 Hy12 Hy13 Hy14 Hy15]
  · isplitl [Hy8]; · iexact Hy8
    isplitl [Hy9]; · iexact Hy9
    isplitl [Hy10]; · iexact Hy10
    isplitl [Hy11]; · iexact Hy11
    isplitl [Hy12]; · iexact Hy12
    isplitl [Hy13]; · iexact Hy13
    isplitl [Hy14]; · iexact Hy14
    iexact Hy15
  iapply (comb_step (src c 1) (oZ_2 c) s _ (YB c))
  isplitl [Ha2]; · iexact Ha2
  isplitl [HZ1]; · iexact HZ1
  isplitl [Ha5]; · iexact Ha5
  iintro ⟨Ha2, HZ1, Ha5⟩
  iapply (get_step RC YB K 16 2 0 rfl rfl rfl)
  isplitr; · iexact HI
  isplitl [Hr16]; · iexact Hr16
  isplitl [HO]; · iexact HO
  iintro ⟨Hy16, Hr16, HO⟩
  iapply (get_step RC YB K 17 2 1 rfl rfl rfl)
  isplitr; · iexact HI
  isplitl [Hr17]; · iexact Hr17
  isplitl [HO]; · iexact HO
  iintro ⟨Hy17, Hr17, HO⟩
  iapply (get_step RC YB K 18 2 2 rfl rfl rfl)
  isplitr; · iexact HI
  isplitl [Hr18]; · iexact Hr18
  isplitl [HO]; · iexact HO
  iintro ⟨Hy18, Hr18, HO⟩
  iapply (get_step RC YB K 19 2 3 rfl rfl rfl)
  isplitr; · iexact HI
  isplitl [Hr19]; · iexact Hr19
  isplitl [HO]; · iexact HO
  iintro ⟨Hy19, Hr19, HO⟩
  iapply (get_step RC YB K 20 2 4 rfl rfl rfl)
  isplitr; · iexact HI
  isplitl [Hr20]; · iexact Hr20
  isplitl [HO]; · iexact HO
  iintro ⟨Hy20, Hr20, HO⟩
  iapply (get_step RC YB K 21 2 5 rfl rfl rfl)
  isplitr; · iexact HI
  isplitl [Hr21]; · iexact Hr21
  isplitl [HO]; · iexact HO
  iintro ⟨Hy21, Hr21, HO⟩
  iapply (get_step RC YB K 22 2 6 rfl rfl rfl)
  isplitr; · iexact HI
  isplitl [Hr22]; · iexact Hr22
  isplitl [HO]; · iexact HO
  iintro ⟨Hy22, Hr22, HO⟩
  iapply (get_step RC YB K 23 2 7 rfl rfl rfl)
  isplitr; · iexact HI
  isplitl [Hr23]; · iexact Hr23
  isplitl [HO]; · iexact HO
  iintro ⟨Hy23, Hr23, HO⟩
  ihave HZ2 := (Entails.of_eq ((slab_Y c (src c 2) (YB c)).trans (bigSep_eight _)).symm) $$ [Hy16 Hy17 Hy18 Hy19 Hy20 Hy21 Hy22 Hy23]
  · isplitl [Hy16]; · iexact Hy16
    isplitl [Hy17]; · iexact Hy17
    isplitl [Hy18]; · iexact Hy18
    isplitl [Hy19]; · iexact Hy19
    isplitl [Hy20]; · iexact Hy20
    isplitl [Hy21]; · iexact Hy21
    isplitl [Hy22]; · iexact Hy22
    iexact Hy23
  iapply (comb_step (src c 2) (oZ_3 c) s _ (YB c))
  isplitl [Ha2]; · iexact Ha2
  isplitl [HZ2]; · iexact HZ2
  isplitl [Ha5]; · iexact Ha5
  iintro ⟨Ha2, HZ2, Ha5⟩
  iapply (free_step RC YB K 22 0 rfl rfl (above_oR1 c 0))
  isplitr; · iexact HI
  isplitl [Hs22]; · iexact Hs22
  isplitl [HO]; · iexact HO
  iintro ⟨HU0, Hs22, HO⟩
  iapply (free_step RC YB K 23 1 rfl rfl (above_oR1 c 0))
  isplitr; · iexact HI
  isplitl [Hs23]; · iexact Hs23
  isplitl [HO]; · iexact HO
  iintro ⟨HU1, Hs23, HO⟩
  iapply (ret_step c)
  imod (close RC YB K (mem_B1 c)) $$ [HaB] with HaB
  · isplitr; · iexact HI
    iexact HaB
  imod (close RC YB K (mem_Sd1 c 0)) $$ [Hs0] with Hs0
  · isplitr; · iexact HI
    iexact Hs0
  imod (close RC YB K (mem_Rc1 c 0)) $$ [Hr0] with Hr0
  · isplitr; · iexact HI
    iexact Hr0
  imod (close RC YB K (mem_Sd1 c 1)) $$ [Hs1] with Hs1
  · isplitr; · iexact HI
    iexact Hs1
  imod (close RC YB K (mem_Rc1 c 1)) $$ [Hr1] with Hr1
  · isplitr; · iexact HI
    iexact Hr1
  imod (close RC YB K (mem_Sd1 c 2)) $$ [Hs2] with Hs2
  · isplitr; · iexact HI
    iexact Hs2
  imod (close RC YB K (mem_Rc1 c 2)) $$ [Hr2] with Hr2
  · isplitr; · iexact HI
    iexact Hr2
  imod (close RC YB K (mem_Sd1 c 3)) $$ [Hs3] with Hs3
  · isplitr; · iexact HI
    iexact Hs3
  imod (close RC YB K (mem_Rc1 c 3)) $$ [Hr3] with Hr3
  · isplitr; · iexact HI
    iexact Hr3
  imod (close RC YB K (mem_Sd1 c 4)) $$ [Hs4] with Hs4
  · isplitr; · iexact HI
    iexact Hs4
  imod (close RC YB K (mem_Rc1 c 4)) $$ [Hr4] with Hr4
  · isplitr; · iexact HI
    iexact Hr4
  imod (close RC YB K (mem_Sd1 c 5)) $$ [Hs5] with Hs5
  · isplitr; · iexact HI
    iexact Hs5
  imod (close RC YB K (mem_Rc1 c 5)) $$ [Hr5] with Hr5
  · isplitr; · iexact HI
    iexact Hr5
  imod (close RC YB K (mem_Sd1 c 6)) $$ [Hs6] with Hs6
  · isplitr; · iexact HI
    iexact Hs6
  imod (close RC YB K (mem_Rc1 c 6)) $$ [Hr6] with Hr6
  · isplitr; · iexact HI
    iexact Hr6
  imod (close RC YB K (mem_Sd1 c 7)) $$ [Hs7] with Hs7
  · isplitr; · iexact HI
    iexact Hs7
  imod (close RC YB K (mem_Rc1 c 7)) $$ [Hr7] with Hr7
  · isplitr; · iexact HI
    iexact Hr7
  imod (close RC YB K (mem_Sd1 c 8)) $$ [Hs8] with Hs8
  · isplitr; · iexact HI
    iexact Hs8
  imod (close RC YB K (mem_Rc1 c 8)) $$ [Hr8] with Hr8
  · isplitr; · iexact HI
    iexact Hr8
  imod (close RC YB K (mem_Sd1 c 9)) $$ [Hs9] with Hs9
  · isplitr; · iexact HI
    iexact Hs9
  imod (close RC YB K (mem_Rc1 c 9)) $$ [Hr9] with Hr9
  · isplitr; · iexact HI
    iexact Hr9
  imod (close RC YB K (mem_Sd1 c 10)) $$ [Hs10] with Hs10
  · isplitr; · iexact HI
    iexact Hs10
  imod (close RC YB K (mem_Rc1 c 10)) $$ [Hr10] with Hr10
  · isplitr; · iexact HI
    iexact Hr10
  imod (close RC YB K (mem_Sd1 c 11)) $$ [Hs11] with Hs11
  · isplitr; · iexact HI
    iexact Hs11
  imod (close RC YB K (mem_Rc1 c 11)) $$ [Hr11] with Hr11
  · isplitr; · iexact HI
    iexact Hr11
  imod (close RC YB K (mem_Sd1 c 12)) $$ [Hs12] with Hs12
  · isplitr; · iexact HI
    iexact Hs12
  imod (close RC YB K (mem_Rc1 c 12)) $$ [Hr12] with Hr12
  · isplitr; · iexact HI
    iexact Hr12
  imod (close RC YB K (mem_Sd1 c 13)) $$ [Hs13] with Hs13
  · isplitr; · iexact HI
    iexact Hs13
  imod (close RC YB K (mem_Rc1 c 13)) $$ [Hr13] with Hr13
  · isplitr; · iexact HI
    iexact Hr13
  imod (close RC YB K (mem_Sd1 c 14)) $$ [Hs14] with Hs14
  · isplitr; · iexact HI
    iexact Hs14
  imod (close RC YB K (mem_Rc1 c 14)) $$ [Hr14] with Hr14
  · isplitr; · iexact HI
    iexact Hr14
  imod (close RC YB K (mem_Sd1 c 15)) $$ [Hs15] with Hs15
  · isplitr; · iexact HI
    iexact Hs15
  imod (close RC YB K (mem_Rc1 c 15)) $$ [Hr15] with Hr15
  · isplitr; · iexact HI
    iexact Hr15
  imod (close RC YB K (mem_Sd1 c 16)) $$ [Hs16] with Hs16
  · isplitr; · iexact HI
    iexact Hs16
  imod (close RC YB K (mem_Rc1 c 16)) $$ [Hr16] with Hr16
  · isplitr; · iexact HI
    iexact Hr16
  imod (close RC YB K (mem_Sd1 c 17)) $$ [Hs17] with Hs17
  · isplitr; · iexact HI
    iexact Hs17
  imod (close RC YB K (mem_Rc1 c 17)) $$ [Hr17] with Hr17
  · isplitr; · iexact HI
    iexact Hr17
  imod (close RC YB K (mem_Sd1 c 18)) $$ [Hs18] with Hs18
  · isplitr; · iexact HI
    iexact Hs18
  imod (close RC YB K (mem_Rc1 c 18)) $$ [Hr18] with Hr18
  · isplitr; · iexact HI
    iexact Hr18
  imod (close RC YB K (mem_Sd1 c 19)) $$ [Hs19] with Hs19
  · isplitr; · iexact HI
    iexact Hs19
  imod (close RC YB K (mem_Rc1 c 19)) $$ [Hr19] with Hr19
  · isplitr; · iexact HI
    iexact Hr19
  imod (close RC YB K (mem_Sd1 c 20)) $$ [Hs20] with Hs20
  · isplitr; · iexact HI
    iexact Hs20
  imod (close RC YB K (mem_Rc1 c 20)) $$ [Hr20] with Hr20
  · isplitr; · iexact HI
    iexact Hr20
  imod (close RC YB K (mem_Sd1 c 21)) $$ [Hs21] with Hs21
  · isplitr; · iexact HI
    iexact Hs21
  imod (close RC YB K (mem_Rc1 c 21)) $$ [Hr21] with Hr21
  · isplitr; · iexact HI
    iexact Hr21
  imod (close RC YB K (mem_Sd1 c 22)) $$ [Hs22] with Hs22
  · isplitr; · iexact HI
    iexact Hs22
  imod (close RC YB K (mem_Rc1 c 22)) $$ [Hr22] with Hr22
  · isplitr; · iexact HI
    iexact Hr22
  imod (close RC YB K (mem_Sd1 c 23)) $$ [Hs23] with Hs23
  · isplitr; · iexact HI
    iexact Hs23
  imod (close RC YB K (mem_Rc1 c 23)) $$ [Hr23] with Hr23
  · isplitr; · iexact HI
    iexact Hr23
  imodintro
  iapply Hk
  unfold post1
  rw [bigSep_all (fun i => done1 (F := F) c i)]
  unfold done1
  isplitl [Hs0 Hr0 Hs1 Hr1 Hs2 Hr2 Hs3 Hr3 Hs4 Hr4 Hs5 Hr5 Hs6 Hr6 Hs7 Hr7 Hs8 Hr8 Hs9 Hr9 Hs10 Hr10 Hs11 Hr11 Hs12 Hr12 Hs13 Hr13 Hs14 Hr14 Hs15 Hr15 Hs16 Hr16 Hs17 Hr17 Hs18 Hr18 Hs19 Hr19 Hs20 Hr20 Hs21 Hr21 Hs22 Hr22 Hs23 Hr23]
  · isplitl [Hs0 Hr0]
    · isplitl [Hs0]; · iexact Hs0
      iexact Hr0
    isplitl [Hs1 Hr1]
    · isplitl [Hs1]; · iexact Hs1
      iexact Hr1
    isplitl [Hs2 Hr2]
    · isplitl [Hs2]; · iexact Hs2
      iexact Hr2
    isplitl [Hs3 Hr3]
    · isplitl [Hs3]; · iexact Hs3
      iexact Hr3
    isplitl [Hs4 Hr4]
    · isplitl [Hs4]; · iexact Hs4
      iexact Hr4
    isplitl [Hs5 Hr5]
    · isplitl [Hs5]; · iexact Hs5
      iexact Hr5
    isplitl [Hs6 Hr6]
    · isplitl [Hs6]; · iexact Hs6
      iexact Hr6
    isplitl [Hs7 Hr7]
    · isplitl [Hs7]; · iexact Hs7
      iexact Hr7
    isplitl [Hs8 Hr8]
    · isplitl [Hs8]; · iexact Hs8
      iexact Hr8
    isplitl [Hs9 Hr9]
    · isplitl [Hs9]; · iexact Hs9
      iexact Hr9
    isplitl [Hs10 Hr10]
    · isplitl [Hs10]; · iexact Hs10
      iexact Hr10
    isplitl [Hs11 Hr11]
    · isplitl [Hs11]; · iexact Hs11
      iexact Hr11
    isplitl [Hs12 Hr12]
    · isplitl [Hs12]; · iexact Hs12
      iexact Hr12
    isplitl [Hs13 Hr13]
    · isplitl [Hs13]; · iexact Hs13
      iexact Hr13
    isplitl [Hs14 Hr14]
    · isplitl [Hs14]; · iexact Hs14
      iexact Hr14
    isplitl [Hs15 Hr15]
    · isplitl [Hs15]; · iexact Hs15
      iexact Hr15
    isplitl [Hs16 Hr16]
    · isplitl [Hs16]; · iexact Hs16
      iexact Hr16
    isplitl [Hs17 Hr17]
    · isplitl [Hs17]; · iexact Hs17
      iexact Hr17
    isplitl [Hs18 Hr18]
    · isplitl [Hs18]; · iexact Hs18
      iexact Hr18
    isplitl [Hs19 Hr19]
    · isplitl [Hs19]; · iexact Hs19
      iexact Hr19
    isplitl [Hs20 Hr20]
    · isplitl [Hs20]; · iexact Hs20
      iexact Hr20
    isplitl [Hs21 Hr21]
    · isplitl [Hs21]; · iexact Hs21
      iexact Hr21
    isplitl [Hs22 Hr22]
    · isplitl [Hs22]; · iexact Hs22
      iexact Hr22
    isplitl [Hs23]; · iexact Hs23
    iexact Hr23
  isplitl [HaB]; · iexact HaB
  isplitl [HZ0]; · iexact HZ0
  isplitl [HZ1]; · iexact HZ1
  isplitl [HZ2]; · iexact HZ2
  isplitl [HZ3]; · iexact HZ3
  isplitl [HU0]; · iexact HU0
  isplitl [HU1]; · iexact HU1
  isplitl [HO]; · iexact HO
  isplitl [Ha0]; · iexact Ha0
  isplitl [Ha1]; · iexact Ha1
  isplitl [Ha2]; · iexact Ha2
  isplitl [Ha3]; · iexact Ha3
  isplitl [Ha4]; · iexact Ha4
  iexact Ha5

end Cert.KernelIdeal.A2A
-- ==== Proof.IdealVals.lean ====
/- What every buffer of the two calls holds, as functions of the memory at launch. -/
module

public import proofs.«01_k».proof.Proof.IdealRun0
public import proofs.«01_k».proof.Proof.IdealRun1
public import proofs.«01_k».proof.Proof.Gen.KernelIdeal.Regions
public import proofs.«01_k».proof.Proof.Gen.KernelIdeal.Points

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The first call -/

/-- The buffers when it is entered. -/
def B9 (c : Dev nD) : Valuation τ sig (Elt F) := V9 m c

/-- Its operands: the slot of each token, and the tokens scaled by their router weight. -/
def a0 (c : Dev nD) : Vec F S1x2048 .i32 := ((cfg0.win 0).blk t0_0).view.read (Elt F) (B9 m c (Proc.devRef .tc main_v37))
def x0 (c : Dev nD) : Vec F S2048x512 .bf16 := ((cfg0.win 1).blk t0_0).view.read (Elt F) (B9 m c (Proc.devRef .tc main_v36))

/-- Which of device p's buckets goes to device d. -/
def kOf (p d : Fin 4) : Fin 4 := ⟨(d.val + 3 - p.val) % 4, Nat.mod_lt _ (by decide)⟩

theorem kOf_dst (c : Dev nD) (k : Fin 3) : kOf c (dst c k) = k.castSucc := by revert c k; decide
theorem kOf_self (c : Dev nD) : kOf c c = 3 := by revert c; decide

/-- The element of a bucket, of an element of the buffer of all buckets. -/
def inR (i : S4x8x160x512.Idx) : S1x8x160x512.Idx := fun a => ⟨if a.val = 0 then 0 else (i a).val, by
  have h1 := (i 1).isLt; have h2 := (i 2).isLt; have h3 := (i 3).isLt
  fin_cases a
  · exact Nat.one_pos
  · exact h1
  · exact h2
  · exact h3⟩

theorem rR_emb_zero (p : Fin 4) (j : S1x8x160x512.Idx) : (rR p).emb j 0 = p := by
  apply Fin.ext
  have h := (j 0).isLt
  show p.val + 1 * (j 0).val = p.val
  have : (j 0).val = 0 := by have : S1x8x160x512.size 0 = 1 := rfl; omega
  omega

theorem inR_emb (p : Fin 4) (j : S1x8x160x512.Idx) : inR ((rR p).emb j) = j := by
  funext a
  apply Fin.ext
  have h0 : (j 0).val = 0 := by have h := (j 0).isLt; have : S1x8x160x512.size 0 = 1 := rfl; omega
  fin_cases a
  · exact h0.symm
  · show 0 + 1 * (j 1).val = (j 1).val; omega
  · show 0 + 1 * (j 2).val = (j 2).val; omega
  · show 0 + 1 * (j 3).val = (j 3).val; omega

/-- What device d holds after the first call: from each device, its bucket. -/
def rcAt (d p : Fin 4) (j : S1x8x160x512.Idx) : Elt F .bf16 := bkt p (kOf p d) (a0 m p) (x0 m p) j
def RC (d : Dev nD) : BufR F := fun (i : S4x8x160x512.Idx) => rcAt m d (i 0) (inR i)

theorem RC_read (p d : Dev nD) : (mR.view.slice (rR p)).read (Elt F) (RC m d) = bkt p (kOf p d) (a0 m p) (x0 m p) := by
  exact funext fun j => congr_arg₂ (rcAt m d) (rR_emb_zero p j) (inR_emb p j)

theorem hX (c : Dev nD) (k : Fin 3) : (mR.view.slice (rR c)).read (Elt F) (RC m (dst c k)) = bkt c k.castSucc (a0 m c) (x0 m c) := by
  rw [RC_read, kOf_dst]
theorem hXc (c : Dev nD) : (mR.view.slice (rR c)).read (Elt F) (RC m c) = bkt c 3 (a0 m c) (x0 m c) := by
  rw [RC_read, kOf_self]

/-- The buffers after the first call. -/
def U10 (c : Dev nD) : Valuation τ sig (Elt F) := Function.update (B9 m c) main_v38 (RC m c)
/-- The buffers when the second call is entered. -/
def B11 (c : Dev nD) : Valuation τ sig (Elt F) := StableHlo.after hostOps1 (U10 m c)

/-! ## The second call -/

/-- Its operands: the tokens received, the experts held, the slot of each token, the tokens, the shared expert. -/
def a1 (c : Dev nD) : Vec F S4x8x160x512 .bf16 := ((cfg1.win 0).blk t1_0).view.read (Elt F) (B11 m c (Proc.devRef .tc main_v38))
def w1 (c : Dev nD) : Vec F S8x512x1024 .bf16 := ((cfg1.win 1).blk t1_0).view.read (Elt F) (B11 m c (Proc.devRef .tc main_v39))
def s1 (c : Dev nD) : Vec F S2048x1 .i32 := ((cfg1.win 2).blk t1_0).view.read (Elt F) (B11 m c (Proc.devRef .tc main_v40))
def x1 (c : Dev nD) : Vec F S2048x512 .f32 := ((cfg1.win 3).blk t1_0).view.read (Elt F) (B11 m c (Proc.devRef .tc main_arg0))
def sw1 (c : Dev nD) : Vec F S512x1024 .f32 := ((cfg1.win 4).blk t1_0).view.read (Elt F) (B11 m c (Proc.devRef .tc main_arg4))

/-- The element of a product, of an element of the buffer of all products. -/
def inY (i : S4x8x160x1024.Idx) : S1x1x160x1024.Idx := fun a => ⟨if a.val < 2 then 0 else (i a).val, by
  have h2 := (i 2).isLt; have h3 := (i 3).isLt
  fin_cases a
  · exact Nat.one_pos
  · exact Nat.one_pos
  · exact h2
  · exact h3⟩

theorem rY_emb_zero (p : Fin 4) (q : Fin 8) (j : S1x1x160x1024.Idx) : (rY p q).emb j 0 = p := by
  apply Fin.ext
  have h := (j 0).isLt
  show p.val + 1 * (j 0).val = p.val
  have : (j 0).val = 0 := by have : S1x1x160x1024.size 0 = 1 := rfl; omega
  omega
theorem rY_emb_one (p : Fin 4) (q : Fin 8) (j : S1x1x160x1024.Idx) : (rY p q).emb j 1 = q := by
  apply Fin.ext
  have h := (j 1).isLt
  show q.val + 1 * (j 1).val = q.val
  have : (j 1).val = 0 := by have : S1x1x160x1024.size 1 = 1 := rfl; omega
  omega

theorem inY_emb (p : Fin 4) (q : Fin 8) (j : S1x1x160x1024.Idx) : inY ((rY p q).emb j) = j := by
  funext a
  apply Fin.ext
  have h0 : (j 0).val = 0 := by have h := (j 0).isLt; have : S1x1x160x1024.size 0 = 1 := rfl; omega
  have h1 : (j 1).val = 0 := by have h := (j 1).isLt; have : S1x1x160x1024.size 1 = 1 := rfl; omega
  fin_cases a
  · exact h0.symm
  · exact h1.symm
  · show 0 + 1 * (j 2).val = (j 2).val; omega
  · show 0 + 1 * (j 3).val = (j 3).val; omega

/-- What device d holds of the products: from each device, by each of its experts, the product of the tokens d sent. -/
def ybAt (d p : Fin 4) (q : Fin 8) (j : S1x1x160x1024.Idx) : Elt F .bf16 := pown (slabA (a1 m p) d q) (slabW (w1 m p) q) j
def YB (d : Dev nD) : BufY F := fun (i : S4x8x160x1024.Idx) => ybAt m d (i 0) (i 1) (inY i)

theorem YB_read (p d : Dev nD) (q : Fin 8) : (mY.view.slice (rY p q)).read (Elt F) (YB m d) = pown (slabA (a1 m p) d q) (slabW (w1 m p) q) := by
  funext j
  have h : ∀ (p' : Fin 4) (q' : Fin 8) (j' : S1x1x160x1024.Idx), p' = p → q' = q → j' = j → ybAt m d p' q' j' = ybAt m d p q j := by
    rintro _ _ _ rfl rfl rfl; rfl
  exact h _ _ _ (rY_emb_zero p q j) (rY_emb_one p q j) (inY_emb p q j)

theorem hY (c : Dev nD) (k : Fin 3) (j : Fin 8) : (mY.view.slice (rY c j)).read (Elt F) (YB m (dst c k)) = pown (slabA (a1 m c) (dst c k) j) (slabW (w1 m c) j) :=
  YB_read m c (dst c k) j
theorem hYc (c : Dev nD) (j : Fin 8) : (mY.view.slice (rY c j)).read (Elt F) (YB m c) = pown (slabA (a1 m c) c j) (slabW (w1 m c) j) :=
  YB_read m c c j

/-- What the second call leaves. -/
def out1 (c : Dev nD) : Vec F S2048x1024 .f32 := outV (YB m) c (s1 m c) (x1 m c) (sw1 m c)

end Cert.KernelIdeal.A2A
-- ==== Proof.IdealRegion.lean ====
/- The two calls as regions: what each is entered with, its body, what it leaves. -/
module

public import proofs.«01_k».proof.Proof.IdealVals
public import Idealize.ShloMosaic.Lib.Pipeline.RegionTalk
public import Idealize.ShloMosaic.Lib.Pipeline.Value

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ
variable (m : (ℓ : Loc nD τ sig) → Buf (Elt F) ℓ)

/-! ## What each call is given at launch -/

/-- The duties a device carries out in the first call, and what it is owed there. -/
def tok0 (c : Dev nD) : sProp 𝕄 :=
  iprop((bigSep Finset.univ fun k : Fin 3 => iprop(dutyTok ER (S0 c k) 0 0 ∗ dutyTok ER (R0 (dst c k) k) 0 0 ∗ dutyTok ER (B0 (dst c k)) 0 k)) ∗ dutyTok ER (C0 c) 0 0)
def crd0 (c : Dev nD) : sProp 𝕄 := iprop(cred (tallyAt (B0 c) () 3) ∗ bigSep Finset.univ fun k : Fin 3 => cred (tallyAt (R0 c k) () N0))
/-- The same of the second call. -/
def tok1 (c : Dev nD) : sProp 𝕄 :=
  iprop((bigSep Finset.univ fun i : Fin 24 => iprop(dutyTok ER (Sd1 c i) 0 0 ∗ dutyTok ER (Rc1 (dst c (kk i)) i) 0 0))
    ∗ bigSep Finset.univ fun k : Fin 3 => dutyTok ER (B1 (dst c k)) 0 k)
def crd1 (c : Dev nD) : sProp 𝕄 := iprop(cred (tallyAt (B1 c) () 3) ∗ bigSep Finset.univ fun i : Fin 24 => cred (tallyAt (Rc1 c i) () N1))

/-- A counter not yet in use, and one opened. -/
def shut (g : GSem nD τ sig) : sProp 𝕄 := openTok ER g
def opened (g : GSem nD τ sig) : sProp 𝕄 := iprop(atPos ER g 0 ∅ 0 ∗ reached ER g 0)

def Tk0 (c : Dev nD) : sProp 𝕄 :=
  iprop(∃ K, recs (RC m) (YB m) K ∗ atPos ER (B0 c) 0 ∅ 0 ∗ (bigSep Finset.univ fun k : Fin 7 => shut (F := F) ((c : Thread nD τ), osem0 k)) ∗ tok0 (F := F) c ∗ crd0 (F := F) c)
def Xk0 (c : Dev nD) : sProp 𝕄 :=
  iprop(∃ K, recs (RC m) (YB m) K ∗ atPos ER (B0 c) 0 ∅ 0 ∗ (bigSep Finset.univ fun k : Fin 7 => opened (F := F) ((c : Thread nD τ), osem0 k)) ∗ tok0 (F := F) c ∗ crd0 (F := F) c)
def Tk1 (c : Dev nD) : sProp 𝕄 :=
  iprop(∃ K, recs (RC m) (YB m) K ∗ atPos ER (B1 c) 0 ∅ 0 ∗ (bigSep Finset.univ fun k : Fin 48 => shut (F := F) ((c : Thread nD τ), osem1 k)) ∗ tok1 (F := F) c ∗ crd1 (F := F) c)
def Xk1 (c : Dev nD) : sProp 𝕄 :=
  iprop(∃ K, recs (RC m) (YB m) K ∗ atPos ER (B1 c) 0 ∅ 0 ∗ (bigSep Finset.univ fun k : Fin 48 => opened (F := F) ((c : Thread nD τ), osem1 k)) ∗ tok1 (F := F) c ∗ crd1 (F := F) c)

/-- Counters at zero are opened, all at once. -/
theorem open_all {n : ℕ} (K : GSem nD τ sig → ℕ) (g : Fin n → GSem nD τ sig) (hg : ∀ k, g k ∈ allCells) :
    iprop(recs (RC m) (YB m) K ∗ (bigSep Finset.univ fun k => shut (F := F) (g k)) ∗ (bigSep Finset.univ fun k => (semVal (g k) 0 : sProp 𝕄)))
      ⊢ |={Set.univ}=> bigSep Finset.univ fun k => opened (F := F) (g k) := by
  have e : iprop(recs (RC m) (YB m) K ∗ bigSep Finset.univ fun k => iprop(shut (F := F) (g k) ∗ (semVal (g k) 0 : sProp 𝕄)))
      ⊢ bigSep Finset.univ fun k => iprop(|={Set.univ}=> opened (F := F) (g k)) :=
    bigSep_with_persistent fun k _ => (sep_mono_left (recs_cell (RC m) (YB m) K (hg k))).trans
      (Rounds.cell_open ER (talkRd (RC m) (YB m)) (Set.mem_univ (K (g k))))
  rw [← bigSep_sep']
  exact e.trans (BI.bigSep_fupd _ _)

theorem hopen0 (c : Dev nD) : iprop(Tk0 m c ∗ Pipeline.ownSems0 osem0 c ∗ levAts L lv) ⊢ |={Set.univ}=> Xk0 m c := by
  unfold Tk0 Xk0 Pipeline.ownSems0
  iintro ⟨⟨%K, #HI, HB, Hs, Ht, Hc⟩, Hv, -⟩
  imod (open_all m K (fun k : Fin 7 => ((c : Thread nD τ), osem0 k)) (mem_sc0 c)) $$ [Hs Hv] with Ho
  · isplitr; · iexact HI
    isplitl [Hs]; · iexact Hs
    iexact Hv
  imodintro
  iexists K
  isplitr; · iexact HI
  isplitl [HB]; · iexact HB
  isplitl [Ho]; · iexact Ho
  isplitl [Ht]; · iexact Ht
  iexact Hc

theorem hopen1 (c : Dev nD) : iprop(Tk1 m c ∗ Pipeline.ownSems0 osem1 c ∗ levAts L lv) ⊢ |={Set.univ}=> Xk1 m c := by
  unfold Tk1 Xk1 Pipeline.ownSems0
  iintro ⟨⟨%K, #HI, HB, Hs, Ht, Hc⟩, Hv, -⟩
  imod (open_all m K (fun k : Fin 48 => ((c : Thread nD τ), osem1 k)) (mem_sc1 c)) $$ [Hs Hv] with Ho
  · isplitr; · iexact HI
    isplitl [Hs]; · iexact Hs
    iexact Hv
  imodintro
  iexists K
  isplitr; · iexact HI
  isplitl [HB]; · iexact HB
  isplitl [Ho]; · iexact Ho
  isplitl [Ht]; · iexact Ht
  iexact Hc

/-! ## The proof data of the two calls -/

def hs0 : Finset (DevRef τ sig) := {Proc.devRef .tc main_v38}

def In0 (c : Dev nD) : sProp 𝕄 :=
  iprop(Pipeline.scopedRest spec0 c ∗ (∃ r, prngReg c r) ∗ StableHlo.held (c : Thread nD τ) hs0 (B9 m c) ∗ Xk0 m c)
def Out0 (c : Dev nD) : sProp 𝕄 :=
  iprop(Pipeline.scopedRest spec0 c ∗ (∃ r, prngReg c r) ∗ StableHlo.held (c : Thread nD τ) hs0 (U10 m c) ∗ Pipeline.ownSems0 osem0 c ∗ semVal (B0 c) 0)
def In1 (c : Dev nD) : sProp 𝕄 :=
  iprop(Pipeline.scopedRest spec1 c ∗ (∃ r, prngReg c r) ∗ StableHlo.held (c : Thread nD τ) ∅ (B11 m c) ∗ Xk1 m c)
def Out1 (W : Dev nD → Valuation τ sig (Elt F)) (c : Dev nD) : sProp 𝕄 :=
  iprop(Pipeline.scopedRest spec1 c ∗ (∃ r, prngReg c r) ∗ StableHlo.held (c : Thread nD τ) ∅ (W c) ∗ Pipeline.ownSems0 osem1 c ∗ semVal (B1 c) 0)

def dat0 (c : Dev nD) : Dat τ (Elt F) Unit ℕ UU ℕ cfg0 c where
  A w := B9 m c (Proc.devRef .tc (Pipeline.arrRef spec0 w))
  after w _ := match w with | 0 => a0 m c | 1 => x0 m c | ⟨_ + 2, h⟩ => absurd h (Nat.not_lt.2 (Nat.le_add_left _ _))
  Φ t := if t.val = 0 then In0 m c else Out0 m c
  q _ := fullShare
  owed t := if t.val = 0 then due1 c + due0 c else due1 c

def dat1 (c : Dev nD) : Dat τ (Elt F) Unit ℕ UU ℕ cfg1 c where
  A w := B11 m c (Proc.devRef .tc (Pipeline.arrRef spec1 w))
  after w _ := match w with | 0 => a1 m c | 1 => w1 m c | 2 => s1 m c | 3 => x1 m c | 4 => sw1 m c | 5 => out1 m c | ⟨_ + 6, h⟩ => absurd h (Nat.not_lt.2 (Nat.le_add_left _ _))
  Φ t := if t.val = 0 then In1 m c else Out1 (B11 m) c
  q _ := fullShare
  owed t := if t.val = 0 then due1 c else 0

def pdats : (p : Fin 2) → (c : Dev nD) → Dat τ (Elt F) Unit ℕ UU ℕ (Pipeline.pin (pcfgs (F := F)) adm p) c
  | 0 => dat0 m
  | 1 => dat1 m
  | ⟨_ + 2, h⟩ => absurd h (Nat.not_lt.2 (Nat.le_add_left _ _))

/-- The buffers at the end. -/
def U12 (c : Dev nD) : Valuation τ sig (Elt F) := Function.update (B11 m c) main_v41 ((dat1 m c).arrAt 5 cfg1.N)

theorem held_nil (c : Dev nD) (V V' : Valuation τ sig (Elt F)) : (StableHlo.held (c : Thread nD τ) ∅ V : sProp 𝕄) = StableHlo.held (c : Thread nD τ) ∅ V' :=
  StableHlo.held_congr _ fun b hb => absurd hb (Finset.notMem_empty b)

theorem A_0 (c : Dev nD) (w) : (dat0 m c).A w = B9 m c (Proc.devRef .tc (Pipeline.arrRef spec0 w)) := rfl
theorem A_1 (c : Dev nD) (w) : (dat1 m c).A w = B11 m c (Proc.devRef .tc (Pipeline.arrRef spec1 w)) := rfl
theorem block0_0 (c : Dev nD) : (dat0 m c).blockOf 0 t0_0 = a0 m c := by unfold Dat.blockOf; rw [A_0]; unfold a0; with_reducible rfl
theorem block1_2 (c : Dev nD) : (dat1 m c).blockOf 2 t1_0 = s1 m c := by unfold Dat.blockOf; rw [A_1]; unfold s1; with_reducible rfl
theorem fetched0_0 (c : Dev nD) (d) : (dat0 m c).fetched 0 t0_0 d = (dat0 m c).blockOf 0 t0_0 := rfl
theorem fetched1_2 (c : Dev nD) (d) : (dat1 m c).fetched 2 t1_0 d = (dat1 m c).blockOf 2 t1_0 := rfl
theorem before0_0 (c : Dev nD) (d) : (dat0 m c).before 0 t0_0 d = a0 m c := ((dat0 m c).before_fetched 0 t0_0 (fetch0_0 _) d).trans ((fetched0_0 m c d).trans (block0_0 m c))
theorem before0_1 (c : Dev nD) (d) : (dat0 m c).before 1 t0_0 d = x0 m c := ((dat0 m c).before_fetched 1 t0_0 (fetch0_1 _) d).trans (by unfold x0; rfl)
theorem before1_0 (c : Dev nD) (d) : (dat1 m c).before 0 t1_0 d = a1 m c := ((dat1 m c).before_fetched 0 t1_0 (fetch1_0 _) d).trans (by unfold a1; rfl)
theorem before1_1 (c : Dev nD) (d) : (dat1 m c).before 1 t1_0 d = w1 m c := ((dat1 m c).before_fetched 1 t1_0 (fetch1_1 _) d).trans (by unfold w1; rfl)
theorem before1_2 (c : Dev nD) (d) : (dat1 m c).before 2 t1_0 d = s1 m c := ((dat1 m c).before_fetched 2 t1_0 (fetch1_2 _) d).trans ((fetched1_2 m c d).trans (block1_2 m c))
theorem before1_3 (c : Dev nD) (d) : (dat1 m c).before 3 t1_0 d = x1 m c := ((dat1 m c).before_fetched 3 t1_0 (fetch1_3 _) d).trans (by unfold x1; rfl)
theorem before1_4 (c : Dev nD) (d) : (dat1 m c).before 4 t1_0 d = sw1 m c := ((dat1 m c).before_fetched 4 t1_0 (fetch1_4 _) d).trans (by unfold sw1; rfl)

theorem owesAt_in {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) : (ow c O : sProp 𝕄) ⊢ dat.owesAt () t := by
  unfold Dat.owesAt Pipeline.owesWithin Dat.bound ow; rw [h0, hr]
  iintro ⟨%W, HO⟩; iexists W; isplitr; · ipureintro; exact fun _ _ => Or.inl trivial
  iexact HO
theorem owesAt_out {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ ow c O := by
  unfold Dat.owesAt Pipeline.owesWithin ow; rw [h0]
  iintro ⟨%W, -, HO⟩; iexists W; iexact HO

/-! ## The first call's body -/

theorem Phi0_first (c : Dev nD) : (dat0 m c).Φ t0_0.castSucc = In0 m c := by
  show (if (t0_0.castSucc : Fin (cfg0.N + 1)).val = 0 then In0 m c else Out0 m c) = In0 m c; exact if_pos rfl
theorem Phi0_last (c : Dev nD) : (dat0 m c).Φ t0_0.succ = Out0 m c := by
  show (if (t0_0.succ : Fin (cfg0.N + 1)).val = 0 then In0 m c else Out0 m c) = Out0 m c; exact if_neg (Nat.succ_ne_zero _)
theorem owed0_first (c : Dev nD) : (dat0 m c).owed t0_0.castSucc = due1 c + due0 c := by
  show (if (t0_0.castSucc : Fin (cfg0.N + 1)).val = 0 then due1 c + due0 c else due1 c) = due1 c + due0 c; exact if_pos rfl
theorem owed0_last (c : Dev nD) : (dat0 m c).owed t0_0.succ = due1 c := by
  show (if (t0_0.succ : Fin (cfg0.N + 1)).val = 0 then due1 c + due0 c else due1 c) = due1 c; exact if_neg (Nat.succ_ne_zero _)
theorem Phi1_first (c : Dev nD) : (dat1 m c).Φ t1_0.castSucc = In1 m c := by
  show (if (t1_0.castSucc : Fin (cfg1.N + 1)).val = 0 then In1 m c else Out1 (B11 m) c) = In1 m c; exact if_pos rfl
theorem Phi1_last (c : Dev nD) : (dat1 m c).Φ t1_0.succ = Out1 (B11 m) c := by
  show (if (t1_0.succ : Fin (cfg1.N + 1)).val = 0 then In1 m c else Out1 (B11 m) c) = Out1 (B11 m) c; exact if_neg (Nat.succ_ne_zero _)
theorem owed1_first (c : Dev nD) : (dat1 m c).owed t1_0.castSucc = due1 c := by
  show (if (t1_0.castSucc : Fin (cfg1.N + 1)).val = 0 then due1 c else 0) = due1 c; exact if_pos rfl
theorem owed1_last (c : Dev nD) : (dat1 m c).owed t1_0.succ = 0 := by
  show (if (t1_0.succ : Fin (cfg1.N + 1)).val = 0 then due1 c else 0) = 0; exact if_neg (Nat.succ_ne_zero _)

theorem after0_0 (c : Dev nD) (t) : (dat0 m c).after 0 t = a0 m c := by unfold dat0; with_reducible rfl
theorem after1_2 (c : Dev nD) (t) : (dat1 m c).after 2 t = s1 m c := by unfold dat1; with_reducible rfl

theorem held_v38 (c : Dev nD) (V : Valuation τ sig (Elt F)) :
    (StableHlo.held (c : Thread nD τ) hs0 V : sProp 𝕄) = (mR.view.loc (c : Thread nD τ) ↦[Finset.univ]{fullShare} V (Proc.devRef .tc main_v38)) := by
  unfold StableHlo.held hs0
  rw [bigSep_singleton]

theorem U10_v38 (c : Dev nD) : U10 m c (Proc.devRef .tc main_v38) = RC m c := Function.update_self _ _ _

theorem seven (Φ : Fin 7 → sProp 𝕄) : bigSep Finset.univ Φ = iprop(Φ 0 ∗ Φ 1 ∗ Φ 2 ∗ Φ 3 ∗ Φ 4 ∗ Φ 5 ∗ Φ 6) := by
  rw [bigSep_succ, bigSep_succ, bigSep_succ, bigSep_succ, bigSep_succ, bigSep_fin_two]; rfl

/-- The pieces of the buffer of buckets, by the device each comes from. -/
theorem join_R (c : Dev nD) (f : BufR F) :
    iprop(pR c (src c 0) f ∗ pR c (src c 1) f ∗ pR c (src c 2) f ∗ pR c c f) ⊢ (mR.view.loc (c : Thread nD τ) ↦[Finset.univ]{fullShare} f : sProp 𝕄) := by
  rw [whole_R, show src c 0 = dst c 2 from src_eq c 0, show src c 1 = dst c 1 from src_eq c 1, show src c 2 = dst c 0 from src_eq c 2]
  refine BIBase.Entails.trans ?_ (four_from c (fun p => (pR c p f : sProp 𝕄))).2
  iintro ⟨H0, H1, H2, H3⟩
  isplitl [H2]; · iexact H2
  isplitl [H1]; · iexact H1
  isplitl [H0]; · iexact H0
  iexact H3

theorem osem0_S (c : Dev nD) (k : Fin 3) : ((c : Thread nD τ), osem0 (k.castLE (by decide))) = S0 c k := by revert k; intro k; fin_cases k <;> rfl

theorem two_T (c : Dev nD) (f : BufT F) : (mT.view.loc (c : Thread nD τ) ↦[Finset.univ]{fullShare} f : sProp 𝕄) = iprop(pT c 0 f ∗ pT c 1 f) := by
  rw [whole_T, BI.bigSep_fin_two]; rfl
theorem two_U (c : Dev nD) (f : BufU F) : (mU.view.loc (c : Thread nD τ) ↦[Finset.univ]{fullShare} f : sProp 𝕄) = iprop(pU c 0 f ∗ pU c 1 f) := by
  rw [whole_U, BI.bigSep_fin_two]; rfl

set_option maxHeartbeats 1600000 in
theorem body0 (c : Dev nD) : Pipeline.BodyObligation (dat0 m c) (defs₀ (F := F)) 𝒱₀ () Set.univ := fun t => by
  obtain rfl := fin_N0 t
  rw [bigSep_W0, bigSep_W0, Phi0_first, Phi0_last]
  unfold In0 Out0 Xk0 tok0 crd0 Pipeline.ownSems0 opened
  rw [scopedRest0_eq, held_v38, held_v38, U10_v38, bigSep_three, bigSep_three, seven, seven]
  iintro ⟨⟨⟨⟨%fT, HT⟩, Hsc⟩, Hp, HR, %K, #HI, HaB, ⟨⟨HaS0, HrS0⟩, ⟨HaS1, HrS1⟩, ⟨HaS2, HrS2⟩, ⟨HaR0, HrR0⟩, ⟨HaR1, HrR1⟩, ⟨HaR2, HrR2⟩, ⟨HaC, HrC⟩⟩,
    ⟨⟨⟨HtS0, HtR0, HtB0⟩, ⟨HtS1, HtR1, HtB1⟩, ⟨HtS2, HtR2, HtB2⟩⟩, HtC⟩, HcB, HcR0, HcR1, HcR2⟩, HO, ⟨%d0, Ha⟩, ⟨%d1, Hx⟩⟩
  rw [before0_0, before0_1]
  ihave HO := (owesAt_out (dat0 m c) _ _ (owed0_first m c)) $$ HO
  ihave HT := (Entails.of_eq (two_T c fT)) $$ HT
  icases HT with ⟨HT0, HT1⟩
  ihave HR := (Entails.of_eq (whole_R c (B9 m c (Proc.devRef .tc main_v38)))) $$ HR
  ihave HR := (four_from c (fun p => (pR c p (B9 m c (Proc.devRef .tc main_v38)) : sProp 𝕄))).1 $$ HR
  icases HR with ⟨HR0, HR1, HR2, HRc⟩
  iapply (run0 (RC m) (YB m) K (win0_0.stage (cfg0.slots t0_0 0)) (hstage0_0 0) (win0_1.stage (cfg0.slots t0_0 1)) (hstage0_1 0) (a0 m c) (x0 m c) c (hX m c) (hXc m c) _)
  isplitr; · iexact HI
  isplitr [Hsc Hp]
  · unfold pre0 own0
    isplitl [HaS0 HrS0 HaR0 HrR0 HtS0 HtR0 HtB0 HcR0 HR0]
    · isplitl [HaS0 HrS0]; · isplitl [HaS0]; · iexact HaS0
                             iexact HrS0
      isplitl [HaR0 HrR0]; · isplitl [HaR0]; · iexact HaR0
                             iexact HrR0
      isplitl [HtS0]; · iexact HtS0
      isplitl [HtR0]; · iexact HtR0
      isplitl [HtB0]; · iexact HtB0
      isplitl [HcR0]; · iexact HcR0
      iexists _; iexact HR0
    isplitl [HaS1 HrS1 HaR1 HrR1 HtS1 HtR1 HtB1 HcR1 HR1]
    · isplitl [HaS1 HrS1]; · isplitl [HaS1]; · iexact HaS1
                             iexact HrS1
      isplitl [HaR1 HrR1]; · isplitl [HaR1]; · iexact HaR1
                             iexact HrR1
      isplitl [HtS1]; · iexact HtS1
      isplitl [HtR1]; · iexact HtR1
      isplitl [HtB1]; · iexact HtB1
      isplitl [HcR1]; · iexact HcR1
      iexists _; iexact HR1
    isplitl [HaS2 HrS2 HaR2 HrR2 HtS2 HtR2 HtB2 HcR2 HR2]
    · isplitl [HaS2 HrS2]; · isplitl [HaS2]; · iexact HaS2
                             iexact HrS2
      isplitl [HaR2 HrR2]; · isplitl [HaR2]; · iexact HaR2
                             iexact HrR2
      isplitl [HtS2]; · iexact HtS2
      isplitl [HtR2]; · iexact HtR2
      isplitl [HtB2]; · iexact HtB2
      isplitl [HcR2]; · iexact HcR2
      iexists _; iexact HR2
    isplitl [HaB HcB]; · isplitl [HaB]; · iexact HaB
                         iexact HcB
    isplitl [HaC HrC HtC]
    · isplitl [HaC HrC]; · isplitl [HaC]; · iexact HaC
                           iexact HrC
      iexact HtC
    isplitl [HRc]; · iexists _; iexact HRc
    isplitl [HT0]; · iexists _; iexact HT0
    isplitl [HT1]; · iexists _; iexact HT1
    isplitl [HO]; · iexact HO
    isplitl [Ha]; · iexact Ha
    iexact Hx
  unfold post0 done0
  iintro ⟨⟨HS0, HV0, HR0⟩, ⟨HS1, HV1, HR1⟩, ⟨HS2, HV2, HR2⟩, HB, HC, HRc, HT0, HT1, HO, Ha, Hx⟩
  ihave HT := (join_T (F := F) c) $$ [HT0 HT1]
  · isplitl [HT0] <;> iassumption
  ihave HR := (join_R c (RC m c)) $$ [HR0 HR1 HR2 HRc]
  · isplitl [HR0]; · iexact HR0
    isplitl [HR1]; · iexact HR1
    isplitl [HR2]; · iexact HR2
    iexact HRc
  isplitr [HO Ha Hx]
  · isplitl [HT Hsc]
    · isplitl [HT]; · iexact HT
      iexact Hsc
    isplitl [Hp]; · iexact Hp
    isplitl [HR]; · iexact HR
    isplitr [HB]
    · isplitl [HS0]; · iexact HS0
      isplitl [HS1]; · iexact HS1
      isplitl [HS2]; · iexact HS2
      isplitl [HV0]; · iexact HV0
      isplitl [HV1]; · iexact HV1
      isplitl [HV2]; · iexact HV2
      iexact HC
    iexact HB
  isplitl [HO]
  · iapply (owesAt_in (dat0 m c) _ _ (owed0_last m c) rfl); iexact HO
  isplitl [Ha]; · rw [after0_0]; iexact Ha
  iexact Hx

end Cert.KernelIdeal.A2A
-- ==== Proof.IdealRegion1.lean ====
/- The body of the second call as the region runs it. -/
module

public import proofs.«01_k».proof.Proof.IdealRegion

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ
variable (m : (ℓ : Loc nD τ sig) → Buf (Elt F) ℓ)

variable (m : (ℓ : Loc nD τ sig) → Buf (Elt F) ℓ)

/-- The forty-eight counters are those of the sends and those of the arrivals. -/
theorem bigSep_halves (Φ : Fin 48 → sProp 𝕄) :
    bigSep Finset.univ Φ = iprop((bigSep Finset.univ fun i : Fin 24 => Φ (Fin.castAdd 24 i)) ∗ bigSep Finset.univ fun i : Fin 24 => Φ (Fin.natAdd 24 i)) := by
  rw [bigSep_univ_equiv (finSumFinEquiv (m := 24) (n := 24)) Φ, bigSep_univ_sum]
  rfl

theorem cell_send (c : Dev nD) (i : Fin 24) : ((c : Thread nD τ), osem1 (Fin.castAdd 24 i)) = Sd1 c i := rfl
theorem cell_recv (c : Dev nD) (i : Fin 24) : ((c : Thread nD τ), osem1 (Fin.natAdd 24 i)) = Rc1 c i := by
  revert i; intro i; fin_cases i <;> rfl

theorem cells1 (c : Dev nD) (Φ : GSem nD τ sig → sProp 𝕄) :
    (bigSep Finset.univ fun k : Fin 48 => Φ ((c : Thread nD τ), osem1 k))
      = iprop((bigSep Finset.univ fun i : Fin 24 => Φ (Sd1 c i)) ∗ bigSep Finset.univ fun i : Fin 24 => Φ (Rc1 c i)) := by
  rw [bigSep_halves]
  have e : (fun i : Fin 24 => Φ ((c : Thread nD τ), osem1 (Fin.natAdd 24 i))) = fun i => Φ (Rc1 c i) := funext fun i => by rw [cell_recv]
  rw [e]; rfl

/-- What is left for a peer at the barrier: its part of the buffer of products, and that its arrivals may begin. -/
theorem barPay1_of (c : Dev nD) (k : Fin 3) (f : BufY F) :
    iprop((bigSep Finset.univ fun i : Fin 24 => reached ER (Rc1 c i) 0) ∗ pZ c (dst c k) f) ⊢ (barPay1 (F := F) (dst c k) k : sProp 𝕄) := by
  unfold barPay1; rw [dst_dst_rev, slab_Y]
  refine bigSep_with_persistent fun j _ => ?_
  have e : (bigSep Finset.univ fun i : Fin 24 => (reached ER (Rc1 c i) 0 : sProp 𝕄)) ⊢ reached ER (Rc1 c (ix k.rev j)) 0 := bigSep_elim (Finset.mem_univ _)
  iintro ⟨#H, Hf⟩
  isplitl [Hf]; · iexists f; iexact Hf
  iapply e; iexact H

theorem own_Y (c : Dev nD) (f : BufY F) : (pZ c c f : sProp 𝕄) ⊢ bigSep Finset.univ fun j => iprop(∃ f : BufY F, pY c c j f) := by
  rw [slab_Y]
  have h : ∀ j : Fin 8, (pY c c j f : sProp 𝕄) ⊢ iprop(∃ f : BufY F, pY c c j f) := fun j => by iintro H; iexists f; iexact H
  exact bigSep_mono fun j _ => h j

theorem join_Z (c : Dev nD) (f : BufY F) :
    iprop(pZ c (src c 0) f ∗ pZ c (src c 1) f ∗ pZ c (src c 2) f ∗ pZ c c f) ⊢ (mY.view.loc (c : Thread nD τ) ↦[Finset.univ]{fullShare} f : sProp 𝕄) := by
  rw [whole_Z, show src c 0 = dst c 2 from src_eq c 0, show src c 1 = dst c 1 from src_eq c 1, show src c 2 = dst c 0 from src_eq c 2]
  refine BIBase.Entails.trans ?_ (four_from c (fun p => (pZ c p f : sProp 𝕄))).2
  iintro ⟨H0, H1, H2, H3⟩
  isplitl [H2]; · iexact H2
  isplitl [H1]; · iexact H1
  isplitl [H0]; · iexact H0
  iexact H3

/-- The counters of the sends and the duties, by transfer. -/
theorem trs_of (c : Dev nD) :
    iprop((bigSep Finset.univ fun i : Fin 24 => opened (F := F) (Sd1 c i)) ∗ (bigSep Finset.univ fun i : Fin 24 => iprop(dutyTok ER (Sd1 c i) 0 0 ∗ dutyTok ER (Rc1 (dst c (kk i)) i) 0 0)))
      ⊢ (bigSep Finset.univ fun i => tr1 (F := F) c i : sProp 𝕄) := by
  rw [← bigSep_sep']
  have h : ∀ i : Fin 24, iprop(opened (F := F) (Sd1 c i) ∗ (dutyTok ER (Sd1 c i) 0 0 ∗ dutyTok ER (Rc1 (dst c (kk i)) i) 0 0)) ⊢ (tr1 (F := F) c i : sProp 𝕄) := fun i => by
    unfold opened tr1
    iintro ⟨⟨Ha, Hr⟩, Hs, Ht⟩
    isplitl [Ha]; · iexact Ha
    isplitl [Hr]; · iexact Hr
    isplitl [Hs]; · iexact Hs
    iexact Ht
  exact bigSep_mono fun i _ => h i

theorem rcs_of (c : Dev nD) :
    iprop((bigSep Finset.univ fun i : Fin 24 => atPos ER (Rc1 c i) 0 ∅ 0) ∗ (bigSep Finset.univ fun i : Fin 24 => cred (tallyAt (Rc1 c i) () N1)))
      ⊢ (bigSep Finset.univ fun i => rc1 (F := F) c i : sProp 𝕄) := by
  rw [← bigSep_sep']; rfl

theorem dones_to (c : Dev nD) : (bigSep Finset.univ fun i => done1 (F := F) c i : sProp 𝕄) ⊢ Pipeline.ownSems0 osem1 c := by
  have e := cells1 (F := F) c (fun g => semVal g 0)
  unfold Pipeline.ownSems0
  rw [e, ← bigSep_sep']; rfl

theorem opened_split (c : Dev nD) :
    (bigSep Finset.univ fun i : Fin 24 => opened (F := F) (Rc1 c i))
      = iprop((bigSep Finset.univ fun i : Fin 24 => (atPos ER (Rc1 c i) 0 ∅ 0 : sProp 𝕄)) ∗ bigSep Finset.univ fun i : Fin 24 => reached ER (Rc1 c i) 0) := by
  rw [← bigSep_sep']; rfl

set_option maxHeartbeats 1600000 in
theorem body1 (c : Dev nD) : Pipeline.BodyObligation (dat1 m c) (defs₀ (F := F)) 𝒱₀ () Set.univ := fun t => by
  obtain rfl := fin_N1 t
  rw [bigSep_W1, bigSep_W1, Phi1_first, Phi1_last]
  unfold In1 Out1 Xk1 tok1 crd1
  rw [scopedRest1_eq, held_nil c (B11 m c) (B11 m c), cells1 c (fun g => opened (F := F) g), opened_split, bigSep_three (fun k : Fin 3 => (dutyTok ER (B1 (dst c k)) 0 k : sProp 𝕄))]
  iintro ⟨⟨⟨Hg0, Hg1, HgT, ⟨%fU, HU⟩, %fY, HY⟩, Hp, HE, %K, #HI, HaB, ⟨HoS, HaR, #HrR⟩, ⟨Htk, HtB0, HtB1, HtB2⟩, HcB, HcR⟩, HO,
    ⟨%d0, HA⟩, ⟨%d1, HW⟩, ⟨%d2, Hs⟩, ⟨%d3, Hx⟩, ⟨%d4, Hw⟩, %d5, Hz⟩
  rw [before1_0, before1_1, before1_2, before1_3, before1_4]
  ihave HO := (owesAt_out (dat1 m c) _ _ (owed1_first m c)) $$ HO
  ihave HU := (Entails.of_eq (two_U c fU)) $$ HU
  icases HU with ⟨HU0, HU1⟩
  ihave HY := (Entails.of_eq (whole_Z c fY)) $$ HY
  ihave HY := (four_from c (fun p => (pZ c p fY : sProp 𝕄))).1 $$ HY
  icases HY with ⟨HY0, HY1, HY2, HYc⟩
  iapply (run1 (RC m) (YB m) K (win1_0.stage (cfg1.slots t1_0 0)) (hstage1_0 0) (win1_1.stage (cfg1.slots t1_0 1)) (hstage1_1 0) (win1_2.stage (cfg1.slots t1_0 2)) (hstage1_2 0)
    (win1_3.stage (cfg1.slots t1_0 3)) (hstage1_3 0) (win1_4.stage (cfg1.slots t1_0 4)) (hstage1_4 0) (win1_5.stage (cfg1.slots t1_0 5)) (hstage1_5 0)
    (a1 m c) (w1 m c) (s1 m c) (x1 m c) (sw1 m c) c (hY m c) (hYc m c) _)
  isplitr; · iexact HI
  isplitr [Hg0 Hg1 HgT Hp HE]
  · unfold pre1
    isplitl [HoS Htk]
    · iapply (trs_of c)
      isplitl [HoS]; · iexact HoS
      iexact Htk
    isplitl [HaR HcR]
    · iapply (rcs_of c)
      isplitl [HaR]; · iexact HaR
      iexact HcR
    isplitl [HY0 HtB0]
    · isplitl [HY0]
      · iapply (barPay1_of c 0 fY)
        isplitr; · iexact HrR
        iexact HY0
      iexact HtB0
    isplitl [HY1 HtB1]
    · isplitl [HY1]
      · iapply (barPay1_of c 1 fY)
        isplitr; · iexact HrR
        iexact HY1
      iexact HtB1
    isplitl [HY2 HtB2]
    · isplitl [HY2]
      · iapply (barPay1_of c 2 fY)
        isplitr; · iexact HrR
        iexact HY2
      iexact HtB2
    isplitl [HaB HcB]
    · isplitl [HaB]; · iexact HaB
      iexact HcB
    isplitl [HYc]; · iapply (own_Y c fY); iexact HYc
    isplitl [HU0]; · iexists _; iexact HU0
    isplitl [HU1]; · iexists _; iexact HU1
    isplitl [HO]; · iexact HO
    isplitl [HA]; · iexact HA
    isplitl [HW]; · iexact HW
    isplitl [Hs]; · iexact Hs
    isplitl [Hx]; · iexact Hx
    isplitl [Hw]; · iexact Hw
    iexists _; iexact Hz
  unfold post1
  iintro ⟨Hd, HB, HY0, HY1, HY2, HYc, HU0, HU1, HO, HA, HW, Hs, Hx, Hw, Hz⟩
  ihave HU := (join_U (F := F) c) $$ [HU0 HU1]
  · isplitl [HU0]; · iexact HU0
    iexact HU1
  ihave HY := (join_Z c (YB m c)) $$ [HY0 HY1 HY2 HYc]
  · isplitl [HY0]; · iexact HY0
    isplitl [HY1]; · iexact HY1
    isplitl [HY2]; · iexact HY2
    iexact HYc
  isplitr [HO HA HW Hs Hx Hw Hz]
  · isplitl [Hg0 Hg1 HgT HU HY]
    · isplitl [Hg0]; · iexact Hg0
      isplitl [Hg1]; · iexact Hg1
      isplitl [HgT]; · iexact HgT
      isplitl [HU]; · iexact HU
      iexists _; iexact HY
    isplitl [Hp]; · iexact Hp
    isplitl [HE]; · iexact HE
    isplitl [Hd]; · iapply (dones_to c); iexact Hd
    iexact HB
  isplitl [HO]
  · iapply (owesAt_in (dat1 m c) _ _ (owed1_last m c) rfl); iexact HO
  isplitl [HA]; · iexact HA
  isplitl [HW]; · iexact HW
  isplitl [Hs]; · rw [after1_2]; iexact Hs
  isplitl [Hx]; · iexact Hx
  isplitl [Hw]; · iexact Hw
  iexact Hz

end Cert.KernelIdeal.A2A
-- ==== Proof.IdealEnds.lean ====
/- The two calls as segments of the program. -/
module

public import proofs.«01_k».proof.Proof.IdealRegion1

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ
variable (m : (ℓ : Loc nD τ sig) → Buf (Elt F) ℓ)

/-! ## What the calls leave in their arrays -/

theorem share_0 (c : Dev nD) (w : Fin cfg0.W) : (dat0 m c).share w = fullShare := by
  show (if (cfg0.win w).isOut then fullShare else fullShare) = (fullShare : PosShare TreeShare); exact ite_self _
theorem share_1 (c : Dev nD) (w : Fin cfg1.W) : (dat1 m c).share w = fullShare := by
  show (if (cfg1.win w).isOut then fullShare else fullShare) = (fullShare : PosShare TreeShare); exact ite_self _

theorem isIn0 : ∀ w : Fin 2, (spec0 w).isOut = false := by decide
theorem isIn1 : ∀ w : Fin 6, w ≠ 5 → (spec1 w).isOut = false := by decide
theorem ref0 : ∀ w : Fin 2, Proc.devRef (τ := τ) .tc (Pipeline.arrRef spec0 w) ≠ Proc.devRef .tc main_v38 := by decide
theorem ref1 : ∀ w : Fin 6, w ≠ 5 → Proc.devRef (τ := τ) .tc (Pipeline.arrRef spec1 w) ≠ Proc.devRef .tc main_v41 := by decide

theorem left0 (c : Dev nD) (w : Fin 2) : (dat0 m c).arrAt w cfg0.N = U10 m c (Proc.devRef .tc (Pipeline.arrRef spec0 w)) := by
  rw [Dat.arrAt_in (dat0 m c) w (show (cfg0.win w).isOut = false from isIn0 w), A_0]
  exact (Function.update_of_ne (ref0 w) _ _).symm
theorem left1 (c : Dev nD) (w : Fin 6) : (dat1 m c).arrAt w cfg1.N = U12 m c (Proc.devRef .tc (Pipeline.arrRef spec1 w)) := by
  by_cases h : w = (5 : Fin 6)
  · subst h; exact (Function.update_self (Proc.devRef (τ := τ) .tc main_v41) _ (B11 m c)).symm
  · rw [Dat.arrAt_in (dat1 m c) w (show (cfg1.win w).isOut = false from isIn1 w h), A_1]
    exact (Function.update_of_ne (ref1 w h) _ _).symm

/-! ## The segments -/

def rest0 : Finset (DevRef τ sig) := Pipeline.ucRefs τ sig \ Pipeline.arrRefs spec0
def rest1 : Finset (DevRef τ sig) := Pipeline.ucRefs τ sig \ Pipeline.arrRefs spec1

theorem hs0_sub : hs0 ⊆ rest0 := by
  intro b hb
  rw [Finset.mem_singleton.mp hb]
  refine Finset.mem_sdiff.mpr ⟨Finset.mem_filter.mpr ⟨StableHlo.devRef_mem_tcRefs main_v38, by decide⟩, ?_⟩
  unfold Pipeline.arrRefs
  intro h
  obtain ⟨r, hr, h⟩ := Finset.mem_map.mp h
  obtain ⟨w, -, rfl⟩ := Finset.mem_image.mp hr
  exact ref0 w h
theorem rest0_eq (c : Dev nD) : ∀ b ∈ rest0 \ hs0, U10 m c b = B9 m c b := fun b hb =>
  Function.update_of_ne (fun h => (Finset.mem_sdiff.mp hb).2 (Finset.mem_singleton.mpr h)) _ _
theorem rest1_eq (c : Dev nD) : ∀ b ∈ rest1 \ ∅, U12 m c b = B11 m c b := fun b hb => by
  refine Function.update_of_ne (fun h => ?_) _ _
  refine (Finset.mem_sdiff.mp (Finset.mem_sdiff.mp hb).1).2 ?_
  rw [h]
  unfold Pipeline.arrRefs
  exact Finset.mem_map.mpr ⟨main_v41, Finset.mem_image.mpr ⟨5, Finset.mem_univ _, rfl⟩, rfl⟩

def end0 (c : Dev nD) : sProp 𝕄 := semVal (B0 c) 0
def end1 (c : Dev nD) : sProp 𝕄 := semVal (B1 c) 0

theorem above_owed0 (c : Dev nD) (t) : Above 0 ((dat0 m c).owed t) := by
  show Above 0 (if t.val = 0 then due1 c + due0 c else due1 c)
  split
  · exact above_add ((above_oB1 c 3).mono (by decide)) (above_oB0 c 3)
  · exact (above_oB1 c 3).mono (by decide)
theorem above_owed1 (c : Dev nD) (t) : Above 0 ((dat1 m c).owed t) := by
  show Above 0 (if t.val = 0 then due1 c else 0)
  split
  · exact (above_oB1 c 3).mono (by decide)
  · exact above_zero 0

theorem stage_lv0 : ∀ (w : Fin 2) (s : Fin (cfg0.win w).nbuf) (c : Dev nD), lv ((c : Thread nD τ), .dma ((cfg0.win w).sem s)) () ≤ 0 := by
  intro w s c; dsimp only [lv]; revert s; fin_cases w <;> decide
theorem stage_lv1 : ∀ (w : Fin 6) (s : Fin (cfg1.win w).nbuf) (c : Dev nD), lv ((c : Thread nD τ), .dma ((cfg1.win w).sem s)) () ≤ 0 := by
  intro w s c; dsimp only [lv]; revert s; fin_cases w <;> decide

set_option maxHeartbeats 1000000 in
set_option backward.isDefEq.respectTransparency.types false in
def reg0 [∀ e, Nonempty (Elt F e)] : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts spec0 osem0)
    hs0 rest0 hs0_sub launch0.toP rfl (fun c => (body0 m c).loose)
    due1 due0 (fun c => owed0_first m c) (fun c => owed0_last m c) (fun _ => rfl) (fun c w => share_0 m c w)
    (B9 m) (U10 m) (rest0_eq m)
    (Tk0 m) end0 (Xk0 m) end0 (hopen0 m)
    (fun c => by rw [show (pdats m 0 c).Φ 0 = In0 m c from Phi0_first m c]; exact .rfl)
    (fun c => by rw [show (pdats m 0 c).Φ (Fin.last _) = Out0 m c from Phi0_last m c]; exact .rfl)
    (fun c => by iintro H; imodintro; iexact H)
    (fun _ => 0)
    ⟨fun c w s => by rw [L_tc]; exact Finset.mem_singleton_self _, fun c w s => stage_lv0 w s c, fun c t g i h => above_owed0 m c t g i h⟩
    (Tk1 m)
    (fun c w => A_0 m c w) (fun c w => left0 m c w)

set_option maxHeartbeats 1000000 in
set_option backward.isDefEq.respectTransparency.types false in
def reg1 [∀ e, Nonempty (Elt F e)] : Pipeline.RegionSeg (pcfgs (F := F)) adm (pdats m) () defs₀ 𝒱₀ L lv 1 :=
  Pipeline.RegionSeg.ofTalk (pcfgs (F := F)) adm (pdats m) () defs₀ 𝒱₀ L lv 1 osem1 (by decide : Pipeline.OwnSemFacts spec1 osem1)
    ∅ rest1 (Finset.empty_subset _) launch1.toP rfl (fun c => (body1 m c).loose)
    (fun _ => 0) due1 (fun c => (owed1_first m c).trans (zero_add _).symm) (fun c => owed1_last m c) (fun _ => rfl) (fun c w => share_1 m c w)
    (B11 m) (U12 m) (rest1_eq m)
    (Tk1 m) end1 (Xk1 m) end1 (hopen1 m)
    (fun c => by rw [show (pdats m 1 c).Φ 0 = In1 m c from Phi1_first m c]; exact .rfl)
    (fun c => by
      rw [show (pdats m 1 c).Φ (Fin.last _) = Out1 (B11 m) c from Phi1_last m c, ← held_nil c (B11 m c)]; exact .rfl)
    (fun c => by iintro H; imodintro; iexact H)
    (fun _ => 0)
    ⟨fun c w s => by rw [L_tc]; exact Finset.mem_singleton_self _, fun c w s => stage_lv1 w s c, fun c t g i h => above_owed1 m c t g i h⟩
    end0
    (fun c w => A_1 m c w) (fun c w => left1 m c w)

end Cert.KernelIdeal.A2A

end
-- ==== Proof.IdealStart.lean ====
/- The launch: what every device is given, and what it is owed. -/
module

public import proofs.«01_k».proof.Proof.IdealEnds

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

/-! ## What the devices owe each cell at launch -/

def nR0 (c : Dev nD) : ℕ → GSem nD τ sig → ℕ
  | 0, _ => 0
  | n + 1, g => nR0 c n g + if g = R0 (dst c ⟨2 - n, by omega⟩) ⟨2 - n, by omega⟩ then 1 else 0
def nB0 (c : Dev nD) : ℕ → GSem nD τ sig → ℕ
  | 0, _ => 0
  | n + 1, g => nB0 c n g + if g = B0 (dst c ⟨2 - n, by omega⟩) then 1 else 0
def nR1 (c : Dev nD) : ℕ → GSem nD τ sig → ℕ
  | 0, _ => 0
  | n + 1, g => nR1 c n g + if g = Rc1 (dst c (kk ⟨23 - n, by omega⟩)) ⟨23 - n, by omega⟩ then 1 else 0
def nB1 (c : Dev nD) : ℕ → GSem nD τ sig → ℕ
  | 0, _ => 0
  | n + 1, g => nB1 c n g + if g = B1 (dst c ⟨2 - n, by omega⟩) then 1 else 0

theorem tally_times (g g' : GSem nD τ sig) (k : ℕ) : (tallyAt g () k : CellTallies nD τ sig Unit) g' () = (if g' = g then 1 else 0) * k := by
  rw [tallyAt_apply]
  by_cases h : g' = g
  · rw [if_pos ⟨h, rfl⟩, if_pos h, Nat.one_mul]
  · rw [if_neg (fun e => h e.1), if_neg h, Nat.zero_mul]

theorem oR0_at (c : Dev nD) (g : GSem nD τ sig) (n : ℕ) : oR0 c n g () = nR0 c n g * N0 := by
  induction n with
  | zero => unfold oR0 nR0; rw [Nat.zero_mul]; rfl
  | succ n ih => unfold oR0 nR0; rw [Pi.add_apply, Finsupp.add_apply, ih, tally_times, Nat.add_mul]
theorem oB0_at (c : Dev nD) (g : GSem nD τ sig) (n : ℕ) : oB0 c n g () = nR0 c 3 g * N0 + nB0 c n g := by
  induction n with
  | zero => unfold oB0 nB0; rw [oR0_at, Nat.add_zero]
  | succ n ih => unfold oB0 nB0; rw [Pi.add_apply, Finsupp.add_apply, ih, tally_times, Nat.mul_one, Nat.add_assoc]
theorem oR1_at (c : Dev nD) (g : GSem nD τ sig) (n : ℕ) : oR1 c n g () = nR1 c n g * N1 := by
  induction n with
  | zero => unfold oR1 nR1; rw [Nat.zero_mul]; rfl
  | succ n ih => unfold oR1 nR1; rw [Pi.add_apply, Finsupp.add_apply, ih, tally_times, Nat.add_mul]
theorem oB1_at (c : Dev nD) (g : GSem nD τ sig) (n : ℕ) : oB1 c n g () = nR1 c 24 g * N1 + nB1 c n g := by
  induction n with
  | zero => unfold oB1 nB1; rw [oR1_at, Nat.add_zero]
  | succ n ih => unfold oB1 nB1; rw [Pi.add_apply, Finsupp.add_apply, ih, tally_times, Nat.mul_one, Nat.add_assoc]

def due (c : Dev nD) : CellTallies nD τ sig Unit := due1 c + due0 c

theorem due_at (c : Dev nD) (g : GSem nD τ sig) : due c g () = nR1 c 24 g * N1 + nB1 c 3 g + (nR0 c 3 g * N0 + nB0 c 3 g) := by
  show (oB1 c 3 + oB0 c 3) g () = _
  rw [Pi.add_apply, Finsupp.add_apply, oB1_at, oB0_at]

theorem all_due (g : GSem nD τ sig) (a b d e : ℕ) (ha : ∑ c, nR1 c 24 g = a) (hb : ∑ c, nB1 c 3 g = b) (hd : ∑ c, nR0 c 3 g = d) (he : ∑ c, nB0 c 3 g = e) :
    tallyOn g (launchCredit (Pipeline.owing due) 0 g) = (tallyAt g () (a * N1 + b + (d * N0 + e)) : CellTallies nD τ sig Unit) := by
  unfold tallyAt
  refine congrArg _ (Finsupp.ext fun u => ?_)
  cases u
  rw [Pipeline.launchCredit_owing, Finsupp.single_eq_same, Finset.sum_congr rfl fun d _ => due_at d g, Finset.sum_add_distrib, Finset.sum_add_distrib,
    Finset.sum_add_distrib, ← Finset.sum_mul, ← Finset.sum_mul, ha, hb, hd, he]

theorem sums_B0 : ∀ c, (∑ d, nR1 d 24 (B0 c) = 0) ∧ (∑ d, nB1 d 3 (B0 c) = 0) ∧ (∑ d, nR0 d 3 (B0 c) = 0) ∧ ∑ d, nB0 d 3 (B0 c) = 3 := by decide +kernel
theorem sums_B1 : ∀ c, (∑ d, nR1 d 24 (B1 c) = 0) ∧ (∑ d, nB1 d 3 (B1 c) = 3) ∧ (∑ d, nR0 d 3 (B1 c) = 0) ∧ ∑ d, nB0 d 3 (B1 c) = 0 := by decide +kernel
theorem sums_R0 : ∀ c k, (∑ d, nR1 d 24 (R0 c k) = 0) ∧ (∑ d, nB1 d 3 (R0 c k) = 0) ∧ (∑ d, nR0 d 3 (R0 c k) = 1) ∧ ∑ d, nB0 d 3 (R0 c k) = 0 := by decide +kernel
theorem sums_Rc1 : ∀ c i, (∑ d, nR1 d 24 (Rc1 c i) = 1) ∧ (∑ d, nB1 d 3 (Rc1 c i) = 0) ∧ (∑ d, nR0 d 3 (Rc1 c i) = 0) ∧ ∑ d, nB0 d 3 (Rc1 c i) = 0 := by decide +kernel

/-- The cells a device is owed at: its two barriers, its arrivals of each call. -/
def inCell : (Fin 2 ⊕ Fin 3) ⊕ Fin 24 → SemLoc sig
  | .inl (.inl b) => .reg (if b = 0 then bar0 else bar1)
  | .inl (.inr k) => .dma (sR0 k)
  | .inr i => .dma (sR1 i)
theorem inCell_inj : Function.Injective inCell := by decide +kernel

theorem creds (c : Dev nD) : (Pipeline.launchCred due c : sProp 𝕄) ⊢ iprop(crd0 (F := F) c ∗ crd1 (F := F) c) := by
  have hB0 : tallyOn (B0 c) (launchCredit (Pipeline.owing due) 0 (B0 c)) = (tallyAt (B0 c) () 3 : CellTallies nD τ sig Unit) := by
    obtain ⟨h1, h2, h3, h4⟩ := sums_B0 c
    rw [all_due _ _ _ _ _ h1 h2 h3 h4]; exact congrArg _ (by rw [Nat.zero_mul, Nat.zero_mul])
  have hB1 : tallyOn (B1 c) (launchCredit (Pipeline.owing due) 0 (B1 c)) = (tallyAt (B1 c) () 3 : CellTallies nD τ sig Unit) := by
    obtain ⟨h1, h2, h3, h4⟩ := sums_B1 c
    rw [all_due _ _ _ _ _ h1 h2 h3 h4]; exact congrArg _ (by rw [Nat.zero_mul, Nat.zero_mul])
  have hR0 (k : Fin 3) : tallyOn (R0 c k) (launchCredit (Pipeline.owing due) 0 (R0 c k)) = (tallyAt (R0 c k) () N0 : CellTallies nD τ sig Unit) := by
    obtain ⟨h1, h2, h3, h4⟩ := sums_R0 c k
    rw [all_due _ _ _ _ _ h1 h2 h3 h4]; exact congrArg _ (by rw [Nat.zero_mul, Nat.one_mul, Nat.zero_add, Nat.add_zero])
  have hRc1 (i : Fin 24) : tallyOn (Rc1 c i) (launchCredit (Pipeline.owing due) 0 (Rc1 c i)) = (tallyAt (Rc1 c i) () N1 : CellTallies nD τ sig Unit) := by
    obtain ⟨h1, h2, h3, h4⟩ := sums_Rc1 c i
    rw [all_due _ _ _ _ _ h1 h2 h3 h4]; exact congrArg _ (by rw [Nat.zero_mul, Nat.one_mul, Nat.add_zero])
  have hb (Φ : Fin 2 → sProp 𝕄) : bigSep Finset.univ Φ = iprop(Φ 0 ∗ Φ 1) := BI.bigSep_fin_two Φ
  have hs (Φ : (Fin 2 ⊕ Fin 3) ⊕ Fin 24 → sProp 𝕄) : bigSep Finset.univ Φ
      = iprop(((bigSep Finset.univ fun b => Φ (.inl (.inl b))) ∗ (bigSep Finset.univ fun k => Φ (.inl (.inr k)))) ∗ bigSep Finset.univ fun i => Φ (.inr i)) := by
    rw [BI.bigSep_univ_sum, BI.bigSep_univ_sum]; rfl
  unfold Pipeline.launchCred
  refine (BI.bigSep_subset (Finset.subset_univ (Finset.univ.map (⟨inCell, inCell_inj⟩ : _ ↪ SemLoc sig)))).trans ?_
  rw [bigSep_map, hs, hb]
  show iprop(((cred (tallyOn (B0 c) (launchCredit (Pipeline.owing due) 0 (B0 c))) ∗ cred (tallyOn (B1 c) (launchCredit (Pipeline.owing due) 0 (B1 c))))
      ∗ (bigSep Finset.univ fun k : Fin 3 => cred (tallyOn (R0 c k) (launchCredit (Pipeline.owing due) 0 (R0 c k)))))
      ∗ bigSep Finset.univ fun i : Fin 24 => cred (tallyOn (Rc1 c i) (launchCredit (Pipeline.owing due) 0 (Rc1 c i)))) ⊢ _
  rw [hB0, hB1, funext fun k => congrArg cred (hR0 k), funext fun i => congrArg cred (hRc1 i)]
  unfold crd0 crd1
  iintro ⟨⟨⟨H0, H1⟩, HR⟩, HC⟩
  isplitl [H0 HR]
  · isplitl [H0]; · iexact H0
    iexact HR
  isplitl [H1]; · iexact H1
  iexact HC

/-! ## The duties, each handed to the device that carries it out -/

def barToks : Finset (GSem nD τ sig × ℕ × Fin 3) :=
  Finset.univ.map ⟨fun x : (Dev nD × Fin 2) × Fin 3 => (barOf x.1, 0, x.2), fun x y h =>
    Prod.ext (barOf.injective (congrArg (fun t : GSem nD τ sig × ℕ × Fin 3 => t.1) h)) (congrArg (fun t : GSem nD τ sig × ℕ × Fin 3 => t.2.2) h)⟩
def scToks0 : Finset (GSem nD τ sig × ℕ × Fin 3) :=
  Finset.univ.map ⟨fun x : Dev nD × Fin 7 => (sc0Of x, 0, 0), fun _ _ h => sc0Of.injective (congrArg (fun t : GSem nD τ sig × ℕ × Fin 3 => t.1) h)⟩
def scToks1 : Finset (GSem nD τ sig × ℕ × Fin 3) :=
  Finset.univ.map ⟨fun x : Dev nD × Fin 48 => (sc1Of x, 0, 0), fun _ _ h => sc1Of.injective (congrArg (fun t : GSem nD τ sig × ℕ × Fin 3 => t.1) h)⟩
def talkToks : Finset (GSem nD τ sig × ℕ × Fin 3) := barToks ∪ (scToks0 ∪ scToks1)

theorem bar_sc0 (x : Dev nD × Fin 2) (y : Dev nD × Fin 7) (h : barOf x = sc0Of y) : False := by
  have h2 : (SemLoc.reg (if x.2 = 0 then bar0 else bar1) : SemLoc sig) = osem0 y.2 := congrArg (fun g : GSem nD τ sig => g.2) h
  unfold osem0 at h2
  cases h2
theorem bar_sc1 (x : Dev nD × Fin 2) (y : Dev nD × Fin 48) (h : barOf x = sc1Of y) : False := by
  have h2 : (SemLoc.reg (if x.2 = 0 then bar0 else bar1) : SemLoc sig) = osem1 y.2 := congrArg (fun g : GSem nD τ sig => g.2) h
  unfold osem1 at h2
  cases h2
theorem sc0_sc1 (x : Dev nD × Fin 7) (y : Dev nD × Fin 48) (h : sc0Of x = sc1Of y) : False :=
  osem_ne (congrArg (fun g : GSem nD τ sig => g.2) h)

theorem toks_disj1 : Disjoint scToks0 scToks1 := by
  rw [Finset.disjoint_left]
  intro t h₁ h₂
  obtain ⟨x, -, rfl⟩ := Finset.mem_map.mp h₁
  obtain ⟨y, -, h⟩ := Finset.mem_map.mp h₂
  exact sc0_sc1 x y (congrArg (fun t : GSem nD τ sig × ℕ × Fin 3 => t.1) h).symm
theorem toks_disj : Disjoint barToks (scToks0 ∪ scToks1) := by
  rw [Finset.disjoint_left]
  intro t h₁ h₂
  obtain ⟨x, -, rfl⟩ := Finset.mem_map.mp h₁
  rcases Finset.mem_union.mp h₂ with h₂ | h₂
  · obtain ⟨y, -, h⟩ := Finset.mem_map.mp h₂
    exact bar_sc0 x.1 y (congrArg (fun t : GSem nD τ sig × ℕ × Fin 3 => t.1) h).symm
  · obtain ⟨y, -, h⟩ := Finset.mem_map.mp h₂
    exact bar_sc1 x.1 y (congrArg (fun t : GSem nD τ sig × ℕ × Fin 3 => t.1) h).symm
theorem sc_disj : Disjoint scCells0 scCells1 := by
  rw [Finset.disjoint_left]
  intro t h₁ h₂
  obtain ⟨x, -, rfl⟩ := Finset.mem_map.mp h₁
  obtain ⟨y, -, h⟩ := Finset.mem_map.mp h₂
  exact sc0_sc1 x y h.symm
theorem cells_disj : Disjoint barCells scCells := by
  rw [Finset.disjoint_left]
  intro t h₁ h₂
  obtain ⟨x, -, rfl⟩ := Finset.mem_map.mp h₁
  rcases Finset.mem_union.mp h₂ with h₂ | h₂
  · obtain ⟨y, -, h⟩ := Finset.mem_map.mp h₂
    exact bar_sc0 x y h.symm
  · obtain ⟨y, -, h⟩ := Finset.mem_map.mp h₂
    exact bar_sc1 x y h.symm

def turn {n : ℕ} (κ : Fin n → Fin 3) : Dev nD × Fin n ≃ Dev nD × Fin n where
  toFun x := (dst x.1 (κ x.2), x.2)
  invFun x := (src x.1 (κ x.2), x.2)
  left_inv x := Prod.ext (src_dst _ _) rfl
  right_inv x := Prod.ext (dst_src _ _) rfl

/-- A family over every device and index, read one device on. -/
theorem around {n : ℕ} (κ : Fin n → Fin 3) (Ψ : Dev nD → Fin n → sProp 𝕄) :
    (bigSep Finset.univ fun c : Dev nD => bigSep Finset.univ fun i => Ψ c i) = bigSep Finset.univ fun c : Dev nD => bigSep Finset.univ fun i => Ψ (dst c (κ i)) i := by
  rw [← bigSep_univ_prod (fun x : Dev nD × Fin n => Ψ x.1 x.2), ← bigSep_univ_prod (fun x : Dev nD × Fin n => Ψ (dst x.1 (κ x.2)) x.2),
    bigSep_univ_equiv (turn κ) (fun x : Dev nD × Fin n => Ψ x.1 x.2)]
  rfl

theorem cells0 (c : Dev nD) (Φ : GSem nD τ sig → sProp 𝕄) :
    (bigSep Finset.univ fun k : Fin 7 => Φ ((c : Thread nD τ), osem0 k))
      ⊢ iprop((bigSep Finset.univ fun k : Fin 3 => Φ (S0 c k)) ∗ (bigSep Finset.univ fun k : Fin 3 => Φ (R0 c k)) ∗ Φ (C0 c)) := by
  rw [seven, bigSep_three, bigSep_three]
  show iprop(Φ (S0 c 0) ∗ Φ (S0 c 1) ∗ Φ (S0 c 2) ∗ Φ (R0 c 0) ∗ Φ (R0 c 1) ∗ Φ (R0 c 2) ∗ Φ (C0 c)) ⊢ _
  iintro ⟨H0, H1, H2, H3, H4, H5, H6⟩
  isplitl [H0 H1 H2]
  · isplitl [H0]; · iexact H0
    isplitl [H1]; · iexact H1
    iexact H2
  isplitl [H3 H4 H5]
  · isplitl [H3]; · iexact H3
    isplitl [H4]; · iexact H4
    iexact H5
  iexact H6

abbrev tk (x : GSem nD τ sig × ℕ × Fin 3) : sProp 𝕄 := dutyTok ER x.1 x.2.1 x.2.2

theorem deal0 : bigSep barToks (tk (F := F)) ⊢ iprop((bigSep Finset.univ fun c : Dev nD => bigSep Finset.univ fun k : Fin 3 => (dutyTok ER (B0 (dst c k)) 0 k : sProp 𝕄))
    ∗ bigSep Finset.univ fun c : Dev nD => bigSep Finset.univ fun k : Fin 3 => (dutyTok ER (B1 (dst c k)) 0 k : sProp 𝕄)) := by
  have two (Φ : Fin 2 → sProp 𝕄) : bigSep Finset.univ Φ = iprop(Φ 0 ∗ Φ 1) := BI.bigSep_fin_two Φ
  unfold barToks
  rw [bigSep_map, bigSep_univ_prod, bigSep_univ_prod, ← around (fun k => k) (fun c k => (dutyTok ER (B0 c) 0 k : sProp 𝕄)),
    ← around (fun k => k) (fun c k => (dutyTok ER (B1 c) 0 k : sProp 𝕄)), ← bigSep_sep']
  exact Entails.of_eq (bigSep_congr fun c _ => two _)
theorem deal1 : bigSep scToks0 (tk (F := F)) ⊢ iprop((bigSep Finset.univ fun c : Dev nD => bigSep Finset.univ fun k : Fin 3 => (dutyTok ER (S0 c k) 0 0 : sProp 𝕄))
    ∗ (bigSep Finset.univ fun c : Dev nD => bigSep Finset.univ fun k : Fin 3 => (dutyTok ER (R0 (dst c k) k) 0 0 : sProp 𝕄))
    ∗ bigSep Finset.univ fun c : Dev nD => (dutyTok ER (C0 c) 0 0 : sProp 𝕄)) := by
  unfold scToks0
  rw [bigSep_map, bigSep_univ_prod, ← around (fun k => k) (fun c k => (dutyTok ER (R0 c k) 0 0 : sProp 𝕄)), ← bigSep_sep', ← bigSep_sep']
  exact bigSep_mono fun c _ => cells0 c (fun g => (dutyTok ER g 0 0 : sProp 𝕄))
theorem deal2 : bigSep scToks1 (tk (F := F)) ⊢ iprop((bigSep Finset.univ fun c : Dev nD => bigSep Finset.univ fun i : Fin 24 => (dutyTok ER (Sd1 c i) 0 0 : sProp 𝕄))
    ∗ bigSep Finset.univ fun c : Dev nD => bigSep Finset.univ fun i : Fin 24 => (dutyTok ER (Rc1 (dst c (kk i)) i) 0 0 : sProp 𝕄)) := by
  unfold scToks1
  rw [bigSep_map, bigSep_univ_prod, ← around kk (fun c i => (dutyTok ER (Rc1 c i) 0 0 : sProp 𝕄)), ← bigSep_sep']
  exact Entails.of_eq (bigSep_congr fun c _ => cells1 c (fun g => (dutyTok ER g 0 0 : sProp 𝕄)))

theorem deal : bigSep talkToks (tk (F := F)) ⊢ iprop((bigSep Finset.univ fun c : Dev nD => tok0 (F := F) c) ∗ bigSep Finset.univ fun c : Dev nD => tok1 (F := F) c) := by
  have e : bigSep talkToks (tk (F := F)) = iprop(bigSep barToks (tk (F := F)) ∗ bigSep scToks0 (tk (F := F)) ∗ bigSep scToks1 (tk (F := F))) := by
    unfold talkToks; rw [BI.bigSep_union toks_disj, BI.bigSep_union toks_disj1]; rfl
  rw [e, show (fun c : Dev nD => tok0 (F := F) c) = fun c => iprop((((bigSep Finset.univ fun k : Fin 3 => (dutyTok ER (S0 c k) 0 0 : sProp 𝕄))
      ∗ (bigSep Finset.univ fun k : Fin 3 => (dutyTok ER (R0 (dst c k) k) 0 0 : sProp 𝕄)) ∗ bigSep Finset.univ fun k : Fin 3 => (dutyTok ER (B0 (dst c k)) 0 k : sProp 𝕄)))
      ∗ (dutyTok ER (C0 c) 0 0 : sProp 𝕄)) from funext fun c => by unfold tok0; rw [bigSep_sep', bigSep_sep'],
    show (fun c : Dev nD => tok1 (F := F) c) = fun c => iprop(((bigSep Finset.univ fun i : Fin 24 => (dutyTok ER (Sd1 c i) 0 0 : sProp 𝕄))
      ∗ bigSep Finset.univ fun i : Fin 24 => (dutyTok ER (Rc1 (dst c (kk i)) i) 0 0 : sProp 𝕄))
      ∗ bigSep Finset.univ fun k : Fin 3 => (dutyTok ER (B1 (dst c k)) 0 k : sProp 𝕄)) from funext fun c => by unfold tok1; rw [bigSep_sep'],
    bigSep_sep', bigSep_sep', bigSep_sep', bigSep_sep', bigSep_sep']
  iintro ⟨Hb, H0, H1⟩
  ihave Hb' := (deal0 (F := F)) $$ Hb
  icases Hb' with ⟨Hb0, Hb1⟩
  ihave H0' := (deal1 (F := F)) $$ H0
  icases H0' with ⟨HS, HR, HC⟩
  ihave H1' := (deal2 (F := F)) $$ H1
  icases H1' with ⟨HD, HE⟩
  isplitl [Hb0 HS HR HC]
  · isplitl [Hb0 HS HR]
    · isplitl [HS]; · iexact HS
      isplitl [HR]; · iexact HR
      iexact Hb0
    iexact HC
  isplitl [HD HE]
  · isplitl [HD]; · iexact HD
    iexact HE
  iexact Hb1

end Cert.KernelIdeal.A2A

end
-- ==== Proof.IdealWhole.lean ====
/- The run of the whole program. -/
module

public import proofs.«01_k».proof.Proof.IdealStart

@[expose] public section

set_option maxRecDepth 16384

noncomputable section

namespace Cert.KernelIdeal.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)
open Cert.KernelIdeal Cert.KernelIdeal.Gen

variable {F : FTy → Type} [FloatOps F]

local notation "𝕄" => MT nD τ sig Unit (Elt F) ℕ UU ℕ
variable (m : (ℓ : Loc nD τ sig) → Buf (Elt F) ℓ) (ρ : Dev nD → PrngReg)

/-! ## The launch -/

def u₀ : UU :=
  (initOf (Pipeline.cells (Pipeline.pin (pcfgs (F := F)) adm) cellOf_inj) (Pipeline.launchToks (Pipeline.pin (pcfgs (F := F)) adm) cellOf_inj),
    launchOf barCells scCells talkToks)

/-- The protocol's launch element, kept on the first device until it is dealt. -/
def kept : sProp 𝕄 := BI.own (ER (launchOf barCells scCells talkToks))
def G (c : Dev nD) : sProp 𝕄 := if c = 0 then kept else iprop(emp)
theorem all_G : bigSep Finset.univ (G (F := F)) = (BI.own (ER (launchOf barCells scCells talkToks)) : sProp 𝕄) := by
  show _ = kept (F := F)
  rw [bigSep_univ_at _ (0 : Dev nD), bigSep_congr (s := Finset.univ.erase 0) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

theorem bars (c : Dev nD) : (unscopedSems0 c : sProp 𝕄) = iprop(semVal (B0 c) 0 ∗ semVal (B1 c) 0) := by
  unfold unscopedSems0
  rw [show (Finset.univ.filter fun sm : SemLoc sig => ¬ sm.isScoped .tc) = {SemLoc.reg bar0, SemLoc.reg bar1} from by decide +kernel,
    BI.bigSep_insert (by decide), BI.bigSep_singleton]
  rfl

/-- What rides beside the buffers before the first call, between the two, and at the end. -/
def E (k : Fin 3) (c : Dev nD) : sProp 𝕄 := match k with
  | 0 => iprop((∃ r, prngReg c r) ∗ Tk0 m c ∗ Tk1 m c ∗ ∃ Wd, owes (c : Thread nD τ) (due c) Wd)
  | 1 => iprop((∃ r, prngReg c r) ∗ end0 c ∗ Tk1 m c ∗ ∃ Wd, owes (c : Thread nD τ) (due1 c) Wd)
  | 2 => iprop((end0 c ∗ end1 c) ∗ ∃ Wd, owes (c : Thread nD τ) (0 : CellTallies nD τ sig Unit) Wd)

def given (c : Dev nD) : sProp 𝕄 :=
  iprop((atPos ER (B0 c) 0 ∅ 0 ∗ atPos ER (B1 c) 0 ∅ 0)
    ∗ ((bigSep Finset.univ fun k : Fin 7 => shut (F := F) ((c : Thread nD τ), osem0 k)) ∗ bigSep Finset.univ fun k : Fin 48 => shut (F := F) ((c : Thread nD τ), osem1 k))
    ∗ tok0 (F := F) c ∗ tok1 (F := F) c)
def borne (c : Dev nD) : sProp 𝕄 :=
  iprop((crd0 (F := F) c ∗ crd1 (F := F) c) ∗ owes (c : Thread nD τ) (due c) ∅ ∗ ∃ r, prngReg c r)

theorem E_first (K : GSem nD τ sig → ℕ) (c : Dev nD) : iprop(recs (RC m) (YB m) K ∗ (given (F := F) c ∗ borne (F := F) c)) ⊢ E m 0 c := by
  unfold given borne E Tk0 Tk1
  iintro ⟨#HR, ⟨⟨HB0, HB1⟩, ⟨H7, H48⟩, Ht0, Ht1⟩, ⟨⟨Hc0, Hc1⟩, HO, Hp⟩⟩
  isplitl [Hp]; · iexact Hp
  isplitl [HB0 H7 Ht0 Hc0]
  · iexists K
    isplitr; · iexact HR
    isplitl [HB0]; · iexact HB0
    isplitl [H7]; · iexact H7
    isplitl [Ht0]; · iexact Ht0
    iexact Hc0
  isplitl [HB1 H48 Ht1 Hc1]
  · iexists K
    isplitr; · iexact HR
    isplitl [HB1]; · iexact HB1
    isplitl [H48]; · iexact H48
    isplitl [Ht1]; · iexact Ht1
    iexact Hc1
  iexists ∅; iexact HO

theorem bars_dev (Φ : GSem nD τ sig → sProp 𝕄) : bigSep barCells Φ = bigSep Finset.univ fun c : Dev nD => iprop(Φ (B0 c) ∗ Φ (B1 c)) := by
  have two (Ψ : Fin 2 → sProp 𝕄) : bigSep Finset.univ Ψ = iprop(Ψ 0 ∗ Ψ 1) := BI.bigSep_fin_two Ψ
  unfold barCells
  rw [bigSep_map, bigSep_univ_prod]
  exact bigSep_congr fun c _ => two _
theorem scs_dev (Φ : GSem nD τ sig → sProp 𝕄) : bigSep scCells Φ = bigSep Finset.univ fun c : Dev nD =>
    iprop((bigSep Finset.univ fun k : Fin 7 => Φ ((c : Thread nD τ), osem0 k)) ∗ bigSep Finset.univ fun k : Fin 48 => Φ ((c : Thread nD τ), osem1 k)) := by
  have h : bigSep scCells Φ = iprop(bigSep scCells0 Φ ∗ bigSep scCells1 Φ) := BI.bigSep_union sc_disj
  rw [h, bigSep_sep']
  unfold scCells0 scCells1
  rw [bigSep_map, bigSep_univ_prod, bigSep_map, bigSep_univ_prod]
  rfl

theorem unpair {I : Type} {s : Finset I} {Φ Ψ : I → sProp 𝕄} : (bigSep s fun i => iprop(Φ i ∗ Ψ i)) ⊢ iprop(bigSep s Φ ∗ bigSep s Ψ) :=
  Entails.of_eq (bigSep_sep' s Φ Ψ)
theorem paired {I : Type} {s : Finset I} {Φ Ψ : I → sProp 𝕄} : iprop(bigSep s Φ ∗ bigSep s Ψ) ⊢ (bigSep s fun i => iprop(Φ i ∗ Ψ i)) :=
  Entails.of_eq (bigSep_sep' s Φ Ψ).symm

theorem init :
    iprop((bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G (F := F) c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hcore (c : Dev nD) : iprop(unscopedBufs c (fun b => m ((c : Thread nD τ).loc b)) ∗ unscopedSems0 c
        ∗ owes (c : Thread nD τ) (due c) ∅ ∗ Pipeline.launchCred due c ∗ prngReg c (ρ c) ∗ G (F := F) c)
      ⊢ (iprop((StableHlo.held (c : Thread nD τ) (Pipeline.ucRefs τ sig) (V0 m c) ∗ borne (F := F) c) ∗ (iprop(semVal (B0 c) 0 ∗ semVal (B1 c) 0) ∗ G (F := F) c)) : sProp 𝕄) := by
    rw [show unscopedBufs c (fun b => m ((c : Thread nD τ).loc b)) = StableHlo.held (c : Thread nD τ) (Pipeline.ucRefs τ sig) (V0 m c) from Pipeline.unscopedBufs_held c (V0 m c),
      bars]
    unfold borne
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  iintro ⟨H, #Hla⟩
  ihave H' := (show (bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G (F := F) c))
      ⊢ (bigSep Finset.univ fun c : Dev nD => iprop((StableHlo.held (c : Thread nD τ) (Pipeline.ucRefs τ sig) (V0 m c) ∗ borne (F := F) c)
          ∗ (iprop(semVal (B0 c) 0 ∗ semVal (B1 c) 0) ∗ G (F := F) c)) : sProp 𝕄) from bigSep_mono fun c _ => hcore c) $$ H
  ihave H2 := unpair $$ H'; icases H2 with ⟨HB, H3⟩
  ihave H4 := unpair $$ H3; icases H4 with ⟨Hv, HG⟩
  ihave H5 := unpair $$ HB; icases H5 with ⟨Hh, HB⟩
  ihave Hu := (Entails.of_eq (all_G (F := F))) $$ HG
  imod (Rounds.fund_launch ER (talkRd (RC m) (YB m)) cells_disj (fun g _ h => h) talkToks) $$ [Hv Hu] with ⟨%κ, -, #Hinv, #Hr, Hat, Hopen, Htok⟩
  · isplitl [Hv]
    · iapply (Entails.of_eq (bars_dev (F := F) (fun g => semVal g 0)).symm) $$ Hv
    · iexact Hu
  imodintro
  iapply paired
  isplitl [Hh]; · iexact Hh
  iapply (bigSep_with_persistent (R := recs (RC m) (YB m) κ) (Φ := fun c => iprop(given (F := F) c ∗ borne (F := F) c)) fun c _ => E_first m κ c)
  isplitr
  · unfold recs
    isplitr; · iexact Hinv
    isplitr; · iexact Hr
    iexact Hla
  iapply paired
  isplitr [HB]
  · unfold given
    iapply paired; isplitl [Hat]; · iapply (Entails.of_eq (bars_dev (F := F) (fun g => atPos ER g 0 ∅ 0))) $$ Hat
    iapply paired; isplitl [Hopen]; · iapply (Entails.of_eq (scs_dev (F := F) (fun g => openTok ER g))) $$ Hopen
    iapply paired
    iapply (deal (F := F)) $$ Htok
  · iexact HB

/-! ## From segment to segment -/

theorem at_pre0 [∀ e, Nonempty (Elt F e)] (c : Dev nD) :
    iprop(StableHlo.held (c : Thread nD τ) (Pipeline.ucRefs τ sig) (B9 m c) ∗ E m 0 c) ⊢ (reg0 m).pre c := by
  show _ ⊢ iprop(StableHlo.held (c : Thread nD τ) (Pipeline.arrRefs spec0) (B9 m c) ∗ (∃ r, prngReg c r)
    ∗ (StableHlo.held (c : Thread nD τ) rest0 (B9 m c) ∗ Tk1 m c) ∗ Tk0 m c ∗ ∃ Wd, owes (c : Thread nD τ) (due1 c + due0 c) Wd)
  rw [StableHlo.held_sub_split (c : Thread nD τ) (Pipeline.arrRefs_sub_ucRefs spec0 (by decide)) (B9 m c)]
  show iprop((StableHlo.held (c : Thread nD τ) (Pipeline.arrRefs spec0) (B9 m c) ∗ StableHlo.held (c : Thread nD τ) rest0 (B9 m c))
    ∗ (∃ r, prngReg c r) ∗ Tk0 m c ∗ Tk1 m c ∗ ∃ Wd, owes (c : Thread nD τ) (due1 c + due0 c) Wd) ⊢ _
  iintro ⟨⟨Ha, Hr⟩, Hp, H0, H1, HO⟩
  isplitl [Ha]; · iexact Ha
  isplitl [Hp]; · iexact Hp
  isplitl [Hr H1]
  · isplitl [Hr]; · iexact Hr
    iexact H1
  isplitl [H0]; · iexact H0
  iexact HO
theorem at_post0 [∀ e, Nonempty (Elt F e)] (c : Dev nD) :
    (reg0 m).post c ⊢ iprop(StableHlo.held (c : Thread nD τ) (Pipeline.ucRefs τ sig) (U10 m c) ∗ E m 1 c) := by
  show iprop(StableHlo.held (c : Thread nD τ) (Pipeline.arrRefs spec0) (U10 m c) ∗ (∃ r, prngReg c r)
    ∗ (StableHlo.held (c : Thread nD τ) rest0 (U10 m c) ∗ Tk1 m c) ∗ end0 c ∗ ∃ Wd, owes (c : Thread nD τ) (due1 c) Wd) ⊢ _
  rw [StableHlo.held_sub_split (c : Thread nD τ) (Pipeline.arrRefs_sub_ucRefs spec0 (by decide)) (U10 m c)]
  show _ ⊢ iprop((StableHlo.held (c : Thread nD τ) (Pipeline.arrRefs spec0) (U10 m c) ∗ StableHlo.held (c : Thread nD τ) rest0 (U10 m c))
    ∗ (∃ r, prngReg c r) ∗ end0 c ∗ Tk1 m c ∗ ∃ Wd, owes (c : Thread nD τ) (due1 c) Wd)
  iintro ⟨Ha, Hp, ⟨Hr, H1⟩, H0, HO⟩
  isplitl [Ha Hr]
  · isplitl [Ha]; · iexact Ha
    iexact Hr
  isplitl [Hp]; · iexact Hp
  isplitl [H0]; · iexact H0
  isplitl [H1]; · iexact H1
  iexact HO
theorem at_pre1 [∀ e, Nonempty (Elt F e)] (c : Dev nD) :
    iprop(StableHlo.held (c : Thread nD τ) (Pipeline.ucRefs τ sig) (B11 m c) ∗ E m 1 c) ⊢ (reg1 m).pre c := by
  show _ ⊢ iprop(StableHlo.held (c : Thread nD τ) (Pipeline.arrRefs spec1) (B11 m c) ∗ (∃ r, prngReg c r)
    ∗ (StableHlo.held (c : Thread nD τ) rest1 (B11 m c) ∗ end0 c) ∗ Tk1 m c ∗ ∃ Wd, owes (c : Thread nD τ) (0 + due1 c) Wd)
  rw [StableHlo.held_sub_split (c : Thread nD τ) (Pipeline.arrRefs_sub_ucRefs spec1 (by decide)) (B11 m c), zero_add]
  show iprop((StableHlo.held (c : Thread nD τ) (Pipeline.arrRefs spec1) (B11 m c) ∗ StableHlo.held (c : Thread nD τ) rest1 (B11 m c))
    ∗ (∃ r, prngReg c r) ∗ end0 c ∗ Tk1 m c ∗ ∃ Wd, owes (c : Thread nD τ) (due1 c) Wd) ⊢ _
  iintro ⟨⟨Ha, Hr⟩, Hp, H0, H1, HO⟩
  isplitl [Ha]; · iexact Ha
  isplitl [Hp]; · iexact Hp
  isplitl [Hr H0]
  · isplitl [Hr]; · iexact Hr
    iexact H0
  isplitl [H1]; · iexact H1
  iexact HO
theorem at_post1 [∀ e, Nonempty (Elt F e)] (c : Dev nD) :
    (reg1 m).post c ⊢ iprop(StableHlo.held (c : Thread nD τ) (Pipeline.ucRefs τ sig) (U12 m c) ∗ E m 2 c) := by
  show iprop(StableHlo.held (c : Thread nD τ) (Pipeline.arrRefs spec1) (U12 m c) ∗ (∃ r, prngReg c r)
    ∗ (StableHlo.held (c : Thread nD τ) rest1 (U12 m c) ∗ end0 c) ∗ end1 c ∗ ∃ Wd, owes (c : Thread nD τ) (0 : CellTallies nD τ sig Unit) Wd) ⊢ _
  rw [StableHlo.held_sub_split (c : Thread nD τ) (Pipeline.arrRefs_sub_ucRefs spec1 (by decide)) (U12 m c)]
  show _ ⊢ iprop((StableHlo.held (c : Thread nD τ) (Pipeline.arrRefs spec1) (U12 m c) ∗ StableHlo.held (c : Thread nD τ) rest1 (U12 m c))
    ∗ (end0 c ∗ end1 c) ∗ ∃ Wd, owes (c : Thread nD τ) (0 : CellTallies nD τ sig Unit) Wd)
  iintro ⟨Ha, -, ⟨Hr, H0⟩, H1, HO⟩
  isplitl [Ha Hr]
  · isplitl [Ha]; · iexact Ha
    iexact Hr
  isplitl [H0 H1]
  · isplitl [H0]; · iexact H0
    iexact H1
  iexact HO

/-! ## The run -/

def outs : Outs (F := F) := fun J r c => if J = 10 then U10 m c (Proc.devRef .tc r) else U12 m c (Proc.devRef .tc r)

theorem V10_U10 (c : Dev nD) : V10 m (outs m) c = U10 m c := by
  show Function.update (B9 m c) main_v38 (outs m 10 main_v38 c) = _
  rw [show outs m 10 main_v38 c = RC m c from U10_v38 m c]
  rfl
theorem V11_B11 (c : Dev nD) : V11 m (outs m) c = B11 m c := by
  show StableHlo.after hostOps1 (V10 m (outs m) c) = _
  rw [V10_U10]; rfl
theorem V12_U12 (c : Dev nD) : V12 m (outs m) c = U12 m c := by
  show Function.update (V11 m (outs m) c) main_v41 (outs m 12 main_v41 c) = _
  rw [V11_B11, show outs m 12 main_v41 c = (dat1 m c).arrAt 5 cfg1.N from Function.update_self (Proc.devRef (τ := τ) .tc main_v41) _ (B11 m c)]
  rfl

theorem unscoped_eq : ∀ sm : SemLoc sig, sm.isScoped .tc = false → sm = .reg bar0 ∨ sm = .reg bar1 := by decide +kernel

theorem arg_same (c : Dev nD) : U12 m c main_arg0 = m ((c : Thread nD τ).loc main_arg0) ∧ U12 m c main_arg1 = m ((c : Thread nD τ).loc main_arg1)
    ∧ U12 m c main_arg2 = m ((c : Thread nD τ).loc main_arg2) ∧ U12 m c main_arg3 = m ((c : Thread nD τ).loc main_arg3)
    ∧ U12 m c main_arg4 = m ((c : Thread nD τ).loc main_arg4) := by
  rw [← V12_U12]
  exact ⟨V12_main_arg0 m _ c, V12_main_arg1 m _ c, V12_main_arg2 m _ c, V12_main_arg3 m _ c, V12_main_arg4 m _ c⟩

set_option maxHeartbeats 1000000 in
set_option backward.isDefEq.respectTransparency.types false in
/-- From any memory with zero counters every fair run ends; every device then holds what `U12` says, and every counter is zero. -/
theorem run_main [∀ e, Nonempty (Elt F e)] : θ_run defs (onTc (τ := τ) (main (F := F))) ⟨m, fun _ => 0, ρ⟩
    (fun r => (∀ c : Dev nD, ∀ b ∈ Pipeline.ucRefs τ sig, r.2.mem ((c : Thread nD τ).1, b) = U12 m c b) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (reg0 m) (reg1 m))
    (fun c Q => by
      rewrite [main_chain c, Seg.run_eq_chain,
        show (segs m (outs m) 𝒱₀ L lv (E m) () (pdats m) (reg0 m) (reg1 m) c).map Seg.prog = [
          StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8,
          Prog.lift (.customCall (Pipeline.entry 0) ()), StableHlo.seq hostOps1, Prog.lift (.customCall (Pipeline.entry 1) ()) ] from rfl]
      dsimp (config := { failIfUnchanged := false }) only
      exact .rfl)
    (fun c => by simp only [segs, Seg.pipes_host, Seg.pipes_region, Seg.pipes_nil]; decide)
    due L_of_ne (G (F := F)) (u₀ (F := F))
    (by
      unfold u₀
      iintro Hu
      ihave H := (ownU_pair _ _) $$ Hu
      icases H with ⟨HP, HX⟩
      imodintro
      isplitl [HP]; · iexact HP
      rw [all_G]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (U12 m c) ∗ semVal (B0 c) 0 ∗ semVal (B1 c) 0))
    (hch := fun c => ⟨.rfl, .rfl, .rfl, .rfl, .rfl, .rfl, .rfl, .rfl, .rfl, at_pre0 m c,
      (at_post0 m c).trans (by rw [← V10_U10]; exact .rfl),
      (show _ ⊢ iprop(StableHlo.held (c : Thread nD τ) (Pipeline.ucRefs τ sig) (B11 m c) ∗ E m 1 c) by rw [← V11_B11]; exact .rfl).trans (at_pre1 m c),
      (at_post1 m c).trans (by
        show iprop(StableHlo.held (c : Thread nD τ) (Pipeline.ucRefs τ sig) (U12 m c) ∗ (semVal (B0 c) 0 ∗ semVal (B1 c) 0)
          ∗ ∃ Wd, owes (c : Thread nD τ) (0 : CellTallies nD τ sig Unit) Wd) ⊢ _
        iintro ⟨Hh, Hb, HO⟩
        isplitr [HO]
        · isplitl [Hh]; · iexact Hh
          iexact Hb
        iexact HO)⟩)
    (hinit := init m ρ)
    (QY := fun c s => (∀ b ∈ Pipeline.ucRefs τ sig, s.mem ((c : Thread nD τ).1, b) = U12 m c b) ∧ s.sem (B0 c) = 0 ∧ s.sem (B1 c) = 0)
    (hfin := fun c s' => by
      unfold StableHlo.held
      iintro ⟨⟨Hh, Hb0, Hb1⟩, HSI⟩
      icombine HSI Hb0 gives %hb0
      icombine HSI Hb1 gives %hb1
      ihave Hr := (pointsTo_read_all (Pipeline.ucRefs τ sig) (fun b => ((c : Thread nD τ).1, b)) (U12 m c) s') $$ [Hh HSI]
      · isplitl [Hh]; · iexact Hh
        iexact HSI
      icases Hr with ⟨%h, HSI⟩
      imodintro
      isplitr
      · ipureintro
        exact ⟨h, by simpa using hb0, by simpa using hb1⟩
      iexact HSI)
    (hQ := fun s h hs => ⟨fun c => (h c).1, sem_eq_zero hs fun c sm hsm => by
      rcases unscoped_eq sm hsm with rfl | rfl
      · exact (h c).2.1
      · exact (h c).2.2⟩)

end Cert.KernelIdeal.A2A

end
-- ==== Proof.IdealHost.lean ====
/- What the operations before the calls write, as terms of a device's arguments. -/
module

public import proofs.«01_k».proof.Proof.IdealVals
public import Idealize.ShloMosaic.Lib.StableHlo

@[expose] public section

set_option maxRecDepth 16384

noncomputable section

namespace Cert.KernelIdeal.A2A

open Idealize.ShloMosaic Idealize.ShloMosaic.TcCoe
open Idealize.ShloMosaic.StableHlo
open Cert.KernelIdeal Cert.KernelIdeal.Gen

variable {F : FTy → Type} [FloatOps F]

/-- The router's probabilities, from the scores. -/
def hProbs (s : FVec F S2048x32 .f32) : FVec F S2048x32 .f32 :=
  let e := Host.exp (subf s (broadcastInDim S2048x32 ![0, 1] bcast_S2048x1_S2048x32_0_1 (broadcastInDim S2048x1 ![0] bcast_S2048_S2048x1_0
    (maximumf (broadcastInDim S2048 ![] bcast_S_S2048 (constant S_ .f32 0xFF800000#32))
      (Host.reduce FloatOps.maximumf s (constant S_ .f32 0xFF800000#32) reducesTo_S2048x32_S2048_d1 h_S_)))))
  Host.divf e (broadcastInDim S2048x32 ![0, 1] bcast_S2048x1_S2048x32_0_1 (broadcastInDim S2048x1 ![0] bcast_S2048_S2048x1_0
    (Host.reduceAdd e (constant S_ .f32 0x00000000#32) reducesTo_S2048x32_S2048_d1 h_S_)))

/-- The router's scores. -/
def hScores (x : FVec F S2048x512 .f32) (w : FVec F S512x32 .f32) : FVec F S2048x32 .f32 :=
  Host.dotGeneral dot_S2048x512_S512x32_S2048x32_1_0_0_1_n_n none x w

/-- Which expert is each token's. -/
def hMask (i : IVec S2048x1 32) : IVec S2048x32 1 :=
  cmpi .eq (broadcastInDim S2048x32 ![0, 1] bcast_S2048x1_S2048x32_0_1 i)
    (broadcastInDim S2048x32 ![0, 1] bcast_S1x32_S2048x32_0_1 (broadcastInDim S1x32 ![1] bcast_S32_S1x32_1 (iotaInDim S32 32 0)))

/-- Each token's weight. -/
def hSel (k : IVec S2048x32 1) (p : FVec F S2048x32 .f32) : FVec F S2048 .f32 :=
  Host.reduceAdd (select k p (broadcastInDim S2048x32 ![] bcast_S_S2048x32 (constant S_ .f32 0x00000000#32)))
    (constant S_ .f32 0x00000000#32) reducesTo_S2048x32_S2048_d1 h_S_

/-- The running counts of the tokens of each expert. -/
def hCum (k : IVec S2048x32 1) : IVec S2048x32 32 :=
  Host.reduceWindow IntOp.addi ![2048, 1] ![1, 1] ![2047, 0] ![0, 0] (extui 32 k natLt_1_32)
    (broadcastInDim S_ ![] bcast_S_S_ (constantI S_ 32 0#32)) reduceWindows_S2048x32_S2048x32_w2048s1p2047_0_w1s1p0_0 h_S_

/-- Each token's place among its expert's. -/
def hPos (k : IVec S2048x32 1) : IVec S2048 32 :=
  Host.reduce IntOp.addi (select k (subi (hCum k) (broadcastInDim S2048x32 ![] bcast_S_S2048x32 (constantI S_ 32 1#32)))
      (broadcastInDim S2048x32 ![] bcast_S_S2048x32 (constantI S_ 32 0#32)))
    (constantI S_ 32 0#32) reducesTo_S2048x32_S2048_d1 h_S_

/-- Each token's slot. -/
def hSlot (i : IVec S2048x1 32) : IVec S2048 32 :=
  select (cmpi .slt (hPos (hMask i)) (broadcastInDim S2048 ![] bcast_S_S2048 (constantI S_ 32 160#32)))
    (addi (muli (shapeCast S2048 i shapeCasts_S2048x1_S2048) (broadcastInDim S2048 ![] bcast_S_S2048 (constantI S_ 32 160#32))) (hPos (hMask i)))
    (broadcastInDim S2048 ![] bcast_S_S2048 (constantI S_ 32 4294967295#32))

/-- The tokens by their weights. -/
def hXs (x : FVec F S2048x512 .f32) (w : FVec F S2048 .f32) : FVec F S2048x512 .bf16 :=
  truncf .bf16 (mulf x (broadcastInDim S2048x512 ![0, 1] bcast_S2048x1_S2048x512_0_1 (broadcastInDim S2048x1 ![0] bcast_S2048_S2048x1_0 w))) bitsLt_bf16_f32

variable (m : (ℓ : Loc nD τ sig) → Buf (Elt F) ℓ) (c : Dev nD)

/-- A device's arguments. -/
abbrev g0 : FVec F S2048x512 .f32 := m ((c.tc : Thread nD τ).loc main_arg0)
abbrev g1 : FVec F S512x32 .f32 := m ((c.tc : Thread nD τ).loc main_arg1)
abbrev g2 : IVec S2048x1 32 := m ((c.tc : Thread nD τ).loc main_arg2)
abbrev g3 : FVec F S8x512x1024 .f32 := m ((c.tc : Thread nD τ).loc main_arg3)
abbrev g4 : FVec F S512x1024 .f32 := m ((c.tc : Thread nD τ).loc main_arg4)

theorem V1_v12 : V1 m c main_v12 = hProbs (hScores (g0 m c) (g1 m c)) := by
  simp only [V1, hostOps0]
  after_results_simp <;> rfl
theorem V1_v17 : V1 m c main_v17 = hMask (g2 m c) := by
  simp only [V1, hostOps0]
  after_results_simp <;> rfl
theorem V1_cst2 : V1 m c main_cst_2 = constant S_ .f32 0x00000000#32 := by
  simp only [V1, hostOps0]
  after_results_simp <;> rfl
theorem V2_v18 : V2 m c main_v18 = select (V1 m c main_v17) (V1 m c main_v12) (broadcastInDim S2048x32 ![] bcast_S_S2048x32 (V1 m c main_cst_2)) := by
  simp only [V2, hostOps0_1, TRef.binary, TRef.nullary, TRef.reshape, TRef.ternary, TRef.unary, TRef.toBuf, TRef.ofBuf, cast_eq]
  after_results_simp <;> rfl
theorem V3_v19 : V3 m c main_v19 = Host.reduceAdd (V2 m c main_v18) (constant S_ .f32 0x00000000#32) reducesTo_S2048x32_S2048_d1 h_S_ := by
  simp only [V3, hostOps0_2]
  after_results_simp <;> rfl
theorem V3_v20 : V3 m c main_v20 = extui 32 (V2 m c main_v17) natLt_1_32 := by
  simp only [V3, hostOps0_2]
  after_results_simp <;> rfl
theorem V4_v21 : V4 m c main_v21 = Host.reduceWindow IntOp.addi ![2048, 1] ![1, 1] ![2047, 0] ![0, 0] (V3 m c main_v20)
    (broadcastInDim S_ ![] bcast_S_S_ (constantI S_ 32 0#32)) reduceWindows_S2048x32_S2048x32_w2048s1p2047_0_w1s1p0_0 h_S_ := by
  simp only [V4, hostOps0_3, TRef.binary, TRef.nullary, TRef.reshape, TRef.ternary, TRef.unary, TRef.toBuf, TRef.ofBuf, cast_eq]
  after_results_simp <;> rfl
theorem V5_v23 : V5 m c main_v23 = subi (V4 m c main_v21) (broadcastInDim S2048x32 ![] bcast_S_S2048x32 (constantI S_ 32 1#32)) := by
  simp only [V5, hostOps0_4]
  after_results_simp <;> rfl
theorem V5_c4 : V5 m c main_c_4 = constantI S_ 32 0#32 := by
  simp only [V5, hostOps0_4]
  after_results_simp <;> rfl
theorem V6_v24 : V6 m c main_v24 = select (V5 m c main_v17) (V5 m c main_v23) (broadcastInDim S2048x32 ![] bcast_S_S2048x32 (V5 m c main_c_4)) := by
  simp only [V6, hostOps0_5, TRef.binary, TRef.nullary, TRef.reshape, TRef.ternary, TRef.unary, TRef.toBuf, TRef.ofBuf, cast_eq]
  after_results_simp <;> rfl
theorem V7_v25 : V7 m c main_v25 = Host.reduce IntOp.addi (V6 m c main_v24) (constantI S_ 32 0#32) reducesTo_S2048x32_S2048_d1 h_S_ := by
  simp only [V7, hostOps0_6]
  after_results_simp <;> rfl
theorem V7_v28 : V7 m c main_v28 = cmpi .slt (Host.reduce IntOp.addi (V6 m c main_v24) (constantI S_ 32 0#32) reducesTo_S2048x32_S2048_d1 h_S_)
    (broadcastInDim S2048 ![] bcast_S_S2048 (constantI S_ 32 160#32)) := by
  simp only [V7, hostOps0_6]
  after_results_simp <;> rfl
theorem V7_v31 : V7 m c main_v31 = addi (muli (shapeCast S2048 (V6 m c main_arg2) shapeCasts_S2048x1_S2048) (broadcastInDim S2048 ![] bcast_S_S2048 (constantI S_ 32 160#32)))
    (Host.reduce IntOp.addi (V6 m c main_v24) (constantI S_ 32 0#32) reducesTo_S2048x32_S2048_d1 h_S_) := by
  simp only [V7, hostOps0_6]
  after_results_simp <;> rfl
theorem V7_c8 : V7 m c main_c_8 = constantI S_ 32 4294967295#32 := by
  simp only [V7, hostOps0_6]
  after_results_simp <;> rfl
theorem V8_v32 : V8 m c main_v32 = select (V7 m c main_v28) (V7 m c main_v31) (broadcastInDim S2048 ![] bcast_S_S2048 (V7 m c main_c_8)) := by
  simp only [V8, hostOps0_7, TRef.binary, TRef.nullary, TRef.reshape, TRef.ternary, TRef.unary, TRef.toBuf, TRef.ofBuf, cast_eq]
  after_results_simp <;> rfl
theorem V9_v36 : V9 m c main_v36 = hXs (V8 m c main_arg0) (V8 m c main_v19) := by
  simp only [V9, hostOps0_8]
  after_results_simp <;> rfl
theorem V9_v37 : V9 m c main_v37 = shapeCast S1x2048 (V8 m c main_v32) shapeCasts_S2048_S1x2048 := by
  simp only [V9, hostOps0_8]
  after_results_simp <;> rfl

theorem V6_arg2 : V6 m c main_arg2 = g2 m c :=
  (V6_of m c main_arg2 (by decide)).trans <| (V5_of m c main_arg2 (by decide)).trans <| (V4_of m c main_arg2 (by decide)).trans <|
  (V3_of m c main_arg2 (by decide)).trans <| (V2_of m c main_arg2 (by decide)).trans <| (V1_of m c main_arg2 (by decide))
theorem V8_arg0 : V8 m c main_arg0 = g0 m c :=
  (V8_of m c main_arg0 (by decide)).trans <| (V7_of m c main_arg0 (by decide)).trans <|
  (V6_of m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide))
theorem V8_v19 : V8 m c main_v19 = V3 m c main_v19 :=
  (V8_of m c main_v19 (by decide)).trans <| (V7_of m c main_v19 (by decide)).trans <|
  (V6_of m c main_v19 (by decide)).trans <| (V5_of m c main_v19 (by decide)).trans <| (V4_of m c main_v19 (by decide))
theorem V5_v17 : V5 m c main_v17 = hMask (g2 m c) :=
  (V5_of m c main_v17 (by decide)).trans <| (V4_of m c main_v17 (by decide)).trans <|
  (V3_of m c main_v17 (by decide)).trans <| (V2_of m c main_v17 (by decide)).trans <| V1_v17 m c
theorem V2_v17 : V2 m c main_v17 = hMask (g2 m c) := (V2_of m c main_v17 (by decide)).trans <| V1_v17 m c

/-- Each token's weight, of the arguments. -/
def hW : FVec F S2048 .f32 := hSel (hMask (g2 m c)) (hProbs (hScores (g0 m c) (g1 m c)))

theorem V3_w : V3 m c main_v19 = hW m c := by
  rw [V3_v19, V2_v18, V1_v12, V1_v17, V1_cst2]; rfl

theorem V8_slot : V8 m c main_v32 = hSlot (g2 m c) := by
  rw [V8_v32, V7_v28, V7_v31, V7_c8, V6_v24, V5_c4, V5_v23, V4_v21, V3_v20, V5_v17, V2_v17, V6_arg2]; rfl

theorem V9_xs : V9 m c main_v36 = hXs (g0 m c) (hW m c) := by
  rw [V9_v36, V8_v19, V3_w, V8_arg0]
theorem V9_slot : V9 m c main_v37 = shapeCast S1x2048 (hSlot (g2 m c)) shapeCasts_S2048_S1x2048 := by
  rw [V9_v37, V8_slot]

end Cert.KernelIdeal.A2A
-- ==== Proof.Moe.lean ====
/- The router's weights, and the places tokens take among their expert's. -/
module

public import Idealize.ShloMosaic.PureOps.Ideal
public import Idealize.ShloMosaic.PureOps.Ideal.Laws
public import Idealize.ShloMosaic.Lib.ValueIdx
public import Idealize.ShloMosaic.Lib.IdealHost

@[expose] public section

noncomputable section

namespace Cert.Moe

open Idealize.ShloMosaic
open scoped BigOperators

/-! ## Weights -/

/-- The largest of a token's scores. -/
def rowMax (s : Fin 32 → EReal) : EReal := Finset.univ.fold max ⊥ s

/-- A token's weight for an expert. -/
def prob (s : Fin 32 → EReal) (e : Fin 32) : EReal :=
  Ideal.div (Ideal.exp (s e - rowMax s)) (∑ j, Ideal.exp (s j - rowMax s))

/-- A value that is neither infinity. -/
def Fin' (x : EReal) : Prop := x ≠ ⊤ ∧ x ≠ ⊥

theorem fin_coe (r : ℝ) : Fin' (r : EReal) := ⟨EReal.coe_ne_top r, EReal.coe_ne_bot r⟩
theorem fin_lift {x : EReal} (h : Fin' x) : ∃ r : ℝ, x = (r : EReal) := ⟨x.toReal, (EReal.coe_toReal h.1 h.2).symm⟩

theorem fin_sum {ι : Type} (S : Finset ι) (f : ι → EReal) (h : ∀ i, Fin' (f i)) : Fin' (∑ i ∈ S, f i) := by
  choose g hg using fun i => fin_lift (h i)
  have : ∑ i ∈ S, f i = ((∑ i ∈ S, g i : ℝ) : EReal) := by
    rw [Finset.sum_congr rfl fun i _ => hg i]
    exact (map_sum (⟨⟨fun r : ℝ => (r : EReal), EReal.coe_zero⟩, EReal.coe_add⟩ : ℝ →+ EReal) g S).symm
  rw [this]
  exact fin_coe _

theorem fin_mul {x y : EReal} (hx : Fin' x) (hy : Fin' y) : Fin' (x * y) := by
  obtain ⟨a, rfl⟩ := fin_lift hx
  obtain ⟨b, rfl⟩ := fin_lift hy
  rw [← EReal.coe_mul]
  exact fin_coe _

theorem fin_rowMax (s : Fin 32 → EReal) (h : ∀ e, Fin' (s e)) : Fin' (rowMax s) := by
  unfold rowMax
  have key : ∀ S : Finset (Fin 32), S.fold max ⊥ s = ⊥ ∧ S = ∅ ∨ Fin' (S.fold max ⊥ s) := by
    intro S
    induction S using Finset.cons_induction with
    | empty => exact .inl ⟨rfl, rfl⟩
    | cons a S ha ih =>
      right
      rw [Finset.fold_cons]
      rcases ih with ⟨h0, _⟩ | h0
      · rw [h0, max_eq_left bot_le]; exact h a
      · rcases max_choice (s a) (S.fold max ⊥ s) with e | e <;> rw [e]
        · exact h a
        · exact h0
  rcases key Finset.univ with ⟨_, h0⟩ | h0
  · exact absurd h0 (Finset.univ_nonempty.ne_empty)
  · exact h0

/-- A weight of finite scores is a nonnegative number. -/
theorem prob_ok (s : Fin 32 → EReal) (h : ∀ e, Fin' (s e)) (e : Fin 32) : 0 ≤ prob s e ∧ prob s e ≠ ⊤ := by
  obtain ⟨M, hM⟩ := fin_lift (fin_rowMax s h)
  choose g hg using fun i => fin_lift (h i)
  have hexp : ∀ j, Ideal.exp (s j - rowMax s) = ((Real.exp (g j - M) : ℝ) : EReal) := by
    intro j
    rw [hM, hg j, ← EReal.coe_sub]
    rfl
  have hsum : ∑ j, Ideal.exp (s j - rowMax s) = ((∑ j, Real.exp (g j - M) : ℝ) : EReal) := by
    rw [Finset.sum_congr rfl fun j _ => hexp j]
    exact (map_sum (⟨⟨fun r : ℝ => (r : EReal), EReal.coe_zero⟩, EReal.coe_add⟩ : ℝ →+ EReal) _ _).symm
  have hpos : 0 < ∑ j : Fin 32, Real.exp (g j - M) := Finset.sum_pos (fun j _ => Real.exp_pos _) Finset.univ_nonempty
  have hne : ((∑ j, Real.exp (g j - M) : ℝ) : EReal) ≠ 0 := by
    rw [← EReal.coe_zero]
    exact fun e => hpos.ne' (EReal.coe_injective e)
  have : prob s e = ((Real.exp (g e - M) * (∑ j, Real.exp (g j - M))⁻¹ : ℝ) : EReal) := by
    unfold prob Ideal.div
    rw [hexp, hsum, if_neg hne, EReal.coe_mul, EReal.coe_inv]
  rw [this]
  refine ⟨?_, EReal.coe_ne_top _⟩
  rw [← EReal.coe_zero, EReal.coe_le_coe_iff]
  exact mul_nonneg (Real.exp_pos _).le (inv_nonneg.mpr hpos.le)

/-- A nonnegative number goes through a sum of products. -/
theorem scale_sum {ι : Type} (S : Finset ι) (w : EReal) (h0 : 0 ≤ w) (h1 : w ≠ ⊤) (x y : ι → EReal) :
    ∑ i ∈ S, x i * w * y i = w * ∑ i ∈ S, x i * y i := by
  induction S using Finset.cons_induction with
  | empty => simp
  | cons a S ha ih =>
    rw [Finset.sum_cons, Finset.sum_cons, ih, EReal.left_distrib_of_nonneg_of_ne_top h0 h1, mul_comm (x a) w, mul_assoc]

/-! ## Places -/

variable {n : ℕ} (ex : Fin n → Fin 32)

/-- How many tokens before t have t's expert. -/
def cnt (t : Fin n) : ℕ := (Finset.univ.filter fun t' : Fin n => t' < t ∧ ex t' = ex t).card

/-- A token's slot. -/
def slot (t : Fin n) : ℕ := (ex t).val * 160 + cnt ex t

variable (hfit : ∀ e, (Finset.univ.filter fun t : Fin n => ex t = e).card ≤ 160)
include hfit

theorem cnt_lt (t : Fin n) : cnt ex t < 160 := by
  refine lt_of_lt_of_le (Finset.card_lt_card (Finset.ssubset_iff_of_subset ?_ |>.mpr ⟨t, ?_, ?_⟩)) (hfit (ex t))
  · intro t' h'
    rw [Finset.mem_filter] at h' ⊢
    exact ⟨h'.1, h'.2.2⟩
  · simp
  · simp

omit hfit in
theorem cnt_mono {t t' : Fin n} (h : t < t') (e : ex t = ex t') : cnt ex t < cnt ex t' := by
  refine Finset.card_lt_card (Finset.ssubset_iff_of_subset ?_ |>.mpr ⟨t, ?_, ?_⟩)
  · intro u hu
    rw [Finset.mem_filter] at hu ⊢
    exact ⟨hu.1, hu.2.1.trans h, hu.2.2.trans e⟩
  · simp [h, e]
  · simp

theorem slot_lt (t : Fin n) : slot ex t < 5120 := by
  have := cnt_lt ex hfit t
  have := (ex t).isLt
  unfold slot
  omega

theorem slot_inj {t t' : Fin n} (h : slot ex t = slot ex t') : t = t' := by
  have h1 := cnt_lt ex hfit t
  have h2 := cnt_lt ex hfit t'
  unfold slot at h
  have he : ex t = ex t' := by apply Fin.ext; omega
  have hc : cnt ex t = cnt ex t' := by rw [he] at h; omega
  rcases lt_trichotomy t t' with hl | hl | hl
  · exact absurd hc (cnt_mono ex hl he).ne
  · exact hl
  · exact absurd hc (cnt_mono ex hl he.symm).ne'

end Cert.Moe
-- ==== Proof.MoeOps.lean ====
/- The operations of the router, element by element. -/
module

public import proofs.«01_k».proof.Proof.Moe
public import Idealize.ShloMosaic.Lib.Pointwise.Reduce
public import Idealize.ShloMosaic.Lib.Pointwise.IndexBridge
public import Idealize.ShloMosaic.Lib.Routing.OpsOne
public import Idealize.ShloMosaic.Lib.StableHlo.Predicate
public import Idealize.ShloMosaic.Lib.ReduceAll
public import Mathlib.Data.BitVec

@[expose] public section

set_option maxRecDepth 16384

noncomputable section

namespace Cert.Moe

open Idealize.ShloMosaic hiding ix0 ix1 ix2 ix3 ix4
open Idealize.ShloMosaic.ValueIdx Idealize.ShloMosaic.Routing
open scoped BigOperators

variable {n : ℕ}

theorem bits_neg_inf : Ideal.ofBits .f32 0xFF800000#32 = ⊥ := by simp [Ideal.ofBits, Ideal.ieee]
theorem bits_inf : Ideal.ofBits .f32 0x7F800000#32 = ⊤ := by simp [Ideal.ofBits, Ideal.ieee]
theorem bits_zero : Ideal.ofBits .f32 0x00000000#32 = 0 := by simp [Ideal.ofBits, Ideal.ieee]

theorem reduceMax_at (s : FVec Ideal (shape2 n 32) .f32) (h : (shape2 n 32).ReducesTo [1] (shape1 n)) (hu : 0 < shape0.numel) (t : Fin n) :
    Host.reduce FloatOps.maximumf s (constant shape0 .f32 0xFF800000#32) h hu (ix1 t) = rowMax fun e => s (ix2 t e) := by
  show Host.reduce (fun a b : EReal => max a b) s _ h hu (ix1 t) = _
  rw [Host.reduce_eq_fold, h.fold_fiber_r2_a1]
  show Finset.univ.fold max (Ideal.ofBits .f32 0xFF800000#32) _ = _
  rw [bits_neg_inf]
  unfold rowMax
  congr 1

theorem reduceAdd_at (s : FVec Ideal (shape2 n 32) .f32) (h : (shape2 n 32).ReducesTo [1] (shape1 n)) (hu : 0 < shape0.numel) (t : Fin n) :
    Host.reduceAdd s (constant shape0 .f32 0x00000000#32) h hu (ix1 t) = ∑ e : Fin 32, s (ix2 t e) := by
  rw [hostReduceAdd_apply, Ideal.hostReduceAdd_r2_a1]
  show Ideal.ofBits .f32 0x00000000#32 + _ = _
  rw [bits_zero, zero_add]
  exact Finset.sum_congr rfl fun e _ => congrArg s (ix2_eq_valueIdx t e)

theorem fold_add {ι : Type} (S : Finset ι) (f : ι → BitVec 32) : S.fold IntOp.addi 0#32 f = ∑ i ∈ S, f i := by
  induction S using Finset.cons_induction with
  | empty => rfl
  | cons a S ha ih => rw [Finset.fold_cons, Finset.sum_cons, ih]; rfl

theorem reduceAddI_at (s : IVec (shape2 n 32) 32) (h : (shape2 n 32).ReducesTo [1] (shape1 n)) (hu : 0 < shape0.numel) (t : Fin n) :
    Host.reduce IntOp.addi s (constantI shape0 32 0#32) h hu (ix1 t) = ∑ e : Fin 32, s (ix2 t e) := by
  rw [Host.reduce_eq_fold, h.fold_fiber_r2_a1]
  show Finset.univ.fold IntOp.addi 0#32 (fun e : Fin 32 => s (Idealize.ShloMosaic.ix2 t e)) = _
  simp only [ix2_eq_valueIdx]
  exact fold_add _ _

/-- The softmax of a row as the programs write it. -/
theorem softmax_at (s : FVec Ideal (shape2 n 32) .f32) (h : (shape2 n 32).ReducesTo [1] (shape1 n)) (hu : 0 < shape0.numel)
    (h1 : (shape1 n).BroadcastsInDim (shape2 n 1) (![0] : Fin 1 → Fin (shape2 n 1).rank))
    (h2 : (shape2 n 1).BroadcastsInDim (shape2 n 32) (![0, 1] : Fin 2 → Fin (shape2 n 32).rank))
    (mx : FVec Ideal (shape1 n) .f32) (hmx : ∀ t, mx (ix1 t) = rowMax fun e => s (ix2 t e)) (t : Fin n) (e : Fin 32) :
    Host.divf (Host.exp (subf s (broadcastInDim (shape2 n 32) ![0, 1] h2 (broadcastInDim (shape2 n 1) ![0] h1 mx))))
      (broadcastInDim (shape2 n 32) ![0, 1] h2 (broadcastInDim (shape2 n 1) ![0] h1
        (Host.reduceAdd (Host.exp (subf s (broadcastInDim (shape2 n 32) ![0, 1] h2 (broadcastInDim (shape2 n 1) ![0] h1 mx))))
          (constant shape0 .f32 0x00000000#32) h hu))) (ix2 t e) = prob (fun e => s (ix2 t e)) e := by
  have hx : ∀ e, Host.exp (subf s (broadcastInDim (shape2 n 32) ![0, 1] h2 (broadcastInDim (shape2 n 1) ![0] h1 mx))) (ix2 t e)
      = Ideal.exp (s (ix2 t e) - rowMax fun e => s (ix2 t e)) := by
    intro e
    show Ideal.exp (s (ix2 t e) - broadcastInDim (shape2 n 32) ![0, 1] h2 (broadcastInDim (shape2 n 1) ![0] h1 mx) (ix2 t e)) = _
    rw [bcRows, hmx]
  rw [hostDivf_apply, bcRows, reduceAdd_at, hx, Finset.sum_congr rfl fun e _ => hx e]
  rfl

/-! ## The running count -/

variable (ex : Fin n → Fin 32)

theorem eq_word (a b : Fin 32) : (BitVec.ofNat 32 a.val = BitVec.ofNat 32 b.val) ↔ a = b := by revert a b; decide

theorem eq_bit (u v : BitVec 32) : IntOp.cmpi .eq u v = if u = v then 1#1 else 0#1 := by
  by_cases h : u = v
  · subst h; rw [if_pos rfl]; simp [IntOp.cmpi]
  · rw [if_neg h]
    show BitVec.ofBool (u == v) = 0#1
    rw [beq_eq_false_iff_ne.mpr h]; rfl

/-- The sum of a run of marks is the number of tokens so far. -/
theorem run_count (t : Fin n) (e : Fin 32) :
    (∑ t' : Fin n, if t' ≤ t then (if ex t' = e then (1#32 : BitVec 32) else 0#32) else 0)
      = BitVec.ofNat 32 (Finset.univ.filter fun t' : Fin n => t' ≤ t ∧ ex t' = e).card := by
  rw [Finset.card_filter]
  have : ∀ S : Finset (Fin n), (∑ t' ∈ S, if t' ≤ t then (if ex t' = e then (1#32 : BitVec 32) else 0#32) else 0)
      = BitVec.ofNat 32 (∑ t' ∈ S, if t' ≤ t ∧ ex t' = e then 1 else 0) := by
    intro S
    induction S using Finset.cons_induction with
    | empty => rfl
    | cons a S ha ih =>
      rw [Finset.sum_cons, Finset.sum_cons, ih, BitVec.ofNat_add]
      congr 1
      by_cases h1 : a ≤ t <;> by_cases h2 : ex a = e <;> simp [h1, h2]
  exact this _

theorem count_succ (t : Fin n) : (Finset.univ.filter fun t' : Fin n => t' ≤ t ∧ ex t' = ex t).card = cnt ex t + 1 := by
  unfold cnt
  have : (Finset.univ.filter fun t' : Fin n => t' ≤ t ∧ ex t' = ex t) = Finset.cons t (Finset.univ.filter fun t' : Fin n => t' < t ∧ ex t' = ex t) (by simp) := by
    ext u
    simp only [Finset.mem_filter, Finset.mem_univ, true_and, Finset.mem_cons]
    constructor
    · rintro ⟨h1, h2⟩
      rcases h1.lt_or_eq with h | h
      · exact .inr ⟨h, h2⟩
      · exact .inl h
    · rintro (h | ⟨h1, h2⟩)
      · subst h; exact ⟨le_rfl, rfl⟩
      · exact ⟨h1.le, h2⟩
  rw [this, Finset.card_cons]

end Cert.Moe
-- ==== Proof.IdealSlots.lean ====
/- What the operations before the calls compute, element by element, on extended reals. -/
module

public import proofs.«01_k».proof.Proof.IdealHost
public import proofs.«01_k».proof.Proof.MoeOps
public import Idealize.ShloMosaic.Lib.StackMember

@[expose] public section

set_option maxRecDepth 16384

noncomputable section

namespace Cert.KernelIdeal.A2A

open Idealize.ShloMosaic hiding ix0 ix1 ix2 ix3 ix4
open Idealize.ShloMosaic.ValueIdx Idealize.ShloMosaic.Routing
open Cert.KernelIdeal Cert.KernelIdeal.Gen Cert.Moe
open scoped BigOperators

/-! ## Weights -/

theorem hScores_at (x : FVec Ideal S2048x512 .f32) (w : FVec Ideal S512x32 .f32) (t : Fin 2048) (e : Fin 32) :
    hScores x w (ix2 t e) = ∑ d : Fin 512, x (ix2 t d) * w (ix2 d e) :=
  StackMember.dotGeneral_plain_apply none x w t e

theorem hProbs_at (s : FVec Ideal S2048x32 .f32) (t : Fin 2048) (e : Fin 32) :
    hProbs s (ix2 t e) = prob (fun e => s (ix2 t e)) e := by
  refine softmax_at s reducesTo_S2048x32_S2048_d1 h_S_ bcast_S2048_S2048x1_0 bcast_S2048x1_S2048x32_0_1 _ (fun t => ?_) t e
  rw [maximumf_apply, bc0, reduceMax_at]
  show max (Ideal.ofBits .f32 0xFF800000#32) _ = _
  rw [bits_neg_inf]
  exact max_eq_right bot_le

/-! ## Experts and places -/

variable (i : IVec S2048x1 32) (ex : Fin 2048 → Fin 32) (hex : ∀ t, i (ix2 t 0) = BitVec.ofNat 32 (ex t).val)
include hex

theorem hMask_at (t : Fin 2048) (e : Fin 32) : hMask i (ix2 t e) = if ex t = e then 1#1 else 0#1 := by
  have e1 : broadcastInDim S2048x32 ![0, 1] bcast_S2048x1_S2048x32_0_1 i (ix2 t e) = i (ix2 t 0) := by
    refine broadcastInDim_apply _ _ i _ _ fun a => ?_
    match a with
    | ⟨0, _⟩ => rfl
    | ⟨1, _⟩ => rfl
  have e2 : broadcastInDim S2048x32 ![0, 1] bcast_S1x32_S2048x32_0_1 (broadcastInDim S1x32 ![1] bcast_S32_S1x32_1 (iotaInDim S32 32 0)) (ix2 t e) = BitVec.ofNat 32 e.val :=
    bcCols _ _ _ t e
  show IntOp.cmpi .eq _ _ = _
  rw [e1, e2, eq_bit, hex]
  simp only [eq_word]

theorem hSel_at (p : FVec Ideal S2048x32 .f32) (t : Fin 2048) : hSel (hMask i) p (ix1 t) = p (ix2 t (ex t)) := by
  unfold hSel
  refine (reduceAdd_at (n := 2048) _ reducesTo_S2048x32_S2048_d1 h_S_ t).trans ?_
  have e1 : ∀ e : Fin 32, select (hMask i) p (broadcastInDim S2048x32 ![] bcast_S_S2048x32 (constant S_ .f32 0x00000000#32)) (ix2 t e)
      = if e = ex t then p (ix2 t e) else (0 : EReal) := by
    intro e
    rw [select_apply, hMask_at i ex hex]
    by_cases h : ex t = e
    · rw [if_pos h, if_pos h.symm]; exact select_one _ _
    · rw [if_neg h, if_neg (fun q => h q.symm)]
      refine (select_zero _ _).trans ?_
      rw [bc0]; exact bits_zero
  refine (Finset.sum_congr rfl fun e _ => e1 e).trans ?_
  rw [Finset.sum_ite_eq' Finset.univ (ex t) fun e => (p (ix2 t e) : EReal), if_pos (Finset.mem_univ _)]

theorem hCum_at (t : Fin 2048) : hCum (hMask i) (ix2 t (ex t)) = BitVec.ofNat 32 (cnt ex t + 1) := by
  unfold hCum
  refine (cumsum_rows_sum (A := 2048) (Am1 := 2047) (N := 32) rfl _ _ (bc0 _ _ _) reduceWindows_S2048x32_S2048x32_w2048s1p2047_0_w1s1p0_0 h_S_ t (ex t)).trans ?_
  rw [← count_succ, ← run_count]
  refine Finset.sum_congr rfl fun t' _ => ?_
  have e1 : extui 32 (hMask i) natLt_1_32 (ix2 t' (ex t)) = if ex t' = ex t then (1#32 : BitVec 32) else 0#32 := by
    show (hMask i (ix2 t' (ex t))).setWidth 32 = _
    rw [hMask_at i ex hex]
    by_cases h : ex t' = ex t
    · rw [if_pos h, if_pos h]; rfl
    · rw [if_neg h, if_neg h]; rfl
  rw [e1]

theorem hPos_at (t : Fin 2048) : hPos (hMask i) (ix1 t) = BitVec.ofNat 32 (cnt ex t) := by
  unfold hPos
  refine (reduceAddI_at (n := 2048) _ reducesTo_S2048x32_S2048_d1 h_S_ t).trans ?_
  have e1 : ∀ e : Fin 32, select (hMask i) (subi (hCum (hMask i)) (broadcastInDim S2048x32 ![] bcast_S_S2048x32 (constantI S_ 32 1#32)))
      (broadcastInDim S2048x32 ![] bcast_S_S2048x32 (constantI S_ 32 0#32)) (ix2 t e)
      = if e = ex t then BitVec.ofNat 32 (cnt ex t) else 0#32 := by
    intro e
    rw [select_apply, hMask_at i ex hex]
    by_cases h : ex t = e
    · subst h
      rw [if_pos rfl, if_pos rfl]
      refine (select_one _ _).trans ?_
      show hCum (hMask i) (ix2 t (ex t)) - broadcastInDim S2048x32 ![] bcast_S_S2048x32 (constantI S_ 32 1#32) (ix2 t (ex t)) = _
      rw [hCum_at i ex hex, bc0, BitVec.ofNat_add]
      exact add_sub_cancel_right _ _
    · rw [if_neg h, if_neg (fun q => h q.symm)]
      exact (select_zero _ _).trans (bc0 _ _ _)
  refine (Finset.sum_congr rfl fun e _ => e1 e).trans ?_
  show (∑ e : Fin 32, if e = ex t then BitVec.ofNat 32 (cnt ex t) else (0 : BitVec 32)) = _
  rw [Finset.sum_ite_eq' Finset.univ (ex t) fun _ => BitVec.ofNat 32 (cnt ex t), if_pos (Finset.mem_univ _)]

variable (hfit : ∀ e, (Finset.univ.filter fun t : Fin 2048 => ex t = e).card ≤ 160)
include hfit

theorem hSlot_at (t : Fin 2048) : hSlot i (ix1 t) = BitVec.ofNat 32 (slot ex t) := by
  have hc := cnt_lt ex hfit t
  unfold hSlot
  rw [select_apply]
  have e1 : cmpi .slt (hPos (hMask i)) (broadcastInDim S2048 ![] bcast_S_S2048 (constantI S_ 32 160#32)) (ix1 t) = 1#1 := by
    show IntOp.cmpi .slt _ _ = _
    rw [hPos_at i ex hex, bc0]
    show BitVec.ofBool (BitVec.slt _ _) = _
    have : BitVec.slt (BitVec.ofNat 32 (cnt ex t)) (constantI S_ 32 160#32 ix0) = true := by
      show BitVec.slt (BitVec.ofNat 32 (cnt ex t)) 160#32 = true
      rw [BitVec.slt_eq_decide, decide_eq_true_eq, BitVec.toInt_eq_toNat_of_lt (by rw [BitVec.toNat_ofNat]; omega), BitVec.toNat_ofNat,
        show ((160#32 : BitVec 32).toInt) = 160 from rfl]
      omega
    rw [this]; rfl
  rw [e1]
  refine (select_one _ _).trans ?_
  show shapeCast S2048 i shapeCasts_S2048x1_S2048 (ix1 t) * broadcastInDim S2048 ![] bcast_S_S2048 (constantI S_ 32 160#32) (ix1 t) + hPos (hMask i) (ix1 t) = _
  rw [hPos_at i ex hex, bc0, cast21 (a := 2048) (b := 1) i _ t 0 t (by simp), hex]
  show BitVec.ofNat 32 (ex t).val * 160#32 + _ = _
  unfold slot
  rw [BitVec.ofNat_add, BitVec.ofNat_mul]

end Cert.KernelIdeal.A2A
-- ==== Proof.IdealPay.lean ====
/- What the two bodies compute, element by element, on extended reals. -/
module

public import proofs.«01_k».proof.Proof.IdealVals
public import Idealize.ShloMosaic.Lib.MatmulPlain
public import Idealize.ShloMosaic.Lib.ValueIdx
public import Idealize.ShloMosaic.Lib.ValueLayout
public import Idealize.ShloMosaic.Lib.KernelVsHost

@[expose] public section

set_option maxRecDepth 16384

noncomputable section

namespace Cert.KernelIdeal.A2A

open Idealize.ShloMosaic Idealize.ShloMosaic.TcCoe Idealize.ShloMosaic.ValueIdx
open Cert.KernelIdeal Cert.KernelIdeal.Gen
open scoped BigOperators

/-! ## A comparison as a number -/

/-- One if the words are equal, zero otherwise. -/
def one (u v : BitVec 32) : EReal := if u = v then 1 else 0

theorem one_eq (u v : BitVec 32) : (FloatOps.sitofp .f32 ((IntOp.cmpi .eq u v).setWidth 32) : Ideal .f32) = one u v := by
  unfold one
  by_cases h : u = v
  · subst h
    rw [if_pos rfl]
    have : IntOp.cmpi .eq u u = 1#1 := by simp [IntOp.cmpi]
    rw [this]
    show (((((1#1 : BitVec 1).setWidth 32).toInt : ℤ) : ℝ) : EReal) = 1
    have : ((1#1 : BitVec 1).setWidth 32).toInt = 1 := by decide
    rw [this]; simp
  · rw [if_neg h]
    have : IntOp.cmpi .eq u v = 0#1 := by
      show BitVec.ofBool (u == v) = 0#1
      rw [beq_eq_false_iff_ne.mpr h]; rfl
    rw [this]
    show (((((0#1 : BitVec 1).setWidth 32).toInt : ℤ) : ℝ) : EReal) = 0
    have : ((0#1 : BitVec 1).setWidth 32).toInt = 0 := by decide
    rw [this]; simp

/-! ## The first call's bucket -/

/-- The row of the 1280 that is place r of expert q. -/
def row (q : Fin 8) (r : Fin 160) : Fin 1280 := ⟨q.val * 160 + r.val, by omega⟩

/-- The comparison of each slot of the bucket at word b with each token's slot. -/
def selA (b : BitVec 32) (a : Vec Ideal S1x2048 .i32) : FVec Ideal S1280x2048 .bf16 :=
  truncf .bf16 (sitofp .f32 (extui 32 (cmpi .eq (addi (iota .tc S1280x2048 32 [0] iota_S1280x2048_d0_w32) (broadcast S1280x2048 (Scalar.muli b 1280#32)))
    (broadcastTo S1280x2048 (shapeCast S1x2048 a shapeCasts_S1x2048_S1x2048) broadcasts_S1x2048_S1280x2048)) natLt_1_32)) bitsLt_bf16_f32

theorem shapeCast_same {s : Shape} {α : Type} (x : s.Idx → α) (h : s.ShapeCasts s) : shapeCast s x h = x := by
  funext i
  exact shapeCast_apply x h _ _ rfl

theorem selA_apply (b : BitVec 32) (a : Vec Ideal S1x2048 .i32) (r : Fin 1280) (t : Fin 2048) :
    selA b a (ix2 r t) = one (BitVec.ofNat 32 r.val + b * 1280#32) (a (ix2 0 t)) := by
  unfold selA
  rw [shapeCast_same]
  show (FloatOps.sitofp .f32 ((IntOp.cmpi .eq _ _).setWidth 32) : Ideal .f32) = _
  rw [one_eq]
  congr 1
  · show iota .tc S1280x2048 32 [0] iota_S1280x2048_d0_w32 (ix2 r t) + _ = _
    congr 1
    simp [iota]
  · show a _ = a _
    congr 1
    funext d
    match d with
    | ⟨0, _⟩ => rfl
    | ⟨1, _⟩ => rfl

theorem pay3_apply (s : FVec Ideal S1280x2048 .bf16) (x : FVec Ideal S2048x512 .bf16) (q : Fin 8) (r : Fin 160) (d : Fin 512) :
    k0_pay3 s x (ix4 0 q r d) = ∑ t : Fin 2048, s (ix2 (row q r) t) * x (ix2 t d) := by
  unfold k0_pay3
  show shapeCast S1x8x160x512 (shapeCast S8x160x512 _ _) _ (ix4 0 q r d) = _
  rw [shapeCast_abc_1abc_apply, shapeCast_apply _ _ _ (ix2 (row q r) d) (by
    rw [Shape.rowMajor_val_two, Shape.rowMajor_val_three]; rfl)]
  rw [truncf_apply]
  refine (Ideal.matmul_plain_apply (M := 1280) (K := 2048) (N := 512) none s x _ (row q r) d).trans ?_
  rw [constant_apply]
  have : Ideal.ofBits .f32 0x00000000#32 = 0 := by simp [Ideal.ofBits, Ideal.ieee]
  rw [this, zero_add]

/-- The device a bucket is for, as the body computes it. -/
def ownW (c : Dev nD) : Fin 4 → BitVec 32
  | 0 => BitVec.ofNat 32 ((c.val + 1) % 4)
  | 1 => BitVec.ofNat 32 ((c.val + 2) % 4)
  | 2 => BitVec.ofNat 32 ((c.val + 3) % 4)
  | 3 => BitVec.ofNat 32 c.val

theorem bkt_eq (c : Dev nD) (k : Fin 4) (a : Vec Ideal S1x2048 .i32) (x : Vec Ideal S2048x512 .bf16) :
    bkt c k a x = k0_pay3 (selA (ownW c k) a) x := by
  have e0 : k0_pay2 x = x := shapeCast_same _ _
  have key : ∀ (b b' : BitVec 32), b = b' → k0_pay3 (selA b a) (k0_pay2 x) = k0_pay3 (selA b' a) x := by
    intro b b' h; rw [h, e0]
  fin_cases k
  · exact key _ _ (by revert c; decide)
  · exact key _ _ (by revert c; decide)
  · exact key _ _ (by revert c; decide)
  · exact key _ _ (by revert c; decide)

theorem ownW_kOf (p d : Fin 4) : ownW p (kOf p d) = BitVec.ofNat 32 d.val := by revert p d; decide

/-- What reaches device d in place r of its expert q from device p, by coordinate: the tokens of that slot, added. -/
theorem rcAt_apply (m : (ℓ : Loc nD τ sig) → Buf (Elt Ideal) ℓ) (d p : Fin 4) (q : Fin 8) (r : Fin 160) (e : Fin 512) :
    rcAt m d p (ix4 0 q r e) = ∑ t : Fin 2048, one (BitVec.ofNat 32 (row q r).val + BitVec.ofNat 32 d.val * 1280#32) (a0 m p (ix2 0 t)) * x0 m p (ix2 t e) := by
  unfold rcAt
  rw [bkt_eq, ownW_kOf, pay3_apply]
  exact Finset.sum_congr rfl fun t _ => by rw [selA_apply]

/-! ## The products -/

theorem pown_apply (a : Vec Ideal S1x1x160x512 .bf16) (b : Vec Ideal S1x512x1024 .bf16) (r : Fin 160) (h : Fin 1024) :
    pown a b (ix4 0 0 r h) = ∑ e : Fin 512, a (ix4 0 0 r e) * b (ix3 0 e h) := by
  unfold pown k1_pay32
  show shapeCast S1x1x160x1024 _ _ (ix4 0 0 r h) = _
  rw [shapeCast_apply _ _ _ (ix2 r h) (by
    rw [Shape.rowMajor_val_two, Shape.rowMajor_val_four]
    show r.val * 1024 + h.val = ((0 * 1 + 0) * 160 + r.val) * 1024 + h.val
    omega), truncf_apply]
  refine (Ideal.matmul_plain_apply (M := 160) (K := 512) (N := 1024) none _ _ _ r h).trans ?_
  rw [constant_apply]
  have : Ideal.ofBits .f32 0x00000000#32 = 0 := by simp [Ideal.ofBits, Ideal.ieee]
  rw [this, zero_add]
  refine Finset.sum_congr rfl fun e _ => ?_
  rw [shapeCast_1ab_ab_apply b, shapeCast_apply a _ _ (ix4 0 0 r e) (by
    rw [Shape.rowMajor_val_two, Shape.rowMajor_val_four]
    show ((0 * 1 + 0) * 160 + r.val) * 512 + e.val = r.val * 512 + e.val
    omega)]

/-! ## The output -/

def selB (b : BitVec 32) (s : Vec Ideal S2048x1 .i32) : FVec Ideal S2048x1280 .bf16 :=
  truncf .bf16 (sitofp .f32 (extui 32 (cmpi .eq (addi (iota .tc S2048x1280 32 [1] iota_S2048x1280_d1_w32) (broadcast S2048x1280 (Scalar.muli b 1280#32)))
    (broadcastTo S2048x1280 (shapeCast S2048x1 s shapeCasts_S2048x1_S2048x1) broadcasts_S2048x1_S2048x1280)) natLt_1_32)) bitsLt_bf16_f32

theorem selB_apply (b : BitVec 32) (s : Vec Ideal S2048x1 .i32) (t : Fin 2048) (r : Fin 1280) :
    selB b s (ix2 t r) = one (BitVec.ofNat 32 r.val + b * 1280#32) (s (ix2 t 0)) := by
  unfold selB
  rw [shapeCast_same]
  show (FloatOps.sitofp .f32 ((IntOp.cmpi .eq _ _).setWidth 32) : Ideal .f32) = _
  rw [one_eq]
  congr 1
  · show iota .tc S2048x1280 32 [1] iota_S2048x1280_d1_w32 (ix2 t r) + _ = _
    congr 1
    simp [iota]
  · show s _ = s _
    congr 1
    funext d
    match d with
    | ⟨0, _⟩ => rfl
    | ⟨1, _⟩ => rfl

/-- The expert and the place of a row. -/
def rowQ (r : Fin 1280) : Fin 8 := ⟨r.val / 160, by omega⟩
def rowR (r : Fin 1280) : Fin 160 := ⟨r.val % 160, by omega⟩

/-- One slab added to the output. -/
def addB (b : BitVec 32) (s : Vec Ideal S2048x1 .i32) (y : Vec Ideal S1x8x160x1024 .bf16) (o : Vec Ideal S2048x1024 .f32) : FVec Ideal S2048x1024 .f32 :=
  k1_pay46 (selB b s) (k1_pay45 y) o

theorem addB_apply (b : BitVec 32) (s : Vec Ideal S2048x1 .i32) (y : Vec Ideal S1x8x160x1024 .bf16) (o : Vec Ideal S2048x1024 .f32) (t : Fin 2048) (h : Fin 1024) :
    addB b s y o (ix2 t h) = o (ix2 t h) + ∑ r : Fin 1280, one (BitVec.ofNat 32 r.val + b * 1280#32) (s (ix2 t 0)) * y (ix4 0 (rowQ r) (rowR r) h) := by
  unfold addB k1_pay46 k1_pay45
  show addf (F := Ideal) (φ := .f32) (shapeCast S2048x1024 o _) _ (ix2 t h) = _
  rw [addf_apply, shapeCast_same]
  congr 1
  refine (Ideal.matmul_plain_apply (M := 2048) (K := 1280) (N := 1024) none _ _ _ t h).trans ?_
  rw [constant_apply]
  have : Ideal.ofBits .f32 0x00000000#32 = 0 := by simp [Ideal.ofBits, Ideal.ieee]
  rw [this, zero_add]
  refine Finset.sum_congr rfl fun r _ => ?_
  rw [selB_apply, shapeCast_apply _ _ _ (ix3 (rowQ r) (rowR r) h) (by
    rw [Shape.rowMajor_val_two, Shape.rowMajor_val_three]
    show (r.val / 160 * 160 + r.val % 160) * 1024 + h.val = r.val * 1024 + h.val
    rw [Nat.div_add_mod']), shapeCast_1abc_abc_apply]

theorem pout0_apply (x : Vec Ideal S2048x512 .f32) (w : Vec Ideal S512x1024 .f32) (t : Fin 2048) (h : Fin 1024) :
    pout0 x w (ix2 t h) = ∑ e : Fin 512, x (ix2 t e) * w (ix2 e h) := by
  unfold pout0 k1_pay42
  rw [shapeCast_same, shapeCast_same]
  refine (Ideal.matmul_plain_apply (M := 2048) (K := 512) (N := 1024) none x w _ t h).trans ?_
  rw [constant_apply]
  have : Ideal.ofBits .f32 0x00000000#32 = 0 := by simp [Ideal.ofBits, Ideal.ieee]
  rw [this, zero_add]

theorem pout1_eq (c : Dev nD) (s : Vec Ideal S2048x1 .i32) (y : Vec Ideal S1x8x160x1024 .bf16) (o : Vec Ideal S2048x1024 .f32) :
    pout1 c s y o = addB (BitVec.ofNat 32 c.val) s y o := by
  have key : ∀ (b b' : BitVec 32), b = b' → addB b s y o = addB b' s y o := by intro b b' h; rw [h]
  exact key _ _ (by revert c; decide)
theorem pout2_eq (c : Dev nD) (s : Vec Ideal S2048x1 .i32) (y : Vec Ideal S1x8x160x1024 .bf16) (o : Vec Ideal S2048x1024 .f32) :
    pout2 c s y o = addB (BitVec.ofNat 32 (src c 0).val) s y o := by
  have key : ∀ (b b' : BitVec 32), b = b' → addB b s y o = addB b' s y o := by intro b b' h; rw [h]
  exact key _ _ (by revert c; decide)
theorem pout3_eq (c : Dev nD) (s : Vec Ideal S2048x1 .i32) (y : Vec Ideal S1x8x160x1024 .bf16) (o : Vec Ideal S2048x1024 .f32) :
    pout3 c s y o = addB (BitVec.ofNat 32 (src c 1).val) s y o := by
  have key : ∀ (b b' : BitVec 32), b = b' → addB b s y o = addB b' s y o := by intro b b' h; rw [h]
  exact key _ _ (by revert c; decide)
theorem pout4_eq (c : Dev nD) (s : Vec Ideal S2048x1 .i32) (y : Vec Ideal S1x8x160x1024 .bf16) (o : Vec Ideal S2048x1024 .f32) :
    pout4 c s y o = addB (BitVec.ofNat 32 (src c 2).val) s y o := by
  have key : ∀ (b b' : BitVec 32), b = b' → addB b s y o = addB b' s y o := by intro b b' h; rw [h]
  exact key _ _ (by revert c; decide)

end Cert.KernelIdeal.A2A
-- ==== Proof.IdealWin.lean ====
/- The operands of the two calls are whole buffers; what the second call writes is its result. -/
module

public import proofs.«01_k».proof.Proof.IdealHost
public import proofs.«01_k».proof.Proof.IdealPay
public import proofs.«01_k».proof.Proof.IdealRegion
public import Idealize.ShloMosaic.Lib.Pipeline.ValueKit

@[expose] public section

set_option maxRecDepth 16384

noncomputable section

namespace Cert.KernelIdeal.A2A

open Idealize.ShloMosaic Idealize.ShloMosaic.TcCoe Idealize.ShloMosaic.ValueIdx
open Idealize.ShloMosaic.StableHlo
open Cert.KernelIdeal Cert.KernelIdeal.Gen

variable {F : FTy → Type} [FloatOps F]
variable (m : (ℓ : Loc nD τ sig) → Buf (Elt F) ℓ) (c : Dev nD)

theorem emb0_0 (j : S1x2048.Idx) : ((cfg0.win 0).blk t0_0).view.emb j = j := by
  funext a; apply Fin.ext
  exact Pipeline.Window.rect_emb_val_of_index_zero win0_0 t0_0 a (by revert a; decide +kernel) _
theorem emb0_1 (j : S2048x512.Idx) : ((cfg0.win 1).blk t0_0).view.emb j = j := by
  funext a; apply Fin.ext
  exact Pipeline.Window.rect_emb_val_of_index_zero win0_1 t0_0 a (by revert a; decide +kernel) _
theorem emb1_0 (j : S4x8x160x512.Idx) : ((cfg1.win 0).blk t1_0).view.emb j = j := by
  funext a; apply Fin.ext
  exact Pipeline.Window.rect_emb_val_of_index_zero win1_0 t1_0 a (by revert a; decide +kernel) _
theorem emb1_1 (j : S8x512x1024.Idx) : ((cfg1.win 1).blk t1_0).view.emb j = j := by
  funext a; apply Fin.ext
  exact Pipeline.Window.rect_emb_val_of_index_zero win1_1 t1_0 a (by revert a; decide +kernel) _
theorem emb1_2 (j : S2048x1.Idx) : ((cfg1.win 2).blk t1_0).view.emb j = j := by
  funext a; apply Fin.ext
  exact Pipeline.Window.rect_emb_val_of_index_zero win1_2 t1_0 a (by revert a; decide +kernel) _
theorem emb1_3 (j : S2048x512.Idx) : ((cfg1.win 3).blk t1_0).view.emb j = j := by
  funext a; apply Fin.ext
  exact Pipeline.Window.rect_emb_val_of_index_zero win1_3 t1_0 a (by revert a; decide +kernel) _
theorem emb1_4 (j : S512x1024.Idx) : ((cfg1.win 4).blk t1_0).view.emb j = j := by
  funext a; apply Fin.ext
  exact Pipeline.Window.rect_emb_val_of_index_zero win1_4 t1_0 a (by revert a; decide +kernel) _

theorem a0_at (j : S1x2048.Idx) : a0 m c j = shapeCast S1x2048 (hSlot (g2 m c)) shapeCasts_S2048_S1x2048 j := by
  rw [← V9_slot]
  show V9 m c main_v37 (((cfg0.win 0).blk t0_0).view.emb j) = _
  rw [emb0_0]
theorem x0_at (j : S2048x512.Idx) : x0 m c j = hXs (g0 m c) (hW m c) j := by
  rw [← V9_xs]
  show V9 m c main_v36 (((cfg0.win 1).blk t0_0).view.emb j) = _
  rw [emb0_1]

theorem B11_of (r : Ref sig .tc) (h : r ∉ hostOps1_W) : B11 m c r = U10 m c r :=
  StableHlo.after_of_writes_sub hostOps1 _ hostOps1_writes h
theorem U10_of (r : Ref sig .tc) (h : r ∉ ([main_v38] : List (Ref sig .tc))) : U10 m c r = V9 m c r := by
  simp only [U10, B9, Function.update_of_ne (StableHlo.devRef_ne_of_ne (List.ne_of_not_mem_cons h) : (Proc.devRef .tc r : DevRef τ sig) ≠ Proc.devRef .tc main_v38)]

theorem V9_arg0 : V9 m c main_arg0 = g0 m c := (V9_of m c main_arg0 (by decide)).trans (V8_arg0 m c)
theorem V9_arg3 : V9 m c main_arg3 = g3 m c :=
  (V9_of m c main_arg3 (by decide)).trans <| (V8_of m c main_arg3 (by decide)).trans <| (V7_of m c main_arg3 (by decide)).trans <|
  (V6_of m c main_arg3 (by decide)).trans <| (V5_of m c main_arg3 (by decide)).trans <| (V4_of m c main_arg3 (by decide)).trans <|
  (V3_of m c main_arg3 (by decide)).trans <| (V2_of m c main_arg3 (by decide)).trans <| (V1_of m c main_arg3 (by decide))
theorem V9_arg4 : V9 m c main_arg4 = g4 m c :=
  (V9_of m c main_arg4 (by decide)).trans <| (V8_of m c main_arg4 (by decide)).trans <| (V7_of m c main_arg4 (by decide)).trans <|
  (V6_of m c main_arg4 (by decide)).trans <| (V5_of m c main_arg4 (by decide)).trans <| (V4_of m c main_arg4 (by decide)).trans <|
  (V3_of m c main_arg4 (by decide)).trans <| (V2_of m c main_arg4 (by decide)).trans <| (V1_of m c main_arg4 (by decide))

theorem B11_v38 : B11 m c main_v38 = RC m c := (B11_of m c main_v38 (by decide)).trans (U10_v38 m c)
theorem B11_v39 : B11 m c main_v39 = truncf .bf16 (g3 m c) bitsLt_bf16_f32 := by
  have e : B11 m c main_v39 = truncf .bf16 (U10 m c main_arg3) bitsLt_bf16_f32 := by
    simp only [B11, hostOps1]
    after_results_simp <;> rfl
  rw [e, U10_of m c main_arg3 (by decide), V9_arg3]
theorem B11_v40 : B11 m c main_v40 = shapeCast S2048x1 (hSlot (g2 m c)) shapeCasts_S2048_S2048x1 := by
  have e : B11 m c main_v40 = shapeCast S2048x1 (U10 m c main_v32) shapeCasts_S2048_S2048x1 := by
    simp only [B11, hostOps1]
    after_results_simp <;> rfl
  rw [e, U10_of m c main_v32 (by decide), V9_of m c main_v32 (by decide), V8_slot]
theorem B11_arg0 : B11 m c main_arg0 = g0 m c :=
  (B11_of m c main_arg0 (by decide)).trans <| (U10_of m c main_arg0 (by decide)).trans <| V9_arg0 m c
theorem B11_arg4 : B11 m c main_arg4 = g4 m c :=
  (B11_of m c main_arg4 (by decide)).trans <| (U10_of m c main_arg4 (by decide)).trans <| V9_arg4 m c

theorem a1_at (j : S4x8x160x512.Idx) : a1 m c j = RC m c j := by
  rw [← B11_v38]
  show B11 m c main_v38 (((cfg1.win 0).blk t1_0).view.emb j) = _
  rw [emb1_0]
theorem w1_at (j : S8x512x1024.Idx) : w1 m c j = truncf .bf16 (g3 m c) bitsLt_bf16_f32 j := by
  rw [← B11_v39]
  show B11 m c main_v39 (((cfg1.win 1).blk t1_0).view.emb j) = _
  rw [emb1_1]
theorem s1_at (j : S2048x1.Idx) : s1 m c j = shapeCast S2048x1 (hSlot (g2 m c)) shapeCasts_S2048_S2048x1 j := by
  rw [← B11_v40]
  show B11 m c main_v40 (((cfg1.win 2).blk t1_0).view.emb j) = _
  rw [emb1_2]
theorem x1_at (j : S2048x512.Idx) : x1 m c j = g0 m c j := by
  rw [← B11_arg0]
  show B11 m c main_arg0 (((cfg1.win 3).blk t1_0).view.emb j) = _
  rw [emb1_3]
theorem sw1_at (j : S512x1024.Idx) : sw1 m c j = g4 m c j := by
  rw [← B11_arg4]
  show B11 m c main_arg4 (((cfg1.win 4).blk t1_0).view.emb j) = _
  rw [emb1_4]

theorem whole1_5 : (cfg1.win 5).WholeAt t1_0 := by decide +kernel

/-- The result buffer, at the end. -/
theorem U12_v41 (j : S2048x1024.Idx) : U12 m c main_v41 j = out1 m c j := by
  have e : U12 m c main_v41 = (dat1 m c).arrAt 5 cfg1.N := by
    unfold U12
    exact Function.update_self (Proc.devRef (τ := τ) .tc main_v41) _ (B11 m c)
  rw [e]
  exact (dat1 m c).arrAt_emb_eq_after_last 5 t1_0 whole1_5 j

end Cert.KernelIdeal.A2A
-- ==== Proof.IdealOut.lean ====
/- Each device's result, element by element: the shared expert's product and the token's own expert's. -/
module

public import proofs.«01_k».proof.Proof.IdealSlots
public import proofs.«01_k».proof.Proof.IdealWin

@[expose] public section

set_option maxRecDepth 16384

noncomputable section

namespace Cert.KernelIdeal.A2A

open Idealize.ShloMosaic hiding ix0 ix1 ix2 ix3 ix4
open Idealize.ShloMosaic.TcCoe
open Idealize.ShloMosaic.ValueIdx Idealize.ShloMosaic.Routing
open Cert.KernelIdeal Cert.KernelIdeal.Gen Cert.Moe
open scoped BigOperators

theorem one_word (p : Fin 4) (r s : ℕ) (hr : r < 1280) (hs : s < 5120) :
    one (BitVec.ofNat 32 r + BitVec.ofNat 32 p.val * 1280#32) (BitVec.ofNat 32 s) = if s = p.val * 1280 + r then 1 else 0 := by
  unfold one
  have hp := p.isLt
  have : (BitVec.ofNat 32 r + BitVec.ofNat 32 p.val * 1280#32 = BitVec.ofNat 32 s) ↔ s = p.val * 1280 + r := by
    have e : BitVec.ofNat 32 r + BitVec.ofNat 32 p.val * 1280#32 = BitVec.ofNat 32 (p.val * 1280 + r) := by
      rw [show (1280#32 : BitVec 32) = BitVec.ofNat 32 1280 from rfl, ← BitVec.ofNat_mul, ← BitVec.ofNat_add, Nat.add_comm]
    rw [e]
    constructor
    · intro h
      have := congrArg BitVec.toNat h
      rw [BitVec.toNat_ofNat, BitVec.toNat_ofNat, Nat.mod_eq_of_lt (by omega), Nat.mod_eq_of_lt (by omega)] at this
      exact this.symm
    · rintro rfl; rfl
  simp only [this]

variable (m : (ℓ : Loc nD τ sig) → Buf (Elt Ideal) ℓ)

/-- The device that holds an expert, and where. -/
def pOf (e : Fin 32) : Fin 4 := ⟨e.val / 8, by omega⟩
def qOf (e : Fin 32) : Fin 8 := ⟨e.val % 8, by omega⟩

variable (ex : Dev nD → Fin 2048 → Fin 32)
  (hex : ∀ c t, g2 m c (ix2 t 0) = BitVec.ofNat 32 (ex c t).val)
  (hfit : ∀ c e, (Finset.univ.filter fun t : Fin 2048 => ex c t = e).card ≤ 160)

/-- The words of a device's tokens by their weights. -/
def xw (c : Dev nD) (t : Fin 2048) (d : Fin 512) : EReal := g0 m c (ix2 t d) * hW m c (ix1 t)

theorem x0_val (c : Dev nD) (t : Fin 2048) (d : Fin 512) : x0 m c (ix2 t d) = xw m c t d := by
  rw [x0_at]
  unfold hXs xw
  rw [truncf_apply, mulf_apply]
  congr 1
  refine (broadcastInDim_apply _ _ _ _ (ix2 t (0 : Fin 1)) fun a => ?_).trans (bcCol _ _ t)
  match a with
  | ⟨0, _⟩ => rfl
  | ⟨1, _⟩ => rfl

include hex hfit

theorem a0_val (c : Dev nD) (t : Fin 2048) : a0 m c (ix2 0 t) = BitVec.ofNat 32 (slot (ex c) t) := by
  rw [a0_at]
  exact (cast12 (a := 1) (b := 2048) _ _ 0 t t (by simp)).trans (hSlot_at _ (ex c) (hex c) (hfit c) t)

theorem s1_val (c : Dev nD) (t : Fin 2048) : s1 m c (ix2 t 0) = BitVec.ofNat 32 (slot (ex c) t) := by
  rw [s1_at]
  exact (cast12 (a := 2048) (b := 1) _ _ t 0 t (by simp)).trans (hSlot_at _ (ex c) (hex c) (hfit c) t)

/-- The place of a token's slot on the device that has its expert holds that token by its weight. -/
theorem rc_val (c d : Fin 4) (q : Fin 8) (r : Fin 160) (e : Fin 512) (t : Fin 2048)
    (h : slot (ex c) t = d.val * 1280 + (row q r).val) : rcAt m d c (ix4 0 q r e) = xw m c t e := by
  rw [rcAt_apply]
  have e1 : ∀ t' : Fin 2048, one (BitVec.ofNat 32 (row q r).val + BitVec.ofNat 32 d.val * 1280#32) (a0 m c (ix2 0 t')) * x0 m c (ix2 t' e)
      = if t' = t then xw m c t' e else 0 := by
    intro t'
    rw [a0_val m ex hex hfit, one_word d _ _ (row q r).isLt (slot_lt _ (hfit c) t'), x0_val, ← h]
    by_cases ht : t' = t
    · subst ht; rw [if_pos rfl, if_pos rfl, one_mul]
    · rw [if_neg ht, if_neg (fun q => ht (slot_inj _ (hfit c) q)), zero_mul]
  rw [Finset.sum_congr rfl fun t' _ => e1 t', Finset.sum_ite_eq' Finset.univ t fun t' => xw m c t' e, if_pos (Finset.mem_univ _)]

omit hex hfit in
theorem YB_val (c p : Fin 4) (q : Fin 8) (r : Fin 160) (h : Fin 1024) :
    YB m c (ix4 p q r h) = ∑ e : Fin 512, rcAt m p c (ix4 0 q r e) * g3 m p (ix3 q e h) := by
  have e0 : inY (ix4 p q r h) = ix4 0 0 r h := by
    funext a; match a with | ⟨0, _⟩ => rfl | ⟨1, _⟩ => rfl | ⟨2, _⟩ => rfl | ⟨3, _⟩ => rfl
  show ybAt m c p q (inY (ix4 p q r h)) = _
  rw [e0]
  unfold ybAt
  rw [pown_apply]
  refine Finset.sum_congr rfl fun e _ => ?_
  congr 1
  · have e1 : slabA (a1 m p) c q (ix4 0 0 r e) = a1 m p (ix4 c q r e) := by
      unfold slabA
      congr 1
      funext a
      apply Fin.ext
      match a with
      | ⟨0, _⟩ => show c.val + 1 * 0 = c.val; omega
      | ⟨1, _⟩ => show q.val + 1 * 0 = q.val; omega
      | ⟨2, _⟩ => show 0 + 1 * r.val = r.val; omega
      | ⟨3, _⟩ => show 0 + 1 * e.val = e.val; omega
    rw [e1, a1_at]
    show rcAt m p c (inR (ix4 c q r e)) = _
    congr 1
    funext a; match a with | ⟨0, _⟩ => rfl | ⟨1, _⟩ => rfl | ⟨2, _⟩ => rfl | ⟨3, _⟩ => rfl
  · have e1 : slabW (w1 m p) q (ix3 0 e h) = w1 m p (ix3 q e h) := by
      unfold slabW
      congr 1
      funext a
      apply Fin.ext
      match a with
      | ⟨0, _⟩ => show q.val + 1 * 0 = q.val; omega
      | ⟨1, _⟩ => show 0 + 1 * e.val = e.val; omega
      | ⟨2, _⟩ => show 0 + 1 * h.val = h.val; omega
    rw [e1, w1_at, truncf_apply]

/-- The slab of products from device p. -/
def slab (c p : Fin 4) : Vec Ideal S1x8x160x1024 .bf16 := (mY.view.slice (rZ p)).read (Elt Ideal) (YB m c)

omit hex hfit in
theorem slab_val (c p : Fin 4) (q : Fin 8) (r : Fin 160) (h : Fin 1024) : slab m c p (ix4 0 q r h) = YB m c (ix4 p q r h) := by
  have e : (rZ p).emb (ix4 0 q r h) = ix4 p q r h := by
    funext a
    apply Fin.ext
    match a with
    | ⟨0, _⟩ => show p.val + 1 * 0 = p.val; omega
    | ⟨1, _⟩ => show 0 + 1 * q.val = q.val; omega
    | ⟨2, _⟩ => show 0 + 1 * r.val = r.val; omega
    | ⟨3, _⟩ => show 0 + 1 * h.val = h.val; omega
  show YB m c ((rZ p).emb (ix4 0 q r h)) = _
  rw [e]

/-- The token's own expert's product. -/
def mine (c : Dev nD) (t : Fin 2048) (h : Fin 1024) : EReal :=
  ∑ d : Fin 512, xw m c t d * g3 m (pOf (ex c t)) (ix3 (qOf (ex c t)) d h)

/-- What the slab from device p adds. -/
theorem slab_adds (c : Dev nD) (p : Fin 4) (t : Fin 2048) (h : Fin 1024) :
    ∑ r : Fin 1280, one (BitVec.ofNat 32 r.val + BitVec.ofNat 32 p.val * 1280#32) (s1 m c (ix2 t 0)) * slab m c p (ix4 0 (rowQ r) (rowR r) h)
      = if p = pOf (ex c t) then mine m ex c t h else 0 := by
  have hc := cnt_lt _ (hfit c) t
  have he := (ex c t).isLt
  have hs := slot_lt _ (hfit c) t
  have e1 : ∀ r : Fin 1280, one (BitVec.ofNat 32 r.val + BitVec.ofNat 32 p.val * 1280#32) (s1 m c (ix2 t 0)) * slab m c p (ix4 0 (rowQ r) (rowR r) h)
      = if slot (ex c) t = p.val * 1280 + r.val then mine m ex c t h else 0 := by
    intro r
    rw [s1_val m ex hex hfit, one_word p _ _ r.isLt hs]
    by_cases hr : slot (ex c) t = p.val * 1280 + r.val
    · rw [if_pos hr, if_pos hr, one_mul, slab_val, YB_val]
      have hrow : (row (rowQ r) (rowR r)).val = r.val := by
        show r.val / 160 * 160 + r.val % 160 = r.val
        exact Nat.div_add_mod' _ _
      have hrl := r.isLt
      have hpl := p.isLt
      have hp : p = pOf (ex c t) := by
        apply Fin.ext
        show p.val = (ex c t).val / 8
        unfold slot at hr
        omega
      have hq : rowQ r = qOf (ex c t) := by
        apply Fin.ext
        show r.val / 160 = (ex c t).val % 8
        unfold slot at hr
        omega
      unfold mine
      refine Finset.sum_congr rfl fun d _ => ?_
      rw [rc_val m ex hex hfit c p (rowQ r) (rowR r) d t (by rw [hrow]; exact hr), hq, ← hp]
    · rw [if_neg hr, if_neg hr, zero_mul]
  rw [Finset.sum_congr rfl fun r _ => e1 r]
  by_cases hp : p = pOf (ex c t)
  · rw [if_pos hp]
    have hv : p.val = (ex c t).val / 8 := by rw [hp]; rfl
    have hlt : slot (ex c) t - p.val * 1280 < 1280 := by unfold slot; omega
    rw [Finset.sum_eq_single (⟨slot (ex c) t - p.val * 1280, hlt⟩ : Fin 1280)]
    · rw [if_pos]
      show slot (ex c) t = p.val * 1280 + (slot (ex c) t - p.val * 1280)
      unfold slot
      omega
    · intro r _ hr
      refine if_neg fun h => hr (Fin.ext ?_)
      show r.val = slot (ex c) t - p.val * 1280
      omega
    · intro h; exact absurd (Finset.mem_univ _) h
  · rw [if_neg hp]
    refine Finset.sum_eq_zero fun r _ => if_neg fun h => hp (Fin.ext ?_)
    have hrl := r.isLt
    show p.val = (ex c t).val / 8
    unfold slot at h
    omega

omit hex hfit in
theorem add_slabs (c p : Fin 4) (s y : EReal) :
    (((s + (if c = p then y else 0)) + (if src c 0 = p then y else 0)) + (if src c 1 = p then y else 0)) + (if src c 2 = p then y else 0) = s + y := by
  have key : (c = p ∧ src c 0 ≠ p ∧ src c 1 ≠ p ∧ src c 2 ≠ p) ∨ (c ≠ p ∧ src c 0 = p ∧ src c 1 ≠ p ∧ src c 2 ≠ p)
      ∨ (c ≠ p ∧ src c 0 ≠ p ∧ src c 1 = p ∧ src c 2 ≠ p) ∨ (c ≠ p ∧ src c 0 ≠ p ∧ src c 1 ≠ p ∧ src c 2 = p) := by
    revert c p; decide
  rcases key with ⟨h0, h1, h2, h3⟩ | ⟨h0, h1, h2, h3⟩ | ⟨h0, h1, h2, h3⟩ | ⟨h0, h1, h2, h3⟩
  · rw [if_pos h0, if_neg h1, if_neg h2, if_neg h3]; simp
  · rw [if_neg h0, if_pos h1, if_neg h2, if_neg h3]; simp
  · rw [if_neg h0, if_neg h1, if_pos h2, if_neg h3]; simp
  · rw [if_neg h0, if_neg h1, if_neg h2, if_pos h3]; simp

omit hex hfit in
theorem out1_eq (c : Dev nD) : out1 m c = addB (BitVec.ofNat 32 (src c 2).val) (s1 m c) (slab m c (src c 2)) (addB (BitVec.ofNat 32 (src c 1).val) (s1 m c) (slab m c (src c 1))
    (addB (BitVec.ofNat 32 (src c 0).val) (s1 m c) (slab m c (src c 0)) (addB (BitVec.ofNat 32 c.val) (s1 m c) (slab m c c) (pout0 (x1 m c) (sw1 m c))))) := by
  show pout4 c (s1 m c) (slab m c (src c 2)) (pout3 c (s1 m c) (slab m c (src c 1)) (pout2 c (s1 m c) (slab m c (src c 0))
    (pout1 c (s1 m c) (slab m c c) (pout0 (x1 m c) (sw1 m c))))) = _
  rw [pout4_eq, pout3_eq, pout2_eq, pout1_eq]

/-- What the addition of the slab from device p is, at an element. -/
theorem addB_slab (c : Dev nD) (p : Fin 4) (o : Vec Ideal S2048x1024 .f32) (z : EReal) (t : Fin 2048) (h : Fin 1024) (hz : o (ix2 t h) = z) :
    addB (BitVec.ofNat 32 p.val) (s1 m c) (slab m c p) o (ix2 t h) = z + (if p = pOf (ex c t) then mine m ex c t h else 0) := by
  rw [addB_apply, slab_adds m ex hex hfit c p t h, hz]

/-- A device's result. -/
theorem out_val (c : Dev nD) (t : Fin 2048) (h : Fin 1024) :
    out1 m c (ix2 t h) = (∑ d : Fin 512, g0 m c (ix2 t d) * g4 m c (ix2 d h)) + mine m ex c t h := by
  rw [out1_eq]
  refine (addB_slab m ex hex hfit c _ _ _ t h (addB_slab m ex hex hfit c _ _ _ t h (addB_slab m ex hex hfit c _ _ _ t h
    (addB_slab m ex hex hfit c _ _ _ t h (pout0_apply _ _ t h))))).trans ?_
  refine (add_slabs c (pOf (ex c t)) _ _).trans ?_
  refine congrArg (fun z : EReal => z + mine m ex c t h) ?_
  exact Finset.sum_congr rfl fun d _ => by rw [x1_at, sw1_at]

end Cert.KernelIdeal.A2A
-- ==== Proof.FitsRead.lean ====
/- What the condition on the arguments says, element by element. -/
module

public import proofs.«01_k».proof.Proof.MoeOps
public import proofs.«01_k».proof.Pre_fits_KernelIdeal
public import proofs.«01_k».proof.Pre_fits_ReferenceIdeal

@[expose] public section

set_option maxRecDepth 16384

noncomputable section

namespace Cert.Fits

open Idealize.ShloMosaic hiding ix0 ix1 ix2 ix3 ix4
open Idealize.ShloMosaic.ValueIdx Idealize.ShloMosaic.Routing
open Cert.Moe
open scoped BigOperators

theorem kernelFacts : Cert.Pre_fits_KernelIdeal.Facts where
  bcast_S_S2048x512 := by decide
  reducesTo_S2048x512_S_d0_1 := by decide
  h_S_ := by decide
  bcast_S_S512x32 := by decide
  reducesTo_S512x32_S_d0_1 := by decide
  bcast_S_S2048x1 := by decide
  reducesTo_S2048x1_S_d0_1 := by decide
  shapeCasts_S2048x1_S2048 := by decide
  bcast_S2048_S2048x1_0 := by decide
  bcast_S2048x1_S2048x32_0_1 := by decide
  bcast_S1x32_S2048x32_0_1 := by decide
  natLt_1_32 := by decide
  reducesTo_S2048x32_S32_d0 := by decide
  bcast_S_S32 := by decide
  reducesTo_S32_S_d0 := by decide

theorem referenceFacts : Cert.Pre_fits_ReferenceIdeal.Facts where
  bcast_S_S8192x512 := by decide
  reducesTo_S8192x512_S_d0_1 := by decide
  h_S_ := by decide
  bcast_S_S512x32 := by decide
  reducesTo_S512x32_S_d0_1 := by decide
  bcast_S_S8192x1 := by decide
  reducesTo_S8192x1_S_d0_1 := by decide
  shapeCasts_S8192x1_S8192 := by decide
  bcast_S8192_S8192x1_0 := by decide
  bcast_S8192x1_S8192x32_0_1 := by decide
  bcast_S1x32_S8192x32_0_1 := by decide
  natLt_1_32 := by decide
  reducesTo_S8192x32_S32_d0 := by decide
  bcast_S_S32 := by decide
  reducesTo_S32_S_d0 := by decide

instance : Subsingleton Cert.Pre_fits_KernelIdeal.S_.Idx := ⟨fun _ _ => funext fun a => a.elim0⟩

/-- A value whose size is below infinity is a number. -/
theorem fin_of_bit (x : EReal) (h : FloatOps.cmpf (F := Ideal) (φ := .f32) .olt (FloatOps.hostAbsf (F := Ideal) (φ := .f32) x)
    (FloatOps.ofBits (F := Ideal) .f32 0x7F800000#32) = 1#1) : Fin' x := by
  have h' : Ideal.cmp .olt (max x (-x)) (Ideal.ofBits .f32 0x7F800000#32) = 1#1 := h
  rw [bits_inf] at h'
  constructor
  · rintro rfl
    simp [Ideal.cmp] at h'
  · rintro rfl
    simp [Ideal.cmp] at h'

open Cert.Pre_fits_KernelIdeal Cert.Pre_fits_KernelIdeal.Facts

variable [Cert.Pre_fits_KernelIdeal.Facts]

variable (x : FVec Ideal S2048x512 .f32) (w : FVec Ideal S512x32 .f32) (i : IVec S2048x1 32)
  (ew : FVec Ideal S8x512x1024 .f32) (sw : FVec Ideal S512x1024 .f32)

/-- The condition's five parts. -/
theorem parts (h : fn (F := Ideal) x w i ew sw = fun _ => 1#1) :
    (∀ j, cmpf .olt (Host.absf x) (broadcastInDim S2048x512 ![] bcast_S_S2048x512 (constant S_ .f32 0x7F800000#32)) j = 1#1)
    ∧ (∀ j, cmpf .olt (Host.absf w) (broadcastInDim S512x32 ![] bcast_S_S512x32 (constant S_ .f32 0x7F800000#32)) j = 1#1)
    ∧ (∀ j, cmpi .sge i (broadcastInDim S2048x1 ![] bcast_S_S2048x1 (constantI S_ 32 0#32)) j = 1#1)
    ∧ (∀ j, cmpi .slt i (broadcastInDim S2048x1 ![] bcast_S_S2048x1 (constantI S_ 32 32#32)) j = 1#1)
    ∧ (∀ j, cmpi .sle (Host.reduce IntOp.addi (fn_one_hot (F := Ideal) (shapeCast S2048 i shapeCasts_S2048x1_S2048)) (constantI S_ 32 0#32) reducesTo_S2048x32_S32_d0 h_S_)
        (broadcastInDim S32 ![] bcast_S_S32 (constantI S_ 32 160#32)) j = 1#1) := by
  have h0 := congrFun h (ix0 : S_.Idx)
  obtain ⟨h1, e5⟩ := IntOp.andi_eq_one.1 h0
  obtain ⟨h2, e4⟩ := IntOp.andi_eq_one.1 h1
  obtain ⟨h3, e3⟩ := IntOp.andi_eq_one.1 h2
  obtain ⟨e1, e2⟩ := IntOp.andi_eq_one.1 h3
  exact ⟨fun j => Host.reduce_andi_all _ _ _ _ _ e1 j, fun j => Host.reduce_andi_all _ _ _ _ _ e2 j,
    fun j => Host.reduce_andi_all _ _ _ _ _ e3 j, fun j => Host.reduce_andi_all _ _ _ _ _ e4 j, fun j => Host.reduce_andi_all _ _ _ _ _ e5 j⟩

/-- A word in the range of the experts names one. -/
def exOf (u : BitVec 32) : Fin 32 := ⟨u.toNat % 32, Nat.mod_lt _ (by decide)⟩

theorem exOf_word (u : BitVec 32) (h0 : (0 : Int) ≤ u.toInt) (h1 : u.toInt < 32) : u = BitVec.ofNat 32 (exOf u).val := by
  have hn : u.toNat < 32 := by
    rw [BitVec.toInt_eq_toNat_cond] at h0 h1
    split at h0 <;> omega
  refine BitVec.eq_of_toNat_eq ?_
  rw [BitVec.toNat_ofNat]
  show u.toNat = u.toNat % 32 % 2 ^ 32
  omega

theorem fits_read (h : fn (F := Ideal) x w i ew sw = fun _ => 1#1) :
    (∀ j, Fin' (x j)) ∧ (∀ j, Fin' (w j))
    ∧ (∀ t : Fin 2048, i (ix2 t 0) = BitVec.ofNat 32 (exOf (i (ix2 t 0))).val)
    ∧ ∀ e : Fin 32, (Finset.univ.filter fun t : Fin 2048 => exOf (i (ix2 t 0)) = e).card ≤ 160 := by
  obtain ⟨e1, e2, e3, e4, e5⟩ := parts x w i ew sw h
  have hw : ∀ t : Fin 2048, i (ix2 t 0) = BitVec.ofNat 32 (exOf (i (ix2 t 0))).val := by
    intro t
    have a := IntOp.cmpi_sge.1 (e3 (ix2 t 0))
    have b := IntOp.cmpi_slt.1 (e4 (ix2 t 0))
    rw [bc0] at a b
    exact exOf_word _ a b
  refine ⟨fun j => fin_of_bit _ ?_, fun j => fin_of_bit _ ?_, hw, fun e => ?_⟩
  · have := e1 j
    rw [cmpf_apply, bc0] at this
    exact this
  · have := e2 j
    rw [cmpf_apply, bc0] at this
    exact this
  have a := IntOp.cmpi_sle.1 (e5 (ix1 e))
  rw [bc0] at a
  have hc := StableHlo.Predicate.toNat_reduce_count_rows (n := 2048) (m := 32) (by decide)
    (cmpi .eq (broadcastInDim S2048x32 ![0, 1] bcast_S2048x1_S2048x32_0_1 (broadcastInDim S2048x1 ![0] bcast_S2048_S2048x1_0 (shapeCast S2048 i shapeCasts_S2048x1_S2048)))
      (broadcastInDim S2048x32 ![0, 1] bcast_S1x32_S2048x32_0_1 (iotaInDim S1x32 32 1))) natLt_1_32 reducesTo_S2048x32_S32_d0 h_S_ (ix1 e)
  have hm : ∀ t : Fin 2048, (cmpi .eq (broadcastInDim S2048x32 ![0, 1] bcast_S2048x1_S2048x32_0_1 (broadcastInDim S2048x1 ![0] bcast_S2048_S2048x1_0 (shapeCast S2048 i shapeCasts_S2048x1_S2048)))
      (broadcastInDim S2048x32 ![0, 1] bcast_S1x32_S2048x32_0_1 (iotaInDim S1x32 32 1)) (ix2 t e) = 1#1) ↔ exOf (i (ix2 t 0)) = e := by
    intro t
    have b1 : broadcastInDim S2048x32 ![0, 1] bcast_S2048x1_S2048x32_0_1 (broadcastInDim S2048x1 ![0] bcast_S2048_S2048x1_0 (shapeCast S2048 i shapeCasts_S2048x1_S2048)) (ix2 t e) = i (ix2 t 0) :=
      (bcRows _ _ _ t e).trans (cast21 i _ t (0 : Fin 1) t (by simp))
    have b2 : broadcastInDim S2048x32 ![0, 1] bcast_S1x32_S2048x32_0_1 (iotaInDim S1x32 32 1) (ix2 t e) = BitVec.ofNat 32 e.val := by
      refine (broadcastInDim_apply _ _ _ _ (ix2 (0 : Fin 1) e) fun a => ?_).trans rfl
      match a with
      | ⟨0, _⟩ => rfl
      | ⟨1, _⟩ => rfl
    refine IntOp.cmpi_eq.trans ?_
    rw [b1, b2]
    constructor
    · intro q
      rw [hw t] at q
      exact (eq_word _ _).1 q
    · rintro rfl
      exact hw t
  have hc' : ((Host.reduce IntOp.addi (fn_one_hot (F := Ideal) (shapeCast S2048 i shapeCasts_S2048x1_S2048)) (constantI S_ 32 0#32) reducesTo_S2048x32_S32_d0 h_S_) (ix1 e)).toNat
      = (Finset.univ.filter fun t : Fin 2048 => exOf (i (ix2 t 0)) = e).card := by
    refine hc.trans ?_
    refine congrArg Finset.card (Finset.filter_congr fun t _ => ?_)
    refine Iff.trans ?_ (hm t)
    rw [Routing.ij_eq_ix2]
  have hlt : (Finset.univ.filter fun t : Fin 2048 => exOf (i (ix2 t 0)) = e).card ≤ 2048 := (Finset.card_le_univ _).trans (by simp)
  rw [← hc'] at hlt ⊢
  have hb : ((constantI S_ 32 160#32 : IVec S_ 32) Idealize.ShloMosaic.ValueIdx.ix0).toInt = 160 := rfl
  rw [hb, BitVec.toInt_eq_toNat_cond] at a
  split at a <;> omega

end Cert.Fits

end
-- ==== Proof.RefRead.lean ====
/- The reference's result, element by element. -/
module

public import proofs.«01_k».proof.Proof.MoeOps
public import proofs.«01_k».proof.Proof.Gen.ReferenceIdeal.Run
public import Idealize.ShloMosaic.Lib.StackMember

@[expose] public section

set_option maxRecDepth 16384

noncomputable section

namespace Cert.ReferenceIdeal.Read

open Idealize.ShloMosaic hiding ix0 ix1 ix2 ix3 ix4
open Idealize.ShloMosaic.ValueIdx Idealize.ShloMosaic.Routing
open Cert.ReferenceIdeal Cert.ReferenceIdeal.Gen Cert.Moe
open scoped BigOperators

/-! ## The two reads of a table by index -/

/-- An expert's word, read as a place in a table of the experts. -/
theorem word_place (e : Fin 32) : min (BitVec.ofNat 32 e.val).toInt.toNat (32 - 1) = e.val := by revert e; decide

theorem take_at (p : FVec Ideal S8192x32 .f32) (u : IVec S8192x1x1 32) (t : Fin 8192) (e : Fin 32)
    (hu : u (ix3 t 0 0) = BitVec.ofNat 32 e.val) :
    Host.gather gather_S8192x32_S8192x1x1_S8192x1_n_1_0_0_1_2_11 p u (ix2 t 0) = p (ix2 t e) := by
  unfold Host.gather
  refine congrArg p (funext fun a => Fin.ext ?_)
  show GatherDims.start _ _ _ a + GatherDims.batchCoord _ _ a + GatherDims.offCoord _ _ a = _
  match a with
  | ⟨0, _⟩ =>
    have hm : (⟨0, by decide⟩ : Fin S8192x32.rank) ∈ gather_S8192x32_S8192x1x1_S8192x1_n_1_0_0_1_2_11.operandBatchingDims := List.mem_singleton.mpr rfl
    rw [GatherDims.start_batching _ _ _ _ hm,
      GatherDims.offCoord_eq_zero _ _ _ (fun h => ((GatherDims.mem_sKept _ _).mp h).2 hm), Nat.zero_add, Nat.add_zero]
    unfold GatherDims.batchCoord
    rw [dif_pos hm]
    rfl
  | ⟨1, _⟩ =>
    have hm : (⟨1, by decide⟩ : Fin S8192x32.rank) ∈ gather_S8192x32_S8192x1x1_S8192x1_n_1_0_0_1_2_11.startIndexMap := List.mem_singleton.mpr rfl
    have hc : (⟨1, by decide⟩ : Fin S8192x32.rank) ∈ gather_S8192x32_S8192x1x1_S8192x1_n_1_0_0_1_2_11.collapsedSliceDims := List.mem_singleton.mpr rfl
    rw [GatherDims.batchCoord_eq_zero _ _ _ (fun h => GatherDims.sim_disjoint _ _ hm h),
      GatherDims.offCoord_eq_zero _ _ _ (fun h => ((GatherDims.mem_sKept _ _).mp h).1 hc), Nat.add_zero]
    unfold GatherDims.start
    rw [dif_pos hm]
    have hsi : gather_S8192x32_S8192x1x1_S8192x1_n_1_0_0_1_2_11.siIdx (ix2 t (0 : Fin 1)) ⟨_, List.idxOf_lt_length_iff.2 hm⟩ = ix3 t (0 : Fin 1) (0 : Fin 1) := by
      funext b
      refine Fin.ext ?_
      match b with
      | ⟨0, _⟩ => rfl
      | ⟨1, _⟩ => rfl
      | ⟨2, _⟩ => rfl
    rw [hsi, hu]
    exact word_place e

theorem rows_at (w : FVec Ideal S32x512x1024 .f32) (u : IVec S8192x1 32) (t : Fin 8192) (e : Fin 32)
    (hu : u (ix2 t 0) = BitVec.ofNat 32 e.val) (d : Fin 512) (h : Fin 1024) :
    Host.gather gather_S32x512x1024_S8192x1_S8192x512x1024_12_0_n_n_0_1_15121024 w u (ix3 t d h) = w (ix3 e d h) := by
  unfold Host.gather
  refine congrArg w (funext fun a => Fin.ext ?_)
  show GatherDims.start _ _ _ a + GatherDims.batchCoord _ _ a + GatherDims.offCoord _ _ a = _
  rw [GatherDims.batchCoord_eq_zero _ _ _ (fun h => by cases h), Nat.add_zero]
  match a with
  | ⟨0, _⟩ =>
    have hm : (⟨0, by decide⟩ : Fin S32x512x1024.rank) ∈ gather_S32x512x1024_S8192x1_S8192x512x1024_12_0_n_n_0_1_15121024.startIndexMap := List.mem_singleton.mpr rfl
    have hc : (⟨0, by decide⟩ : Fin S32x512x1024.rank) ∈ gather_S32x512x1024_S8192x1_S8192x512x1024_12_0_n_n_0_1_15121024.collapsedSliceDims := List.mem_singleton.mpr rfl
    rw [GatherDims.offCoord_eq_zero _ _ _ (fun h => ((GatherDims.mem_sKept _ _).mp h).1 hc), Nat.add_zero]
    unfold GatherDims.start
    rw [dif_pos hm]
    have hsi : gather_S32x512x1024_S8192x1_S8192x512x1024_12_0_n_n_0_1_15121024.siIdx (ix3 t d h) ⟨_, List.idxOf_lt_length_iff.2 hm⟩ = ix2 t (0 : Fin 1) := by
      funext b
      refine Fin.ext ?_
      match b with
      | ⟨0, _⟩ => rfl
      | ⟨1, _⟩ => rfl
    rw [hsi, hu]
    exact word_place e
  | ⟨1, _⟩ =>
    have hn : (⟨1, by decide⟩ : Fin S32x512x1024.rank) ∉ gather_S32x512x1024_S8192x1_S8192x512x1024_12_0_n_n_0_1_15121024.startIndexMap := fun h => by
      have := List.mem_singleton.mp h; exact absurd (congrArg Fin.val this) (by decide)
    unfold GatherDims.start
    rw [dif_neg hn, Nat.zero_add]
    rfl
  | ⟨2, _⟩ =>
    have hn : (⟨2, by decide⟩ : Fin S32x512x1024.rank) ∉ gather_S32x512x1024_S8192x1_S8192x512x1024_12_0_n_n_0_1_15121024.startIndexMap := fun h => by
      have := List.mem_singleton.mp h; exact absurd (congrArg Fin.val this) (by decide)
    unfold GatherDims.start
    rw [dif_neg hn, Nat.zero_add]
    rfl

/-! ## The product of each token with its own matrix -/

theorem each_at (x : FVec Ideal S8192x512 .f32) (w : FVec Ideal S8192x512x1024 .f32) (t : Fin 8192) (h : Fin 1024) :
    Host.dotGeneral dot_S8192x512_S8192x512x1024_S8192x1024_1_1_n_2_0_0 none x w (ix2 t h) = ∑ d : Fin 512, x (ix2 t d) * w (ix3 t d h) := by
  show FloatOps.dotGeneral _ none _ x w (ix2 t h) = _
  rw [Ideal.dotGeneral_apply,
    ← Equiv.sum_comp (contrEquiv1 dot_S8192x512_S8192x512x1024_S8192x1024_1_1_n_2_0_0 512 rfl rfl).symm]
  refine Finset.sum_congr rfl fun d _ => ?_
  have c := contrEquiv1_symm_val dot_S8192x512_S8192x512x1024_S8192x1024_1_1_n_2_0_0 512 rfl rfl d
  congr 1
  · refine congrArg x (funext fun a => Fin.ext ?_)
    match a with
    | ⟨0, _⟩ => rfl
    | ⟨1, _⟩ => exact c
  · refine congrArg w (funext fun a => Fin.ext ?_)
    match a with
    | ⟨0, _⟩ => rfl
    | ⟨1, _⟩ => exact c
    | ⟨2, _⟩ => rfl

/-! ## The whole -/

/-- A token's scores. -/
def score (x : FVec Ideal S8192x512 .f32) (w : FVec Ideal S512x32 .f32) (t : Fin 8192) (e : Fin 32) : EReal := ∑ d : Fin 512, x (ix2 t d) * w (ix2 d e)

theorem wrap_word {s : Shape} (b0 : S_.BroadcastsInDim s (![] : Fin 0 → Fin s.rank)) (u : IVec s 32) (j : s.Idx) (e : Fin 32)
    (hu : u j = BitVec.ofNat 32 e.val) :
    select (cmpi .slt u (broadcastInDim s ![] b0 (constantI S_ 32 0#32))) (addi u (broadcastInDim s ![] b0 (constantI S_ 32 32#32))) u j
      = BitVec.ofNat 32 e.val := by
  rw [select_apply]
  have : cmpi .slt u (broadcastInDim s ![] b0 (constantI S_ 32 0#32)) j = 0#1 := by
    show IntOp.cmpi .slt (u j) _ = _
    rw [bc0, hu]
    show IntOp.cmpi .slt (BitVec.ofNat 32 e.val) 0#32 = 0#1
    clear hu; revert e; decide
  rw [this]
  exact (select_zero _ _).trans hu

variable (x : FVec Ideal S8192x512 .f32) (w : FVec Ideal S512x32 .f32) (i : IVec S8192x1 32)
  (ew : FVec Ideal S32x512x1024 .f32) (sw : FVec Ideal S512x1024 .f32)

/-- The scores' weights. -/
def refProbs : FVec Ideal S8192x32 .f32 :=
  Host.divf (Host.exp (subf (Host.dotGeneral dot_S8192x512_S512x32_S8192x32_1_0_0_1_n_n none x w) (broadcastInDim S8192x32 ![0, 1] bcast_S8192x1_S8192x32_0_1 (broadcastInDim S8192x1 ![0] bcast_S8192_S8192x1_0 (Host.reduce FloatOps.maximumf (Host.dotGeneral dot_S8192x512_S512x32_S8192x32_1_0_0_1_n_n none x w) (constant S_ .f32 0xFF800000#32) reducesTo_S8192x32_S8192_d1 h_S_))))) (broadcastInDim S8192x32 ![0, 1] bcast_S8192x1_S8192x32_0_1 (broadcastInDim S8192x1 ![0] bcast_S8192_S8192x1_0 (Host.reduceAdd (Host.exp (subf (Host.dotGeneral dot_S8192x512_S512x32_S8192x32_1_0_0_1_n_n none x w) (broadcastInDim S8192x32 ![0, 1] bcast_S8192x1_S8192x32_0_1 (broadcastInDim S8192x1 ![0] bcast_S8192_S8192x1_0 (Host.reduce FloatOps.maximumf (Host.dotGeneral dot_S8192x512_S512x32_S8192x32_1_0_0_1_n_n none x w) (constant S_ .f32 0xFF800000#32) reducesTo_S8192x32_S8192_d1 h_S_))))) (constant S_ .f32 0x00000000#32) reducesTo_S8192x32_S8192_d1 h_S_)))

/-- What the reference leaves. -/
def refOut : FVec Ideal S8192x1024 .f32 :=
  addf (Host.dotGeneral dot_S8192x512_S512x1024_S8192x1024_1_0_0_1_n_n none x sw) (mulf (broadcastInDim S8192x1024 ![0, 1] bcast_S8192x1_S8192x1024_0_1 (Host.gather gather_S8192x32_S8192x1x1_S8192x1_n_1_0_0_1_2_11 (refProbs x w) (shapeCast S8192x1x1 (select (cmpi .slt i (broadcastInDim S8192x1 ![] bcast_S_S8192x1 (constantI S_ 32 0#32))) (addi i (broadcastInDim S8192x1 ![] bcast_S_S8192x1 (constantI S_ 32 32#32))) i) shapeCasts_S8192x1_S8192x1x1))) (Host.dotGeneral dot_S8192x512_S8192x512x1024_S8192x1024_1_1_n_2_0_0 none x (Host.gather gather_S32x512x1024_S8192x1_S8192x512x1024_12_0_n_n_0_1_15121024 ew (broadcastInDim S8192x1 ![0] bcast_S8192_S8192x1_0 (select (cmpi .slt (shapeCast S8192 i shapeCasts_S8192x1_S8192) (broadcastInDim S8192 ![] bcast_S_S8192 (constantI S_ 32 0#32))) (addi (shapeCast S8192 i shapeCasts_S8192x1_S8192) (broadcastInDim S8192 ![] bcast_S_S8192 (constantI S_ 32 32#32))) (shapeCast S8192 i shapeCasts_S8192x1_S8192))))))

theorem refProbs_at (t : Fin 8192) (e : Fin 32) : refProbs x w (ix2 t e) = prob (score x w t) e := by
  have hd : ∀ e, Host.dotGeneral dot_S8192x512_S512x32_S8192x32_1_0_0_1_n_n none x w (ix2 t e) = score x w t e := fun e =>
    StackMember.dotGeneral_plain_apply none x w t e
  refine (softmax_at (n := 8192) (Host.dotGeneral dot_S8192x512_S512x32_S8192x32_1_0_0_1_n_n none x w) reducesTo_S8192x32_S8192_d1 h_S_ bcast_S8192_S8192x1_0 bcast_S8192x1_S8192x32_0_1 _
    (fun t => reduceMax_at _ _ _ t) t e).trans ?_
  exact congrArg (fun f => prob f e) (funext hd)

theorem refOut_at (t : Fin 8192) (e : Fin 32) (hi : i (ix2 t 0) = BitVec.ofNat 32 e.val) (h : Fin 1024) :
    refOut x w i ew sw (ix2 t h)
      = (∑ d : Fin 512, x (ix2 t d) * sw (ix2 d h)) + prob (score x w t) e * ∑ d : Fin 512, x (ix2 t d) * ew (ix3 e d h) := by
  unfold refOut
  rw [addf_apply, mulf_apply]
  refine congrArg₂ (· + ·) (StackMember.dotGeneral_plain_apply none x sw t h) (congrArg₂ (· * ·) ?_ ?_)
  · refine (broadcastInDim_apply _ _ _ _ (ix2 t (0 : Fin 1)) fun a => ?_).trans ?_
    · match a with
      | ⟨0, _⟩ => rfl
      | ⟨1, _⟩ => rfl
    refine (take_at _ _ t e ?_).trans (refProbs_at x w t e)
    refine (shapeCast_apply _ _ (ix3 t (0 : Fin 1) (0 : Fin 1)) (ix2 t (0 : Fin 1)) ?_).trans (wrap_word _ i _ e hi)
    rw [Shape.rowMajor_val_two, Shape.rowMajor_val_three]
    simp
  · refine (each_at x _ t h).trans (Finset.sum_congr rfl fun d _ => congrArg (x (ix2 t d) * ·) (rows_at ew _ t e ?_ d h))
    refine (bcCol _ _ t).trans (wrap_word _ _ _ e ?_)
    exact (cast21 i _ t (0 : Fin 1) t (by simp)).trans hi

end Cert.ReferenceIdeal.Read

end
-- ==== Proof.Match.lean ====
/- Each device's result is its part of the reference's. -/
module

public import proofs.«01_k».proof.Proof.IdealOut
public import proofs.«01_k».proof.Proof.FitsRead
public import proofs.«01_k».proof.Proof.RefRead
public import Idealize.ShloMosaic.Lib.Layout

@[expose] public section

set_option maxRecDepth 16384

noncomputable section

namespace Cert.Match

open Idealize.ShloMosaic hiding ix0 ix1 ix2 ix3 ix4
open Idealize.ShloMosaic.TcCoe
open Idealize.ShloMosaic.ValueIdx Idealize.ShloMosaic.Routing
open Cert.KernelIdeal.A2A Cert.Moe Cert.Fits Cert.ReferenceIdeal.Read
open scoped BigOperators

/-- A device's token, in the whole batch. -/
def tok (c : Fin 4) (t : Fin 2048) : Fin 8192 := ⟨c.val * 2048 + t.val, by omega⟩

/-- A block of a table of tokens, read. -/
theorem part2 {n : ℕ} (c : Fin 4) (v : (⟨2, ![8192, n]⟩ : Shape).Idx → EReal) (h : Layout.Tiles ⟨2, ![2048, n]⟩ ⟨2, ![8192, n]⟩ 0 4) (t : Fin 2048) (d : Fin n) :
    Layout.block ⟨2, ![2048, n]⟩ ⟨2, ![8192, n]⟩ 0 4 c v h (ix2 t d) = v (ix2 (tok c t) d) := by
  refine congrArg v (funext fun b => Fin.ext ?_)
  rw [h.idx_val c (ix2 t d) b]
  match b with
  | ⟨0, _⟩ => rfl
  | ⟨1, _⟩ => rfl

theorem part1 (c : Fin 4) (v : (⟨2, ![8192, 1]⟩ : Shape).Idx → BitVec 32) (h : Layout.Tiles ⟨2, ![2048, 1]⟩ ⟨2, ![8192, 1]⟩ 0 4) (t : Fin 2048) :
    Layout.block ⟨2, ![2048, 1]⟩ ⟨2, ![8192, 1]⟩ 0 4 c v h (ix2 t (0 : Fin 1)) = v (ix2 (tok c t) (0 : Fin 1)) := by
  refine congrArg v (funext fun b => Fin.ext ?_)
  rw [h.idx_val c (ix2 t (0 : Fin 1)) b]
  match b with
  | ⟨0, _⟩ => rfl
  | ⟨1, _⟩ => rfl

/-- A block of the table of experts, read at an expert its device holds. -/
theorem part3 (e : Fin 32) (v : (⟨3, ![32, 512, 1024]⟩ : Shape).Idx → EReal) (h : Layout.Tiles ⟨3, ![8, 512, 1024]⟩ ⟨3, ![32, 512, 1024]⟩ 0 4) (d : Fin 512) (k : Fin 1024) :
    Layout.block ⟨3, ![8, 512, 1024]⟩ ⟨3, ![32, 512, 1024]⟩ 0 4 (pOf e) v h (ix3 (qOf e) d k) = v (ix3 e d k) := by
  refine congrArg v (funext fun b => Fin.ext ?_)
  rw [h.idx_val (pOf e) (ix3 (qOf e) d k) b]
  match b with
  | ⟨0, _⟩ => exact (Nat.div_add_mod' e.val 8)
  | ⟨1, _⟩ => rfl
  | ⟨2, _⟩ => rfl

variable [Cert.Pre_fits_KernelIdeal.Facts]

theorem out_part (m : (ℓ : Loc Cert.KernelIdeal.nD Cert.KernelIdeal.τ Cert.KernelIdeal.sig) → Buf (Elt Ideal) ℓ)
    (x : FVec Ideal ⟨2, ![8192, 512]⟩ .f32) (w : FVec Ideal ⟨2, ![512, 32]⟩ .f32) (i : IVec ⟨2, ![8192, 1]⟩ 32)
    (ew : FVec Ideal ⟨3, ![32, 512, 1024]⟩ .f32) (sw : FVec Ideal ⟨2, ![512, 1024]⟩ .f32)
    (hfits : ∀ c, Cert.Pre_fits_KernelIdeal.fn (F := Ideal) (g0 m c) (g1 m c) (g2 m c) (g3 m c) (g4 m c) = fun _ => 1#1)
    (h0 : ∀ c, g0 m c = Layout.block ⟨2, ![2048, 512]⟩ ⟨2, ![8192, 512]⟩ 0 4 c x)
    (h1 : ∀ c, g1 m c = w)
    (h2 : ∀ c, g2 m c = Layout.block ⟨2, ![2048, 1]⟩ ⟨2, ![8192, 1]⟩ 0 4 c i)
    (h3 : ∀ c, g3 m c = Layout.block ⟨3, ![8, 512, 1024]⟩ ⟨3, ![32, 512, 1024]⟩ 0 4 c ew)
    (h4 : ∀ c, g4 m c = sw) (c : Dev Cert.KernelIdeal.nD) :
    U12 m c Cert.KernelIdeal.main_v41 = Layout.block ⟨2, ![2048, 1024]⟩ ⟨2, ![8192, 1024]⟩ 0 4 c (refOut x w i ew sw) := by
  have hr := fun c => fits_read (g0 m c) (g1 m c) (g2 m c) (g3 m c) (g4 m c) (hfits c)
  let ex : Dev Cert.KernelIdeal.nD → Fin 2048 → Fin 32 := fun c t => exOf (g2 m c (ix2 t 0))
  have hex : ∀ c t, g2 m c (ix2 t 0) = BitVec.ofNat 32 (ex c t).val := fun c => (hr c).2.2.1
  have hfit : ∀ c e, (Finset.univ.filter fun t : Fin 2048 => ex c t = e).card ≤ 160 := fun c => (hr c).2.2.2
  clear_value ex
  have a0 : ∀ t d, g0 m c (ix2 t d) = x (ix2 (tok c t) d) := fun t d => (congrFun (h0 c) _).trans (part2 c x _ t d)
  have key : ∀ (t : Fin 2048) (k : Fin 1024), out1 m c (ix2 t k) = refOut x w i ew sw (ix2 (tok c t) k) := by
    intro t k
    have hi : i (ix2 (tok c t) 0) = BitVec.ofNat 32 (ex c t).val :=
      ((part1 c i _ t).symm.trans (congrFun (h2 c) _).symm).trans (hex c t)
    have hs : ∀ e, hScores (g0 m c) (g1 m c) (ix2 t e) = score x w (tok c t) e := by
      intro e
      refine (hScores_at _ _ t e).trans (Finset.sum_congr rfl fun d _ => ?_)
      rw [a0, h1 c]
    have hw : hW m c (ix1 t) = prob (score x w (tok c t)) (ex c t) := by
      refine (hSel_at (g2 m c) (ex c) (hex c) _ t).trans ((hProbs_at _ t (ex c t)).trans ?_)
      exact congrArg (fun f => prob f (ex c t)) (funext hs)
    have hfin : ∀ e, Fin' (score x w (tok c t) e) := fun e => fin_sum _ _ fun d =>
      fin_mul (a0 t d ▸ (hr c).1 (ix2 t d)) (h1 c ▸ (hr c).2.1 (ix2 d e))
    obtain ⟨p0, p1⟩ := prob_ok _ hfin (ex c t)
    rw [out_val m ex hex hfit c t k, refOut_at x w i ew sw (tok c t) (ex c t) hi k]
    refine congrArg₂ (· + ·) (Finset.sum_congr rfl fun d _ => by rw [a0, h4 c]) ?_
    unfold mine xw
    rw [← scale_sum _ _ p0 p1]
    refine Finset.sum_congr rfl fun d _ => ?_
    rw [a0, hw]
    exact congrArg (x (ix2 (tok c t) d) * prob (score x w (tok c t)) (ex c t) * ·)
      ((congrFun (h3 (pOf (ex c t))) _).trans (part3 (ex c t) ew _ d k))
  funext j
  obtain ⟨t, k, rfl⟩ : ∃ (t : Fin 2048) (k : Fin 1024), j = ix2 t k := ⟨j 0, j 1, ValueIdx.eq_ix2 j⟩
  refine (U12_v41 m c _).trans ((key t k).trans ?_)
  exact (part2 c (refOut x w i ew sw) _ t k).symm

end Cert.Match

end
-- ==== Proof.lean ====
/- The claims, from the run of the whole program in each reading of its arithmetic. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Whole
public import proofs.«01_k».proof.Proof.IdealWhole
public import proofs.«01_k».proof.Proof.Gen.ReferenceIdeal.Run
public import proofs.«01_k».proof.Proof.Match
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem frame_Kernel [Cert.Kernel.Facts] : quiescent_Kernel := by
  intro m g _
  refine (θ_run _ _ _).mono (fun r h => ?_) (Cert.Kernel.A2A.run_main (F := Bits) m g)
  obtain ⟨hm, hs⟩ := h
  refine ⟨fun c => ?_, hs⟩
  have hr (r : Ref Cert.Kernel.sig .tc) (h : r.isScoped = false) : Proc.devRef (τ := Cert.Kernel.τ) .tc r ∈ Pipeline.ucRefs Cert.Kernel.τ Cert.Kernel.sig :=
    Finset.mem_filter.mpr ⟨StableHlo.devRef_mem_tcRefs r, by simpa using h⟩
  obtain ⟨h0, h1, h2, h3, h4⟩ := Cert.Kernel.A2A.arg_same m c
  exact ⟨(hm c _ (hr _ rfl)).trans h0, (hm c _ (hr _ rfl)).trans h1, (hm c _ (hr _ rfl)).trans h2, (hm c _ (hr _ rfl)).trans h3, (hm c _ (hr _ rfl)).trans h4⟩

theorem frame_KernelIdeal [Cert.KernelIdeal.Facts] : quiescent_KernelIdeal := by
  intro m g _
  refine (θ_run _ _ _).mono (fun r h => ?_) (Cert.KernelIdeal.A2A.run_main (F := Ideal) m g)
  obtain ⟨hm, hs⟩ := h
  refine ⟨fun c => ?_, hs⟩
  have hr (r : Ref Cert.KernelIdeal.sig .tc) (h : r.isScoped = false) : Proc.devRef (τ := Cert.KernelIdeal.τ) .tc r ∈ Pipeline.ucRefs Cert.KernelIdeal.τ Cert.KernelIdeal.sig :=
    Finset.mem_filter.mpr ⟨StableHlo.devRef_mem_tcRefs r, by simpa using h⟩
  obtain ⟨h0, h1, h2, h3, h4⟩ := Cert.KernelIdeal.A2A.arg_same m c
  exact ⟨(hm c _ (hr _ rfl)).trans h0, (hm c _ (hr _ rfl)).trans h1, (hm c _ (hr _ rfl)).trans h2, (hm c _ (hr _ rfl)).trans h3, (hm c _ (hr _ rfl)).trans h4⟩

/-- The reference names no semaphore, so none can be left raised. -/
theorem frame_ReferenceIdeal : quiescent_ReferenceIdeal (hReferenceIdeal := Cert.ReferenceIdeal.Gen.facts) := by
  intro m g _
  refine (θ_run _ _ _).mono (fun r h => ⟨fun c => (h c).2, ?_⟩) (Cert.ReferenceIdeal.Value.run (F := Ideal) m g)
  exact sem_eq_zero_of_no_sems rfl _

theorem value [Cert.Pre_fits_KernelIdeal.Facts] :
    algebraic_KernelIdeal_ReferenceIdeal_pre_fits_KernelIdeal (hKernelIdeal := Cert.KernelIdeal.Gen.facts) (hReferenceIdeal := Cert.ReferenceIdeal.Gen.facts) := by
  intro m g m' g' hpre harg
  have hout := Cert.Match.out_part m _ _ _ _ _ hpre (fun c => (harg c).1) (fun c => (harg c).2.1) (fun c => (harg c).2.2.1)
    (fun c => (harg c).2.2.2.1) (fun c => (harg c).2.2.2.2)
  refine ⟨Cert.ReferenceIdeal.Read.refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  rotate_left
  · exact (θ_run _ _ _).mono (fun r h => h 0) (Cert.ReferenceIdeal.Value.run (F := Ideal) m' g')
  · refine (θ_run _ _ _).mono (fun r h => ?_) (Cert.KernelIdeal.A2A.run_main (F := Ideal) m g)
    obtain ⟨hm, -⟩ := h
    intro c
    have hr (r : Ref Cert.KernelIdeal.sig .tc) (h : r.isScoped = false) : Proc.devRef (τ := Cert.KernelIdeal.τ) .tc r ∈ Pipeline.ucRefs Cert.KernelIdeal.τ Cert.KernelIdeal.sig :=
      Finset.mem_filter.mpr ⟨StableHlo.devRef_mem_tcRefs r, by simpa using h⟩
    obtain ⟨h0, h1, h2, h3, h4⟩ := Cert.KernelIdeal.A2A.arg_same m c
    exact ⟨(hm c _ (hr _ rfl)).trans (hout c), (hm c _ (hr _ rfl)).trans h0, (hm c _ (hr _ rfl)).trans h1, (hm c _ (hr _ rfl)).trans h2,
      (hm c _ (hr _ rfl)).trans h3, (hm c _ (hr _ rfl)).trans h4⟩

theorem claim : Cert.Claim :=
  ⟨Cert.Kernel.Gen.facts, Cert.KernelIdeal.Gen.facts, Cert.ReferenceIdeal.Gen.facts, Cert.Fits.kernelFacts, Cert.Fits.referenceFacts,
    frame_Kernel, frame_KernelIdeal, fun m g _ => frame_KernelIdeal m g trivial, frame_ReferenceIdeal, fun m g _ => frame_ReferenceIdeal m g trivial,
    trivial, @value Cert.Fits.kernelFacts⟩

end Cert.Proof

end
